-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutStage (m : (ℓ : Loc Cert.OutStage.nD Cert.OutStage.τ Cert.OutStage.sig) → Buf (Elt Bits) ℓ) : Prop :=
  True

def Pre_OutStageIdeal (m : (ℓ : Loc Cert.OutStageIdeal.nD Cert.OutStageIdeal.τ Cert.OutStageIdeal.sig) → Buf (Elt Ideal) ℓ) : Prop :=
  True

def Pre_OutStageRefIdeal (m : (ℓ : Loc Cert.OutStageRefIdeal.nD Cert.OutStageRefIdeal.τ Cert.OutStageRefIdeal.sig) → Buf (Elt Ideal) ℓ) : Prop :=
  True

def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def Pre_RglruRefIdeal (m : (ℓ : Loc Cert.RglruRefIdeal.nD Cert.RglruRefIdeal.τ Cert.RglruRefIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleRefIdeal (m : (ℓ : Loc Cert.OutSampleRefIdeal.nD Cert.OutSampleRefIdeal.τ Cert.OutSampleRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutStage [hOutStage : Cert.OutStage.Facts] : Prop :=
  ∀ (m : (ℓ : Loc Cert.OutStage.nD Cert.OutStage.τ Cert.OutStage.sig) → Buf (Elt Bits) ℓ) (g : Dev Cert.OutStage.nD → PrngReg), Pre_OutStage m →
    θ_run (Cert.OutStage.defs (F := Bits)) (onTc (τ := Cert.OutStage.τ) (Cert.OutStage.main (F := Bits))) ⟨m, fun _ => 0, g⟩ (fun r => (∀ c : Dev Cert.OutStage.nD,
      r.2.mem ((c.tc : Thread Cert.OutStage.nD Cert.OutStage.τ).loc Cert.OutStage.main_arg0) = m ((c.tc : Thread Cert.OutStage.nD Cert.OutStage.τ).loc Cert.OutStage.main_arg0)
      ∧ r.2.mem ((c.tc : Thread Cert.OutStage.nD Cert.OutStage.τ).loc Cert.OutStage.main_arg1) = m ((c.tc : Thread Cert.OutStage.nD Cert.OutStage.τ).loc Cert.OutStage.main_arg1)
      ∧ r.2.mem ((c.tc : Thread Cert.OutStage.nD Cert.OutStage.τ).loc Cert.OutStage.main_arg2) = m ((c.tc : Thread Cert.OutStage.nD Cert.OutStage.τ).loc Cert.OutStage.main_arg2)
      ∧ r.2.mem ((c.tc : Thread Cert.OutStage.nD Cert.OutStage.τ).loc Cert.OutStage.main_arg3) = m ((c.tc : Thread Cert.OutStage.nD Cert.OutStage.τ).loc Cert.OutStage.main_arg3)
      ∧ r.2.mem ((c.tc : Thread Cert.OutStage.nD Cert.OutStage.τ).loc Cert.OutStage.main_arg4) = m ((c.tc : Thread Cert.OutStage.nD Cert.OutStage.τ).loc Cert.OutStage.main_arg4)
      ∧ r.2.mem ((c.tc : Thread Cert.OutStage.nD Cert.OutStage.τ).loc Cert.OutStage.main_arg5) = m ((c.tc : Thread Cert.OutStage.nD Cert.OutStage.τ).loc Cert.OutStage.main_arg5)
      ∧ r.2.mem ((c.tc : Thread Cert.OutStage.nD Cert.OutStage.τ).loc Cert.OutStage.main_arg6) = m ((c.tc : Thread Cert.OutStage.nD Cert.OutStage.τ).loc Cert.OutStage.main_arg6)
      ∧ r.2.mem ((c.tc : Thread Cert.OutStage.nD Cert.OutStage.τ).loc Cert.OutStage.main_arg7) = m ((c.tc : Thread Cert.OutStage.nD Cert.OutStage.τ).loc Cert.OutStage.main_arg7))
      ∧ r.2.sem = fun _ => 0)

def quiescent_OutStageIdeal [hOutStageIdeal : Cert.OutStageIdeal.Facts] : Prop :=
  ∀ (m : (ℓ : Loc Cert.OutStageIdeal.nD Cert.OutStageIdeal.τ Cert.OutStageIdeal.sig) → Buf (Elt Ideal) ℓ) (g : Dev Cert.OutStageIdeal.nD → PrngReg), Pre_OutStageIdeal m →
    θ_run (Cert.OutStageIdeal.defs (F := Ideal)) (onTc (τ := Cert.OutStageIdeal.τ) (Cert.OutStageIdeal.main (F := Ideal))) ⟨m, fun _ => 0, g⟩ (fun r => (∀ c : Dev Cert.OutStageIdeal.nD,
      r.2.mem ((c.tc : Thread Cert.OutStageIdeal.nD Cert.OutStageIdeal.τ).loc Cert.OutStageIdeal.main_arg0) = m ((c.tc : Thread Cert.OutStageIdeal.nD Cert.OutStageIdeal.τ).loc Cert.OutStageIdeal.main_arg0)
      ∧ r.2.mem ((c.tc : Thread Cert.OutStageIdeal.nD Cert.OutStageIdeal.τ).loc Cert.OutStageIdeal.main_arg1) = m ((c.tc : Thread Cert.OutStageIdeal.nD Cert.OutStageIdeal.τ).loc Cert.OutStageIdeal.main_arg1)
      ∧ r.2.mem ((c.tc : Thread Cert.OutStageIdeal.nD Cert.OutStageIdeal.τ).loc Cert.OutStageIdeal.main_arg2) = m ((c.tc : Thread Cert.OutStageIdeal.nD Cert.OutStageIdeal.τ).loc Cert.OutStageIdeal.main_arg2)
      ∧ r.2.mem ((c.tc : Thread Cert.OutStageIdeal.nD Cert.OutStageIdeal.τ).loc Cert.OutStageIdeal.main_arg3) = m ((c.tc : Thread Cert.OutStageIdeal.nD Cert.OutStageIdeal.τ).loc Cert.OutStageIdeal.main_arg3)
      ∧ r.2.mem ((c.tc : Thread Cert.OutStageIdeal.nD Cert.OutStageIdeal.τ).loc Cert.OutStageIdeal.main_arg4) = m ((c.tc : Thread Cert.OutStageIdeal.nD Cert.OutStageIdeal.τ).loc Cert.OutStageIdeal.main_arg4)
      ∧ r.2.mem ((c.tc : Thread Cert.OutStageIdeal.nD Cert.OutStageIdeal.τ).loc Cert.OutStageIdeal.main_arg5) = m ((c.tc : Thread Cert.OutStageIdeal.nD Cert.OutStageIdeal.τ).loc Cert.OutStageIdeal.main_arg5)
      ∧ r.2.mem ((c.tc : Thread Cert.OutStageIdeal.nD Cert.OutStageIdeal.τ).loc Cert.OutStageIdeal.main_arg6) = m ((c.tc : Thread Cert.OutStageIdeal.nD Cert.OutStageIdeal.τ).loc Cert.OutStageIdeal.main_arg6)
      ∧ r.2.mem ((c.tc : Thread Cert.OutStageIdeal.nD Cert.OutStageIdeal.τ).loc Cert.OutStageIdeal.main_arg7) = m ((c.tc : Thread Cert.OutStageIdeal.nD Cert.OutStageIdeal.τ).loc Cert.OutStageIdeal.main_arg7))
      ∧ r.2.sem = fun _ => 0)

def quiescent_OutStageRefIdeal [hOutStageRefIdeal : Cert.OutStageRefIdeal.Facts] : Prop :=
  ∀ (m : (ℓ : Loc Cert.OutStageRefIdeal.nD Cert.OutStageRefIdeal.τ Cert.OutStageRefIdeal.sig) → Buf (Elt Ideal) ℓ) (g : Dev Cert.OutStageRefIdeal.nD → PrngReg), Pre_OutStageRefIdeal m →
    θ_run (Cert.OutStageRefIdeal.defs (F := Ideal)) (onTc (τ := Cert.OutStageRefIdeal.τ) (Cert.OutStageRefIdeal.main (F := Ideal))) ⟨m, fun _ => 0, g⟩ (fun r => (∀ c : Dev Cert.OutStageRefIdeal.nD,
      r.2.mem ((c.tc : Thread Cert.OutStageRefIdeal.nD Cert.OutStageRefIdeal.τ).loc Cert.OutStageRefIdeal.main_arg0) = m ((c.tc : Thread Cert.OutStageRefIdeal.nD Cert.OutStageRefIdeal.τ).loc Cert.OutStageRefIdeal.main_arg0)
      ∧ r.2.mem ((c.tc : Thread Cert.OutStageRefIdeal.nD Cert.OutStageRefIdeal.τ).loc Cert.OutStageRefIdeal.main_arg1) = m ((c.tc : Thread Cert.OutStageRefIdeal.nD Cert.OutStageRefIdeal.τ).loc Cert.OutStageRefIdeal.main_arg1)
      ∧ r.2.mem ((c.tc : Thread Cert.OutStageRefIdeal.nD Cert.OutStageRefIdeal.τ).loc Cert.OutStageRefIdeal.main_arg2) = m ((c.tc : Thread Cert.OutStageRefIdeal.nD Cert.OutStageRefIdeal.τ).loc Cert.OutStageRefIdeal.main_arg2)
      ∧ r.2.mem ((c.tc : Thread Cert.OutStageRefIdeal.nD Cert.OutStageRefIdeal.τ).loc Cert.OutStageRefIdeal.main_arg3) = m ((c.tc : Thread Cert.OutStageRefIdeal.nD Cert.OutStageRefIdeal.τ).loc Cert.OutStageRefIdeal.main_arg3)
      ∧ r.2.mem ((c.tc : Thread Cert.OutStageRefIdeal.nD Cert.OutStageRefIdeal.τ).loc Cert.OutStageRefIdeal.main_arg4) = m ((c.tc : Thread Cert.OutStageRefIdeal.nD Cert.OutStageRefIdeal.τ).loc Cert.OutStageRefIdeal.main_arg4)
      ∧ r.2.mem ((c.tc : Thread Cert.OutStageRefIdeal.nD Cert.OutStageRefIdeal.τ).loc Cert.OutStageRefIdeal.main_arg5) = m ((c.tc : Thread Cert.OutStageRefIdeal.nD Cert.OutStageRefIdeal.τ).loc Cert.OutStageRefIdeal.main_arg5)
      ∧ r.2.mem ((c.tc : Thread Cert.OutStageRefIdeal.nD Cert.OutStageRefIdeal.τ).loc Cert.OutStageRefIdeal.main_arg6) = m ((c.tc : Thread Cert.OutStageRefIdeal.nD Cert.OutStageRefIdeal.τ).loc Cert.OutStageRefIdeal.main_arg6)
      ∧ r.2.mem ((c.tc : Thread Cert.OutStageRefIdeal.nD Cert.OutStageRefIdeal.τ).loc Cert.OutStageRefIdeal.main_arg7) = m ((c.tc : Thread Cert.OutStageRefIdeal.nD Cert.OutStageRefIdeal.τ).loc Cert.OutStageRefIdeal.main_arg7))
      ∧ r.2.sem = fun _ => 0)

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7)
      ∧ r.2.mem ((c.tc : Thread Cert.Rglru.nD Cert.Rglru.τ).loc Cert.Rglru.main_arg8) = m ((c.tc : Thread Cert.Rglru.nD Cert.Rglru.τ).loc Cert.Rglru.main_arg8)
      ∧ r.2.mem ((c.tc : Thread Cert.Rglru.nD Cert.Rglru.τ).loc Cert.Rglru.main_arg9) = m ((c.tc : Thread Cert.Rglru.nD Cert.Rglru.τ).loc Cert.Rglru.main_arg9))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7)
      ∧ r.2.mem ((c.tc : Thread Cert.RglruIdeal.nD Cert.RglruIdeal.τ).loc Cert.RglruIdeal.main_arg8) = m ((c.tc : Thread Cert.RglruIdeal.nD Cert.RglruIdeal.τ).loc Cert.RglruIdeal.main_arg8)
      ∧ r.2.mem ((c.tc : Thread Cert.RglruIdeal.nD Cert.RglruIdeal.τ).loc Cert.RglruIdeal.main_arg9) = m ((c.tc : Thread Cert.RglruIdeal.nD Cert.RglruIdeal.τ).loc Cert.RglruIdeal.main_arg9))
      ∧ r.2.sem = fun _ => 0)

def quiescent_RglruRefIdeal [hRglruRefIdeal : Cert.RglruRefIdeal.Facts] : Prop :=
  ∀ (m : (ℓ : Loc Cert.RglruRefIdeal.nD Cert.RglruRefIdeal.τ Cert.RglruRefIdeal.sig) → Buf (Elt Ideal) ℓ) (g : Dev Cert.RglruRefIdeal.nD → PrngReg), Pre_RglruRefIdeal m →
    θ_run (Cert.RglruRefIdeal.defs (F := Ideal)) (onTc (τ := Cert.RglruRefIdeal.τ) (Cert.RglruRefIdeal.main (F := Ideal))) ⟨m, fun _ => 0, g⟩ (fun r => (∀ c : Dev Cert.RglruRefIdeal.nD,
      r.2.mem ((c.tc : Thread Cert.RglruRefIdeal.nD Cert.RglruRefIdeal.τ).loc Cert.RglruRefIdeal.main_arg0) = m ((c.tc : Thread Cert.RglruRefIdeal.nD Cert.RglruRefIdeal.τ).loc Cert.RglruRefIdeal.main_arg0)
      ∧ r.2.mem ((c.tc : Thread Cert.RglruRefIdeal.nD Cert.RglruRefIdeal.τ).loc Cert.RglruRefIdeal.main_arg1) = m ((c.tc : Thread Cert.RglruRefIdeal.nD Cert.RglruRefIdeal.τ).loc Cert.RglruRefIdeal.main_arg1)
      ∧ r.2.mem ((c.tc : Thread Cert.RglruRefIdeal.nD Cert.RglruRefIdeal.τ).loc Cert.RglruRefIdeal.main_arg2) = m ((c.tc : Thread Cert.RglruRefIdeal.nD Cert.RglruRefIdeal.τ).loc Cert.RglruRefIdeal.main_arg2)
      ∧ r.2.mem ((c.tc : Thread Cert.RglruRefIdeal.nD Cert.RglruRefIdeal.τ).loc Cert.RglruRefIdeal.main_arg3) = m ((c.tc : Thread Cert.RglruRefIdeal.nD Cert.RglruRefIdeal.τ).loc Cert.RglruRefIdeal.main_arg3)
      ∧ r.2.mem ((c.tc : Thread Cert.RglruRefIdeal.nD Cert.RglruRefIdeal.τ).loc Cert.RglruRefIdeal.main_arg4) = m ((c.tc : Thread Cert.RglruRefIdeal.nD Cert.RglruRefIdeal.τ).loc Cert.RglruRefIdeal.main_arg4)
      ∧ r.2.mem ((c.tc : Thread Cert.RglruRefIdeal.nD Cert.RglruRefIdeal.τ).loc Cert.RglruRefIdeal.main_arg5) = m ((c.tc : Thread Cert.RglruRefIdeal.nD Cert.RglruRefIdeal.τ).loc Cert.RglruRefIdeal.main_arg5)
      ∧ r.2.mem ((c.tc : Thread Cert.RglruRefIdeal.nD Cert.RglruRefIdeal.τ).loc Cert.RglruRefIdeal.main_arg6) = m ((c.tc : Thread Cert.RglruRefIdeal.nD Cert.RglruRefIdeal.τ).loc Cert.RglruRefIdeal.main_arg6)
      ∧ r.2.mem ((c.tc : Thread Cert.RglruRefIdeal.nD Cert.RglruRefIdeal.τ).loc Cert.RglruRefIdeal.main_arg7) = m ((c.tc : Thread Cert.RglruRefIdeal.nD Cert.RglruRefIdeal.τ).loc Cert.RglruRefIdeal.main_arg7)
      ∧ r.2.mem ((c.tc : Thread Cert.RglruRefIdeal.nD Cert.RglruRefIdeal.τ).loc Cert.RglruRefIdeal.main_arg8) = m ((c.tc : Thread Cert.RglruRefIdeal.nD Cert.RglruRefIdeal.τ).loc Cert.RglruRefIdeal.main_arg8)
      ∧ r.2.mem ((c.tc : Thread Cert.RglruRefIdeal.nD Cert.RglruRefIdeal.τ).loc Cert.RglruRefIdeal.main_arg9) = m ((c.tc : Thread Cert.RglruRefIdeal.nD Cert.RglruRefIdeal.τ).loc Cert.RglruRefIdeal.main_arg9))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3)
      ∧ r.2.mem ((c.tc : Thread Cert.OutSample.nD Cert.OutSample.τ).loc Cert.OutSample.main_arg4) = m ((c.tc : Thread Cert.OutSample.nD Cert.OutSample.τ).loc Cert.OutSample.main_arg4)
      ∧ r.2.mem ((c.tc : Thread Cert.OutSample.nD Cert.OutSample.τ).loc Cert.OutSample.main_arg5) = m ((c.tc : Thread Cert.OutSample.nD Cert.OutSample.τ).loc Cert.OutSample.main_arg5)
      ∧ r.2.mem ((c.tc : Thread Cert.OutSample.nD Cert.OutSample.τ).loc Cert.OutSample.main_arg6) = m ((c.tc : Thread Cert.OutSample.nD Cert.OutSample.τ).loc Cert.OutSample.main_arg6)
      ∧ r.2.mem ((c.tc : Thread Cert.OutSample.nD Cert.OutSample.τ).loc Cert.OutSample.main_arg7) = m ((c.tc : Thread Cert.OutSample.nD Cert.OutSample.τ).loc Cert.OutSample.main_arg7))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
      ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4)
      ∧ r.2.mem ((c.tc : Thread Cert.OutSampleIdeal.nD Cert.OutSampleIdeal.τ).loc Cert.OutSampleIdeal.main_arg5) = m ((c.tc : Thread Cert.OutSampleIdeal.nD Cert.OutSampleIdeal.τ).loc Cert.OutSampleIdeal.main_arg5)
      ∧ r.2.mem ((c.tc : Thread Cert.OutSampleIdeal.nD Cert.OutSampleIdeal.τ).loc Cert.OutSampleIdeal.main_arg6) = m ((c.tc : Thread Cert.OutSampleIdeal.nD Cert.OutSampleIdeal.τ).loc Cert.OutSampleIdeal.main_arg6)
      ∧ r.2.mem ((c.tc : Thread Cert.OutSampleIdeal.nD Cert.OutSampleIdeal.τ).loc Cert.OutSampleIdeal.main_arg7) = m ((c.tc : Thread Cert.OutSampleIdeal.nD Cert.OutSampleIdeal.τ).loc Cert.OutSampleIdeal.main_arg7))
      ∧ r.2.sem = fun _ => 0)

def quiescent_OutSampleRefIdeal [hOutSampleRefIdeal : Cert.OutSampleRefIdeal.Facts] : Prop :=
  ∀ (m : (ℓ : Loc Cert.OutSampleRefIdeal.nD Cert.OutSampleRefIdeal.τ Cert.OutSampleRefIdeal.sig) → Buf (Elt Ideal) ℓ) (g : Dev Cert.OutSampleRefIdeal.nD → PrngReg), Pre_OutSampleRefIdeal m →
    θ_run (Cert.OutSampleRefIdeal.defs (F := Ideal)) (onTc (τ := Cert.OutSampleRefIdeal.τ) (Cert.OutSampleRefIdeal.main (F := Ideal))) ⟨m, fun _ => 0, g⟩ (fun r => (∀ c : Dev Cert.OutSampleRefIdeal.nD,
      r.2.mem ((c.tc : Thread Cert.OutSampleRefIdeal.nD Cert.OutSampleRefIdeal.τ).loc Cert.OutSampleRefIdeal.main_arg0) = m ((c.tc : Thread Cert.OutSampleRefIdeal.nD Cert.OutSampleRefIdeal.τ).loc Cert.OutSampleRefIdeal.main_arg0)
      ∧ r.2.mem ((c.tc : Thread Cert.OutSampleRefIdeal.nD Cert.OutSampleRefIdeal.τ).loc Cert.OutSampleRefIdeal.main_arg1) = m ((c.tc : Thread Cert.OutSampleRefIdeal.nD Cert.OutSampleRefIdeal.τ).loc Cert.OutSampleRefIdeal.main_arg1)
      ∧ r.2.mem ((c.tc : Thread Cert.OutSampleRefIdeal.nD Cert.OutSampleRefIdeal.τ).loc Cert.OutSampleRefIdeal.main_arg2) = m ((c.tc : Thread Cert.OutSampleRefIdeal.nD Cert.OutSampleRefIdeal.τ).loc Cert.OutSampleRefIdeal.main_arg2)
      ∧ r.2.mem ((c.tc : Thread Cert.OutSampleRefIdeal.nD Cert.OutSampleRefIdeal.τ).loc Cert.OutSampleRefIdeal.main_arg3) = m ((c.tc : Thread Cert.OutSampleRefIdeal.nD Cert.OutSampleRefIdeal.τ).loc Cert.OutSampleRefIdeal.main_arg3)
      ∧ r.2.mem ((c.tc : Thread Cert.OutSampleRefIdeal.nD Cert.OutSampleRefIdeal.τ).loc Cert.OutSampleRefIdeal.main_arg4) = m ((c.tc : Thread Cert.OutSampleRefIdeal.nD Cert.OutSampleRefIdeal.τ).loc Cert.OutSampleRefIdeal.main_arg4)
      ∧ r.2.mem ((c.tc : Thread Cert.OutSampleRefIdeal.nD Cert.OutSampleRefIdeal.τ).loc Cert.OutSampleRefIdeal.main_arg5) = m ((c.tc : Thread Cert.OutSampleRefIdeal.nD Cert.OutSampleRefIdeal.τ).loc Cert.OutSampleRefIdeal.main_arg5)
      ∧ r.2.mem ((c.tc : Thread Cert.OutSampleRefIdeal.nD Cert.OutSampleRefIdeal.τ).loc Cert.OutSampleRefIdeal.main_arg6) = m ((c.tc : Thread Cert.OutSampleRefIdeal.nD Cert.OutSampleRefIdeal.τ).loc Cert.OutSampleRefIdeal.main_arg6)
      ∧ r.2.mem ((c.tc : Thread Cert.OutSampleRefIdeal.nD Cert.OutSampleRefIdeal.τ).loc Cert.OutSampleRefIdeal.main_arg7) = m ((c.tc : Thread Cert.OutSampleRefIdeal.nD Cert.OutSampleRefIdeal.τ).loc Cert.OutSampleRefIdeal.main_arg7))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutStage_OutStageIdeal : Prop :=
  True

def algebraic_OutStageIdeal_OutStageRefIdeal [hOutStageIdeal : Cert.OutStageIdeal.Facts] [hOutStageRefIdeal : Cert.OutStageRefIdeal.Facts] : Prop :=
  ∀ (m : (ℓ : Loc Cert.OutStageIdeal.nD Cert.OutStageIdeal.τ Cert.OutStageIdeal.sig) → Buf (Elt Ideal) ℓ) (g : Dev Cert.OutStageIdeal.nD → PrngReg)
    (m' : (ℓ : Loc Cert.OutStageRefIdeal.nD Cert.OutStageRefIdeal.τ Cert.OutStageRefIdeal.sig) → Buf (Elt Ideal) ℓ) (g' : Dev Cert.OutStageRefIdeal.nD → PrngReg), Pre_OutStageIdeal m →
    (∀ c : Dev Cert.OutStageIdeal.nD,
      m' ((c.tc : Thread Cert.OutStageRefIdeal.nD Cert.OutStageRefIdeal.τ).loc Cert.OutStageRefIdeal.main_arg0) = m ((c.tc : Thread Cert.OutStageIdeal.nD Cert.OutStageIdeal.τ).loc Cert.OutStageIdeal.main_arg0)
      ∧ m' ((c.tc : Thread Cert.OutStageRefIdeal.nD Cert.OutStageRefIdeal.τ).loc Cert.OutStageRefIdeal.main_arg1) = m ((c.tc : Thread Cert.OutStageIdeal.nD Cert.OutStageIdeal.τ).loc Cert.OutStageIdeal.main_arg1)
      ∧ m' ((c.tc : Thread Cert.OutStageRefIdeal.nD Cert.OutStageRefIdeal.τ).loc Cert.OutStageRefIdeal.main_arg2) = m ((c.tc : Thread Cert.OutStageIdeal.nD Cert.OutStageIdeal.τ).loc Cert.OutStageIdeal.main_arg2)
      ∧ m' ((c.tc : Thread Cert.OutStageRefIdeal.nD Cert.OutStageRefIdeal.τ).loc Cert.OutStageRefIdeal.main_arg3) = m ((c.tc : Thread Cert.OutStageIdeal.nD Cert.OutStageIdeal.τ).loc Cert.OutStageIdeal.main_arg3)
      ∧ m' ((c.tc : Thread Cert.OutStageRefIdeal.nD Cert.OutStageRefIdeal.τ).loc Cert.OutStageRefIdeal.main_arg4) = m ((c.tc : Thread Cert.OutStageIdeal.nD Cert.OutStageIdeal.τ).loc Cert.OutStageIdeal.main_arg4)
      ∧ m' ((c.tc : Thread Cert.OutStageRefIdeal.nD Cert.OutStageRefIdeal.τ).loc Cert.OutStageRefIdeal.main_arg5) = m ((c.tc : Thread Cert.OutStageIdeal.nD Cert.OutStageIdeal.τ).loc Cert.OutStageIdeal.main_arg5)
      ∧ m' ((c.tc : Thread Cert.OutStageRefIdeal.nD Cert.OutStageRefIdeal.τ).loc Cert.OutStageRefIdeal.main_arg6) = m ((c.tc : Thread Cert.OutStageIdeal.nD Cert.OutStageIdeal.τ).loc Cert.OutStageIdeal.main_arg6)
      ∧ m' ((c.tc : Thread Cert.OutStageRefIdeal.nD Cert.OutStageRefIdeal.τ).loc Cert.OutStageRefIdeal.main_arg7) = m ((c.tc : Thread Cert.OutStageIdeal.nD Cert.OutStageIdeal.τ).loc Cert.OutStageIdeal.main_arg7)) →
    ∃ (v0 : (c : Dev Cert.OutStageIdeal.nD) → Buf (Elt Ideal) ((c.tc : Thread Cert.OutStageIdeal.nD Cert.OutStageIdeal.τ).loc Cert.OutStageIdeal.main_v5)),
      θ_run (Cert.OutStageIdeal.defs (F := Ideal)) (onTc (τ := Cert.OutStageIdeal.τ) (Cert.OutStageIdeal.main (F := Ideal))) ⟨m, fun _ => 0, g⟩ (fun r => ∀ c : Dev Cert.OutStageIdeal.nD,
          r.2.mem ((c.tc : Thread Cert.OutStageIdeal.nD Cert.OutStageIdeal.τ).loc Cert.OutStageIdeal.main_v5) = v0 c
          ∧ r.2.mem ((c.tc : Thread Cert.OutStageIdeal.nD Cert.OutStageIdeal.τ).loc Cert.OutStageIdeal.main_arg0) = m ((c.tc : Thread Cert.OutStageIdeal.nD Cert.OutStageIdeal.τ).loc Cert.OutStageIdeal.main_arg0)
          ∧ r.2.mem ((c.tc : Thread Cert.OutStageIdeal.nD Cert.OutStageIdeal.τ).loc Cert.OutStageIdeal.main_arg1) = m ((c.tc : Thread Cert.OutStageIdeal.nD Cert.OutStageIdeal.τ).loc Cert.OutStageIdeal.main_arg1)
          ∧ r.2.mem ((c.tc : Thread Cert.OutStageIdeal.nD Cert.OutStageIdeal.τ).loc Cert.OutStageIdeal.main_arg2) = m ((c.tc : Thread Cert.OutStageIdeal.nD Cert.OutStageIdeal.τ).loc Cert.OutStageIdeal.main_arg2)
          ∧ r.2.mem ((c.tc : Thread Cert.OutStageIdeal.nD Cert.OutStageIdeal.τ).loc Cert.OutStageIdeal.main_arg3) = m ((c.tc : Thread Cert.OutStageIdeal.nD Cert.OutStageIdeal.τ).loc Cert.OutStageIdeal.main_arg3)
          ∧ r.2.mem ((c.tc : Thread Cert.OutStageIdeal.nD Cert.OutStageIdeal.τ).loc Cert.OutStageIdeal.main_arg4) = m ((c.tc : Thread Cert.OutStageIdeal.nD Cert.OutStageIdeal.τ).loc Cert.OutStageIdeal.main_arg4)
          ∧ r.2.mem ((c.tc : Thread Cert.OutStageIdeal.nD Cert.OutStageIdeal.τ).loc Cert.OutStageIdeal.main_arg5) = m ((c.tc : Thread Cert.OutStageIdeal.nD Cert.OutStageIdeal.τ).loc Cert.OutStageIdeal.main_arg5)
          ∧ r.2.mem ((c.tc : Thread Cert.OutStageIdeal.nD Cert.OutStageIdeal.τ).loc Cert.OutStageIdeal.main_arg6) = m ((c.tc : Thread Cert.OutStageIdeal.nD Cert.OutStageIdeal.τ).loc Cert.OutStageIdeal.main_arg6)
          ∧ r.2.mem ((c.tc : Thread Cert.OutStageIdeal.nD Cert.OutStageIdeal.τ).loc Cert.OutStageIdeal.main_arg7) = m ((c.tc : Thread Cert.OutStageIdeal.nD Cert.OutStageIdeal.τ).loc Cert.OutStageIdeal.main_arg7))
      ∧ θ_run (Cert.OutStageRefIdeal.defs (F := Ideal)) (onTc (τ := Cert.OutStageRefIdeal.τ) (Cert.OutStageRefIdeal.main (F := Ideal))) ⟨m', fun _ => 0, g'⟩ (fun r => ∀ c : Dev Cert.OutStageRefIdeal.nD,
          r.2.mem ((c.tc : Thread Cert.OutStageRefIdeal.nD Cert.OutStageRefIdeal.τ).loc Cert.OutStageRefIdeal.main_v42) = v0 c
          ∧ r.2.mem ((c.tc : Thread Cert.OutStageRefIdeal.nD Cert.OutStageRefIdeal.τ).loc Cert.OutStageRefIdeal.main_arg0) = m' ((c.tc : Thread Cert.OutStageRefIdeal.nD Cert.OutStageRefIdeal.τ).loc Cert.OutStageRefIdeal.main_arg0)
          ∧ r.2.mem ((c.tc : Thread Cert.OutStageRefIdeal.nD Cert.OutStageRefIdeal.τ).loc Cert.OutStageRefIdeal.main_arg1) = m' ((c.tc : Thread Cert.OutStageRefIdeal.nD Cert.OutStageRefIdeal.τ).loc Cert.OutStageRefIdeal.main_arg1)
          ∧ r.2.mem ((c.tc : Thread Cert.OutStageRefIdeal.nD Cert.OutStageRefIdeal.τ).loc Cert.OutStageRefIdeal.main_arg2) = m' ((c.tc : Thread Cert.OutStageRefIdeal.nD Cert.OutStageRefIdeal.τ).loc Cert.OutStageRefIdeal.main_arg2)
          ∧ r.2.mem ((c.tc : Thread Cert.OutStageRefIdeal.nD Cert.OutStageRefIdeal.τ).loc Cert.OutStageRefIdeal.main_arg3) = m' ((c.tc : Thread Cert.OutStageRefIdeal.nD Cert.OutStageRefIdeal.τ).loc Cert.OutStageRefIdeal.main_arg3)
          ∧ r.2.mem ((c.tc : Thread Cert.OutStageRefIdeal.nD Cert.OutStageRefIdeal.τ).loc Cert.OutStageRefIdeal.main_arg4) = m' ((c.tc : Thread Cert.OutStageRefIdeal.nD Cert.OutStageRefIdeal.τ).loc Cert.OutStageRefIdeal.main_arg4)
          ∧ r.2.mem ((c.tc : Thread Cert.OutStageRefIdeal.nD Cert.OutStageRefIdeal.τ).loc Cert.OutStageRefIdeal.main_arg5) = m' ((c.tc : Thread Cert.OutStageRefIdeal.nD Cert.OutStageRefIdeal.τ).loc Cert.OutStageRefIdeal.main_arg5)
          ∧ r.2.mem ((c.tc : Thread Cert.OutStageRefIdeal.nD Cert.OutStageRefIdeal.τ).loc Cert.OutStageRefIdeal.main_arg6) = m' ((c.tc : Thread Cert.OutStageRefIdeal.nD Cert.OutStageRefIdeal.τ).loc Cert.OutStageRefIdeal.main_arg6)
          ∧ r.2.mem ((c.tc : Thread Cert.OutStageRefIdeal.nD Cert.OutStageRefIdeal.τ).loc Cert.OutStageRefIdeal.main_arg7) = m' ((c.tc : Thread Cert.OutStageRefIdeal.nD Cert.OutStageRefIdeal.τ).loc Cert.OutStageRefIdeal.main_arg7))

def preserves_Rglru_RglruIdeal : Prop :=
  True

def algebraic_RglruIdeal_RglruRefIdeal [hRglruIdeal : Cert.RglruIdeal.Facts] [hRglruRefIdeal : Cert.RglruRefIdeal.Facts] : Prop :=
  ∀ (m : (ℓ : Loc Cert.RglruIdeal.nD Cert.RglruIdeal.τ Cert.RglruIdeal.sig) → Buf (Elt Ideal) ℓ) (g : Dev Cert.RglruIdeal.nD → PrngReg)
    (m' : (ℓ : Loc Cert.RglruRefIdeal.nD Cert.RglruRefIdeal.τ Cert.RglruRefIdeal.sig) → Buf (Elt Ideal) ℓ) (g' : Dev Cert.RglruRefIdeal.nD → PrngReg), Pre_RglruIdeal m →
    (∀ c : Dev Cert.RglruIdeal.nD,
      m' ((c.tc : Thread Cert.RglruRefIdeal.nD Cert.RglruRefIdeal.τ).loc Cert.RglruRefIdeal.main_arg0) = m ((c.tc : Thread Cert.RglruIdeal.nD Cert.RglruIdeal.τ).loc Cert.RglruIdeal.main_arg0)
      ∧ m' ((c.tc : Thread Cert.RglruRefIdeal.nD Cert.RglruRefIdeal.τ).loc Cert.RglruRefIdeal.main_arg1) = m ((c.tc : Thread Cert.RglruIdeal.nD Cert.RglruIdeal.τ).loc Cert.RglruIdeal.main_arg1)
      ∧ m' ((c.tc : Thread Cert.RglruRefIdeal.nD Cert.RglruRefIdeal.τ).loc Cert.RglruRefIdeal.main_arg2) = m ((c.tc : Thread Cert.RglruIdeal.nD Cert.RglruIdeal.τ).loc Cert.RglruIdeal.main_arg2)
      ∧ m' ((c.tc : Thread Cert.RglruRefIdeal.nD Cert.RglruRefIdeal.τ).loc Cert.RglruRefIdeal.main_arg3) = m ((c.tc : Thread Cert.RglruIdeal.nD Cert.RglruIdeal.τ).loc Cert.RglruIdeal.main_arg3)
      ∧ m' ((c.tc : Thread Cert.RglruRefIdeal.nD Cert.RglruRefIdeal.τ).loc Cert.RglruRefIdeal.main_arg4) = m ((c.tc : Thread Cert.RglruIdeal.nD Cert.RglruIdeal.τ).loc Cert.RglruIdeal.main_arg4)
      ∧ m' ((c.tc : Thread Cert.RglruRefIdeal.nD Cert.RglruRefIdeal.τ).loc Cert.RglruRefIdeal.main_arg5) = m ((c.tc : Thread Cert.RglruIdeal.nD Cert.RglruIdeal.τ).loc Cert.RglruIdeal.main_arg5)
      ∧ m' ((c.tc : Thread Cert.RglruRefIdeal.nD Cert.RglruRefIdeal.τ).loc Cert.RglruRefIdeal.main_arg6) = m ((c.tc : Thread Cert.RglruIdeal.nD Cert.RglruIdeal.τ).loc Cert.RglruIdeal.main_arg6)
      ∧ m' ((c.tc : Thread Cert.RglruRefIdeal.nD Cert.RglruRefIdeal.τ).loc Cert.RglruRefIdeal.main_arg7) = m ((c.tc : Thread Cert.RglruIdeal.nD Cert.RglruIdeal.τ).loc Cert.RglruIdeal.main_arg7)
      ∧ m' ((c.tc : Thread Cert.RglruRefIdeal.nD Cert.RglruRefIdeal.τ).loc Cert.RglruRefIdeal.main_arg8) = m ((c.tc : Thread Cert.RglruIdeal.nD Cert.RglruIdeal.τ).loc Cert.RglruIdeal.main_arg8)
      ∧ m' ((c.tc : Thread Cert.RglruRefIdeal.nD Cert.RglruRefIdeal.τ).loc Cert.RglruRefIdeal.main_arg9) = m ((c.tc : Thread Cert.RglruIdeal.nD Cert.RglruIdeal.τ).loc Cert.RglruIdeal.main_arg9)) →
    ∃ (v0 : (c : Dev Cert.RglruIdeal.nD) → Buf (Elt Ideal) ((c.tc : Thread Cert.RglruIdeal.nD Cert.RglruIdeal.τ).loc Cert.RglruIdeal.main_v11_0)) (v1 : (c : Dev Cert.RglruIdeal.nD) → Buf (Elt Ideal) ((c.tc : Thread Cert.RglruIdeal.nD Cert.RglruIdeal.τ).loc Cert.RglruIdeal.main_v11_1)) (v2 : (c : Dev Cert.RglruIdeal.nD) → Buf (Elt Ideal) ((c.tc : Thread Cert.RglruIdeal.nD Cert.RglruIdeal.τ).loc Cert.RglruIdeal.main_v11_2)),
      θ_run (Cert.RglruIdeal.defs (F := Ideal)) (onTc (τ := Cert.RglruIdeal.τ) (Cert.RglruIdeal.main (F := Ideal))) ⟨m, fun _ => 0, g⟩ (fun r => ∀ c : Dev Cert.RglruIdeal.nD,
          r.2.mem ((c.tc : Thread Cert.RglruIdeal.nD Cert.RglruIdeal.τ).loc Cert.RglruIdeal.main_v11_0) = v0 c
          ∧ r.2.mem ((c.tc : Thread Cert.RglruIdeal.nD Cert.RglruIdeal.τ).loc Cert.RglruIdeal.main_v11_1) = v1 c
          ∧ r.2.mem ((c.tc : Thread Cert.RglruIdeal.nD Cert.RglruIdeal.τ).loc Cert.RglruIdeal.main_v11_2) = v2 c
          ∧ r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
          ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
          ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
          ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
          ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
          ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
          ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
          ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7)
          ∧ r.2.mem ((c.tc : Thread Cert.RglruIdeal.nD Cert.RglruIdeal.τ).loc Cert.RglruIdeal.main_arg8) = m ((c.tc : Thread Cert.RglruIdeal.nD Cert.RglruIdeal.τ).loc Cert.RglruIdeal.main_arg8)
          ∧ r.2.mem ((c.tc : Thread Cert.RglruIdeal.nD Cert.RglruIdeal.τ).loc Cert.RglruIdeal.main_arg9) = m ((c.tc : Thread Cert.RglruIdeal.nD Cert.RglruIdeal.τ).loc Cert.RglruIdeal.main_arg9))
      ∧ θ_run (Cert.RglruRefIdeal.defs (F := Ideal)) (onTc (τ := Cert.RglruRefIdeal.τ) (Cert.RglruRefIdeal.main (F := Ideal))) ⟨m', fun _ => 0, g'⟩ (fun r => ∀ c : Dev Cert.RglruRefIdeal.nD,
          r.2.mem ((c.tc : Thread Cert.RglruRefIdeal.nD Cert.RglruRefIdeal.τ).loc Cert.RglruRefIdeal.main_v194) = v0 c
          ∧ r.2.mem ((c.tc : Thread Cert.RglruRefIdeal.nD Cert.RglruRefIdeal.τ).loc Cert.RglruRefIdeal.main_v196) = v1 c
          ∧ r.2.mem ((c.tc : Thread Cert.RglruRefIdeal.nD Cert.RglruRefIdeal.τ).loc Cert.RglruRefIdeal.main_v197) = v2 c
          ∧ r.2.mem ((c.tc : Thread Cert.RglruRefIdeal.nD Cert.RglruRefIdeal.τ).loc Cert.RglruRefIdeal.main_arg0) = m' ((c.tc : Thread Cert.RglruRefIdeal.nD Cert.RglruRefIdeal.τ).loc Cert.RglruRefIdeal.main_arg0)
          ∧ r.2.mem ((c.tc : Thread Cert.RglruRefIdeal.nD Cert.RglruRefIdeal.τ).loc Cert.RglruRefIdeal.main_arg1) = m' ((c.tc : Thread Cert.RglruRefIdeal.nD Cert.RglruRefIdeal.τ).loc Cert.RglruRefIdeal.main_arg1)
          ∧ r.2.mem ((c.tc : Thread Cert.RglruRefIdeal.nD Cert.RglruRefIdeal.τ).loc Cert.RglruRefIdeal.main_arg2) = m' ((c.tc : Thread Cert.RglruRefIdeal.nD Cert.RglruRefIdeal.τ).loc Cert.RglruRefIdeal.main_arg2)
          ∧ r.2.mem ((c.tc : Thread Cert.RglruRefIdeal.nD Cert.RglruRefIdeal.τ).loc Cert.RglruRefIdeal.main_arg3) = m' ((c.tc : Thread Cert.RglruRefIdeal.nD Cert.RglruRefIdeal.τ).loc Cert.RglruRefIdeal.main_arg3)
          ∧ r.2.mem ((c.tc : Thread Cert.RglruRefIdeal.nD Cert.RglruRefIdeal.τ).loc Cert.RglruRefIdeal.main_arg4) = m' ((c.tc : Thread Cert.RglruRefIdeal.nD Cert.RglruRefIdeal.τ).loc Cert.RglruRefIdeal.main_arg4)
          ∧ r.2.mem ((c.tc : Thread Cert.RglruRefIdeal.nD Cert.RglruRefIdeal.τ).loc Cert.RglruRefIdeal.main_arg5) = m' ((c.tc : Thread Cert.RglruRefIdeal.nD Cert.RglruRefIdeal.τ).loc Cert.RglruRefIdeal.main_arg5)
          ∧ r.2.mem ((c.tc : Thread Cert.RglruRefIdeal.nD Cert.RglruRefIdeal.τ).loc Cert.RglruRefIdeal.main_arg6) = m' ((c.tc : Thread Cert.RglruRefIdeal.nD Cert.RglruRefIdeal.τ).loc Cert.RglruRefIdeal.main_arg6)
          ∧ r.2.mem ((c.tc : Thread Cert.RglruRefIdeal.nD Cert.RglruRefIdeal.τ).loc Cert.RglruRefIdeal.main_arg7) = m' ((c.tc : Thread Cert.RglruRefIdeal.nD Cert.RglruRefIdeal.τ).loc Cert.RglruRefIdeal.main_arg7)
          ∧ r.2.mem ((c.tc : Thread Cert.RglruRefIdeal.nD Cert.RglruRefIdeal.τ).loc Cert.RglruRefIdeal.main_arg8) = m' ((c.tc : Thread Cert.RglruRefIdeal.nD Cert.RglruRefIdeal.τ).loc Cert.RglruRefIdeal.main_arg8)
          ∧ r.2.mem ((c.tc : Thread Cert.RglruRefIdeal.nD Cert.RglruRefIdeal.τ).loc Cert.RglruRefIdeal.main_arg9) = m' ((c.tc : Thread Cert.RglruRefIdeal.nD Cert.RglruRefIdeal.τ).loc Cert.RglruRefIdeal.main_arg9))

def preserves_OutSample_OutSampleIdeal : Prop :=
  True

def algebraic_OutSampleIdeal_OutSampleRefIdeal [hOutSampleIdeal : Cert.OutSampleIdeal.Facts] [hOutSampleRefIdeal : Cert.OutSampleRefIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleRefIdeal.nD Cert.OutSampleRefIdeal.τ Cert.OutSampleRefIdeal.sig) → Buf (Elt Ideal) ℓ) (g' : Dev Cert.OutSampleRefIdeal.nD → PrngReg), Pre_OutSampleIdeal m →
    (∀ c : Dev Cert.OutSampleIdeal.nD,
      m' ((c.tc : Thread Cert.OutSampleRefIdeal.nD Cert.OutSampleRefIdeal.τ).loc Cert.OutSampleRefIdeal.main_arg0) = m ((c.tc : Thread Cert.OutSampleIdeal.nD Cert.OutSampleIdeal.τ).loc Cert.OutSampleIdeal.main_arg0)
      ∧ m' ((c.tc : Thread Cert.OutSampleRefIdeal.nD Cert.OutSampleRefIdeal.τ).loc Cert.OutSampleRefIdeal.main_arg1) = m ((c.tc : Thread Cert.OutSampleIdeal.nD Cert.OutSampleIdeal.τ).loc Cert.OutSampleIdeal.main_arg1)
      ∧ m' ((c.tc : Thread Cert.OutSampleRefIdeal.nD Cert.OutSampleRefIdeal.τ).loc Cert.OutSampleRefIdeal.main_arg2) = m ((c.tc : Thread Cert.OutSampleIdeal.nD Cert.OutSampleIdeal.τ).loc Cert.OutSampleIdeal.main_arg2)
      ∧ m' ((c.tc : Thread Cert.OutSampleRefIdeal.nD Cert.OutSampleRefIdeal.τ).loc Cert.OutSampleRefIdeal.main_arg3) = m ((c.tc : Thread Cert.OutSampleIdeal.nD Cert.OutSampleIdeal.τ).loc Cert.OutSampleIdeal.main_arg3)
      ∧ m' ((c.tc : Thread Cert.OutSampleRefIdeal.nD Cert.OutSampleRefIdeal.τ).loc Cert.OutSampleRefIdeal.main_arg4) = m ((c.tc : Thread Cert.OutSampleIdeal.nD Cert.OutSampleIdeal.τ).loc Cert.OutSampleIdeal.main_arg4)
      ∧ m' ((c.tc : Thread Cert.OutSampleRefIdeal.nD Cert.OutSampleRefIdeal.τ).loc Cert.OutSampleRefIdeal.main_arg5) = m ((c.tc : Thread Cert.OutSampleIdeal.nD Cert.OutSampleIdeal.τ).loc Cert.OutSampleIdeal.main_arg5)
      ∧ m' ((c.tc : Thread Cert.OutSampleRefIdeal.nD Cert.OutSampleRefIdeal.τ).loc Cert.OutSampleRefIdeal.main_arg6) = m ((c.tc : Thread Cert.OutSampleIdeal.nD Cert.OutSampleIdeal.τ).loc Cert.OutSampleIdeal.main_arg6)
      ∧ m' ((c.tc : Thread Cert.OutSampleRefIdeal.nD Cert.OutSampleRefIdeal.τ).loc Cert.OutSampleRefIdeal.main_arg7) = m ((c.tc : Thread Cert.OutSampleIdeal.nD Cert.OutSampleIdeal.τ).loc Cert.OutSampleIdeal.main_arg7)) →
    ∃ (v0 : (c : Dev Cert.OutSampleIdeal.nD) → Buf (Elt Ideal) ((c.tc : Thread Cert.OutSampleIdeal.nD Cert.OutSampleIdeal.τ).loc Cert.OutSampleIdeal.main_v5)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v5) = v0 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
          ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4)
          ∧ r.2.mem ((c.tc : Thread Cert.OutSampleIdeal.nD Cert.OutSampleIdeal.τ).loc Cert.OutSampleIdeal.main_arg5) = m ((c.tc : Thread Cert.OutSampleIdeal.nD Cert.OutSampleIdeal.τ).loc Cert.OutSampleIdeal.main_arg5)
          ∧ r.2.mem ((c.tc : Thread Cert.OutSampleIdeal.nD Cert.OutSampleIdeal.τ).loc Cert.OutSampleIdeal.main_arg6) = m ((c.tc : Thread Cert.OutSampleIdeal.nD Cert.OutSampleIdeal.τ).loc Cert.OutSampleIdeal.main_arg6)
          ∧ r.2.mem ((c.tc : Thread Cert.OutSampleIdeal.nD Cert.OutSampleIdeal.τ).loc Cert.OutSampleIdeal.main_arg7) = m ((c.tc : Thread Cert.OutSampleIdeal.nD Cert.OutSampleIdeal.τ).loc Cert.OutSampleIdeal.main_arg7))
      ∧ θ_run (Cert.OutSampleRefIdeal.defs (F := Ideal)) (onTc (τ := Cert.OutSampleRefIdeal.τ) (Cert.OutSampleRefIdeal.main (F := Ideal))) ⟨m', fun _ => 0, g'⟩ (fun r => ∀ c : Dev Cert.OutSampleRefIdeal.nD,
          r.2.mem ((c.tc : Thread Cert.OutSampleRefIdeal.nD Cert.OutSampleRefIdeal.τ).loc Cert.OutSampleRefIdeal.main_v42) = v0 c
          ∧ r.2.mem ((c.tc : Thread Cert.OutSampleRefIdeal.nD Cert.OutSampleRefIdeal.τ).loc Cert.OutSampleRefIdeal.main_arg0) = m' ((c.tc : Thread Cert.OutSampleRefIdeal.nD Cert.OutSampleRefIdeal.τ).loc Cert.OutSampleRefIdeal.main_arg0)
          ∧ r.2.mem ((c.tc : Thread Cert.OutSampleRefIdeal.nD Cert.OutSampleRefIdeal.τ).loc Cert.OutSampleRefIdeal.main_arg1) = m' ((c.tc : Thread Cert.OutSampleRefIdeal.nD Cert.OutSampleRefIdeal.τ).loc Cert.OutSampleRefIdeal.main_arg1)
          ∧ r.2.mem ((c.tc : Thread Cert.OutSampleRefIdeal.nD Cert.OutSampleRefIdeal.τ).loc Cert.OutSampleRefIdeal.main_arg2) = m' ((c.tc : Thread Cert.OutSampleRefIdeal.nD Cert.OutSampleRefIdeal.τ).loc Cert.OutSampleRefIdeal.main_arg2)
          ∧ r.2.mem ((c.tc : Thread Cert.OutSampleRefIdeal.nD Cert.OutSampleRefIdeal.τ).loc Cert.OutSampleRefIdeal.main_arg3) = m' ((c.tc : Thread Cert.OutSampleRefIdeal.nD Cert.OutSampleRefIdeal.τ).loc Cert.OutSampleRefIdeal.main_arg3)
          ∧ r.2.mem ((c.tc : Thread Cert.OutSampleRefIdeal.nD Cert.OutSampleRefIdeal.τ).loc Cert.OutSampleRefIdeal.main_arg4) = m' ((c.tc : Thread Cert.OutSampleRefIdeal.nD Cert.OutSampleRefIdeal.τ).loc Cert.OutSampleRefIdeal.main_arg4)
          ∧ r.2.mem ((c.tc : Thread Cert.OutSampleRefIdeal.nD Cert.OutSampleRefIdeal.τ).loc Cert.OutSampleRefIdeal.main_arg5) = m' ((c.tc : Thread Cert.OutSampleRefIdeal.nD Cert.OutSampleRefIdeal.τ).loc Cert.OutSampleRefIdeal.main_arg5)
          ∧ r.2.mem ((c.tc : Thread Cert.OutSampleRefIdeal.nD Cert.OutSampleRefIdeal.τ).loc Cert.OutSampleRefIdeal.main_arg6) = m' ((c.tc : Thread Cert.OutSampleRefIdeal.nD Cert.OutSampleRefIdeal.τ).loc Cert.OutSampleRefIdeal.main_arg6)
          ∧ r.2.mem ((c.tc : Thread Cert.OutSampleRefIdeal.nD Cert.OutSampleRefIdeal.τ).loc Cert.OutSampleRefIdeal.main_arg7) = m' ((c.tc : Thread Cert.OutSampleRefIdeal.nD Cert.OutSampleRefIdeal.τ).loc Cert.OutSampleRefIdeal.main_arg7))

def Claim : Prop :=
  ∃ (hInProj : Cert.InProj.Facts) (hInProjIdeal : Cert.InProjIdeal.Facts) (hInProjRefIdeal : Cert.InProjRefIdeal.Facts) (hOutStage : Cert.OutStage.Facts) (hOutStageIdeal : Cert.OutStageIdeal.Facts) (hOutStageRefIdeal : Cert.OutStageRefIdeal.Facts) (hRglru : Cert.Rglru.Facts) (hRglruIdeal : Cert.RglruIdeal.Facts) (hRglruRefIdeal : Cert.RglruRefIdeal.Facts) (hOutSample : Cert.OutSample.Facts) (hOutSampleIdeal : Cert.OutSampleIdeal.Facts) (hOutSampleRefIdeal : Cert.OutSampleRefIdeal.Facts),
    quiescent_InProj (hInProj := hInProj)
    ∧ quiescent_InProjIdeal (hInProjIdeal := hInProjIdeal)
    ∧ quiescent_InProjRefIdeal (hInProjRefIdeal := hInProjRefIdeal)
    ∧ quiescent_OutStage (hOutStage := hOutStage)
    ∧ quiescent_OutStageIdeal (hOutStageIdeal := hOutStageIdeal)
    ∧ quiescent_OutStageRefIdeal (hOutStageRefIdeal := hOutStageRefIdeal)
    ∧ quiescent_Rglru (hRglru := hRglru)
    ∧ quiescent_RglruIdeal (hRglruIdeal := hRglruIdeal)
    ∧ quiescent_RglruRefIdeal (hRglruRefIdeal := hRglruRefIdeal)
    ∧ quiescent_OutSample (hOutSample := hOutSample)
    ∧ quiescent_OutSampleIdeal (hOutSampleIdeal := hOutSampleIdeal)
    ∧ quiescent_OutSampleRefIdeal (hOutSampleRefIdeal := hOutSampleRefIdeal)
    ∧ preserves_InProj_InProjIdeal
    ∧ algebraic_InProjIdeal_InProjRefIdeal (hInProjIdeal := hInProjIdeal) (hInProjRefIdeal := hInProjRefIdeal)
    ∧ preserves_OutStage_OutStageIdeal
    ∧ algebraic_OutStageIdeal_OutStageRefIdeal (hOutStageIdeal := hOutStageIdeal) (hOutStageRefIdeal := hOutStageRefIdeal)
    ∧ preserves_Rglru_RglruIdeal
    ∧ algebraic_RglruIdeal_RglruRefIdeal (hRglruIdeal := hRglruIdeal) (hRglruRefIdeal := hRglruRefIdeal)
    ∧ preserves_OutSample_OutSampleIdeal
    ∧ algebraic_OutSampleIdeal_OutSampleRefIdeal (hOutSampleIdeal := hOutSampleIdeal) (hOutSampleRefIdeal := hOutSampleRefIdeal)
-- ==== InProj.lean ====
abbrev S2x16384x2048 : Shape := ⟨3, ![2, 16384, 2048]⟩
abbrev S2048 : Shape := ⟨1, ![2048]⟩
abbrev S2048x16384 : Shape := ⟨2, ![2048, 16384]⟩
abbrev S32768x2048 : Shape := ⟨2, ![32768, 2048]⟩
abbrev S1x2048 : Shape := ⟨2, ![1, 2048]⟩
abbrev S128x32768x128 : Shape := ⟨3, ![128, 32768, 128]⟩
abbrev S1024x2048 : Shape := ⟨2, ![1024, 2048]⟩
abbrev S2048x1024 : Shape := ⟨2, ![2048, 1024]⟩
abbrev S8x1024x128 : Shape := ⟨3, ![8, 1024, 128]⟩
abbrev S1024 : Shape := ⟨1, ![1024]⟩
abbrev S1024x1 : Shape := ⟨2, ![1024, 1]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 7
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x16384, .f32⟩
  | .hbm, ⟨3, _⟩ => ⟨S32768x2048, .f32⟩
  | .hbm, ⟨4, _⟩ => ⟨S1x2048, .f32⟩
  | .hbm, ⟨5, _⟩ => ⟨S2048x16384, .bf16⟩
  | .hbm, ⟨6, _⟩ => ⟨S128x32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S8x1024x128, .f32⟩
  | .local _ .vmem, ⟨6, _⟩ => ⟨S8x1024x128, .f32⟩
  | .local _ .vmem, ⟨7, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S2x16384x2048 : Shape := ⟨3, ![2, 16384, 2048]⟩
abbrev S2048 : Shape := ⟨1, ![2048]⟩
abbrev S2048x16384 : Shape := ⟨2, ![2048, 16384]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x16384 : Shape := ⟨3, ![2, 16384, 16384]⟩
abbrev S32768x128x128 : Shape := ⟨3, ![32768, 128, 128]⟩
abbrev S128x32768x128 : Shape := ⟨3, ![128, 32768, 128]⟩

abbrev nBuf : Space → Nat
  | .hbm => 22
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x16384, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x16384, .f32⟩
  | .hbm, ⟨20, _⟩ => ⟨S32768x128x128, .f32⟩
  | .hbm, ⟨21, _⟩ => ⟨S128x32768x128, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutStage.lean ====
abbrev S16x32768x128 : Shape := ⟨3, ![16, 32768, 128]⟩
abbrev S128x32768x128 : Shape := ⟨3, ![128, 32768, 128]⟩
abbrev S2x16384x2048 : Shape := ⟨3, ![2, 16384, 2048]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S16x256x128 : Shape := ⟨3, ![16, 256, 128]⟩
abbrev S256x2048 : Shape := ⟨2, ![256, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S16x32768x128, .bf16⟩
  | .hbm, ⟨1, _⟩ => ⟨S16x32768x128, .bf16⟩
  | .hbm, ⟨2, _⟩ => ⟨S128x32768x128, .f32⟩
  | .hbm, ⟨3, _⟩ => ⟨S2x16384x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S32768x2048, .f32⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S1x2048, .f32⟩
  | .hbm, ⟨13, _⟩ => ⟨S32768x2048, .f32⟩
  | .local _ .vmem, ⟨0, _⟩ => ⟨S16x256x128, .bf16⟩
  | .local _ .vmem, ⟨1, _⟩ => ⟨S16x256x128, .bf16⟩
  | .local _ .vmem, ⟨2, _⟩ => ⟨S16x256x128, .bf16⟩
  | .local _ .vmem, ⟨3, _⟩ => ⟨S16x256x128, .bf16⟩
  | .local _ .vmem, ⟨4, _⟩ => ⟨S16x256x128, .f32⟩
  | .local _ .vmem, ⟨5, _⟩ => ⟨S16x256x128, .f32⟩
  | .local _ .vmem, ⟨6, _⟩ => ⟨S16x256x128, .f32⟩
  | .local _ .vmem, ⟨7, _⟩ => ⟨S16x256x128, .f32⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S2048x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | _, _ => ⟨S16x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_3 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutStageIdeal.lean ====
abbrev S16x32768x128 : Shape := ⟨3, ![16, 32768, 128]⟩
abbrev S128x32768x128 : Shape := ⟨3, ![128, 32768, 128]⟩
abbrev S2x16384x2048 : Shape := ⟨3, ![2, 16384, 2048]⟩
abbrev S2048x2048 : Shape := ⟨2, ![2048, 2048]⟩
abbrev S2048 : Shape := ⟨1, ![2048]⟩
abbrev S32768x2048 : Shape := ⟨2, ![32768, 2048]⟩
abbrev S1x2048 : Shape := ⟨2, ![1, 2048]⟩
abbrev S16x256x128 : Shape := ⟨3, ![16, 256, 128]⟩
abbrev S256x2048 : Shape := ⟨2, ![256, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S16x32768x128, .bf16⟩
  | .hbm, ⟨1, _⟩ => ⟨S16x32768x128, .bf16⟩
  | .hbm, ⟨2, _⟩ => ⟨S128x32768x128, .f32⟩
  | .hbm, ⟨3, _⟩ => ⟨S2x16384x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S32768x2048, .f32⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S1x2048, .f32⟩
  | .hbm, ⟨13, _⟩ => ⟨S32768x2048, .f32⟩
  | .local _ .vmem, ⟨0, _⟩ => ⟨S16x256x128, .bf16⟩
  | .local _ .vmem, ⟨1, _⟩ => ⟨S16x256x128, .bf16⟩
  | .local _ .vmem, ⟨2, _⟩ => ⟨S16x256x128, .bf16⟩
  | .local _ .vmem, ⟨3, _⟩ => ⟨S16x256x128, .bf16⟩
  | .local _ .vmem, ⟨4, _⟩ => ⟨S16x256x128, .f32⟩
  | .local _ .vmem, ⟨5, _⟩ => ⟨S16x256x128, .f32⟩
  | .local _ .vmem, ⟨6, _⟩ => ⟨S16x256x128, .f32⟩
  | .local _ .vmem, ⟨7, _⟩ => ⟨S16x256x128, .f32⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .vmem, ⟨11, _⟩ => ⟨S2048x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | _, _ => ⟨S16x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_3 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutStageRefIdeal.lean ====
abbrev S16x32768x128 : Shape := ⟨3, ![16, 32768, 128]⟩
abbrev S128x32768x128 : Shape := ⟨3, ![128, 32768, 128]⟩
abbrev S2x16384x2048 : Shape := ⟨3, ![2, 16384, 2048]⟩
abbrev S2048x2048 : Shape := ⟨2, ![2048, 2048]⟩
abbrev S2048 : Shape := ⟨1, ![2048]⟩
abbrev S32768x128x128 : Shape := ⟨3, ![32768, 128, 128]⟩
abbrev S2x16384x16384 : Shape := ⟨3, ![2, 16384, 16384]⟩
abbrev S32768x16x128 : Shape := ⟨3, ![32768, 16, 128]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16x32768x128, .bf16⟩
  | .hbm, ⟨1, _⟩ => ⟨S16x32768x128, .bf16⟩
  | .hbm, ⟨2, _⟩ => ⟨S128x32768x128, .f32⟩
  | .hbm, ⟨3, _⟩ => ⟨S2x16384x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S32768x128x128, .f32⟩
  | .hbm, ⟨9, _⟩ => ⟨S2x16384x16384, .f32⟩
  | .hbm, ⟨10, _⟩ => ⟨S2x16384x2048, .f32⟩
  | .hbm, ⟨11, _⟩ => ⟨S2x16384x2048, .f32⟩
  | .hbm, ⟨12, _⟩ => ⟨S32768x16x128, .bf16⟩
  | .hbm, ⟨13, _⟩ => ⟨S2x16384x2048, .bf16⟩
  | .hbm, ⟨14, _⟩ => ⟨S2x16384x2048, .f32⟩
  | .hbm, ⟨15, _⟩ => ⟨S2x16384x2048, .f32⟩
  | .hbm, ⟨16, _⟩ => ⟨S32768x16x128, .bf16⟩
  | .hbm, ⟨17, _⟩ => ⟨S2x16384x2048, .bf16⟩
  | .hbm, ⟨18, _⟩ => ⟨S2x16384x2048, .f32⟩
  | .hbm, ⟨19, _⟩ => ⟨S2x16384x2048, .f32⟩
  | .hbm, ⟨20, _⟩ => ⟨S2x16384x2048, .f32⟩
  | .hbm, ⟨21, _⟩ => ⟨S2x16384x2048, .f32⟩
  | .hbm, ⟨22, _⟩ => ⟨S_, .f32⟩
  | .hbm, ⟨23, _⟩ => ⟨S2x16384x2048, .f32⟩
  | .hbm, ⟨24, _⟩ => ⟨S2x16384x2048, .f32⟩
  | .hbm, ⟨25, _⟩ => ⟨S_, .f32⟩
  | .hbm, ⟨26, _⟩ => ⟨S2x16384x2048, .f32⟩
  | .hbm, ⟨27, _⟩ => ⟨S2x16384x2048, .f32⟩
  | .hbm, ⟨28, _⟩ => ⟨S2x16384x2048, .f32⟩
  | .hbm, ⟨29, _⟩ => ⟨S2x16384x2048, .f32⟩
  | .hbm, ⟨30, _⟩ => ⟨S2x16384x2048, .f32⟩
  | .hbm, ⟨31, _⟩ => ⟨S_, .f32⟩
  | .hbm, ⟨32, _⟩ => ⟨S2x16384x2048, .f32⟩
  | .hbm, ⟨33, _⟩ => ⟨S2x16384x2048, .f32⟩
  | .hbm, ⟨34, _⟩ => ⟨S_, .f32⟩
  | .hbm, ⟨35, _⟩ => ⟨S2x16384x2048, .f32⟩
  | .hbm, ⟨36, _⟩ => ⟨S2x16384x2048, .f32⟩
  | .hbm, ⟨37, _⟩ => ⟨S2x16384x2048, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S_, .f32⟩
  | .hbm, ⟨42, _⟩ => ⟨S2x16384, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1, .f32⟩
  | .hbm, ⟨51, _⟩ => ⟨S2x16384x2048, .f32⟩
  | .hbm, ⟨52, _⟩ => ⟨S2x16384x2048, .f32⟩
  | .hbm, ⟨53, _⟩ => ⟨S1x1x2048, .f32⟩
  | .hbm, ⟨54, _⟩ => ⟨S2x16384x2048, .f32⟩
  | .hbm, ⟨55, _⟩ => ⟨S2x16384x2048, .f32⟩
  | .hbm, ⟨56, _⟩ => ⟨S2x16384x2048, .f32⟩
  | .hbm, ⟨57, _⟩ => ⟨S32768x2048, .f32⟩
  | _, _ => ⟨S16x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Rglru.lean ====
abbrev S128x256x128 : Shape := ⟨3, ![128, 256, 128]⟩
abbrev S16x3x2048 : Shape := ⟨3, ![16, 3, 2048]⟩
abbrev S16x2048 : Shape := ⟨2, ![16, 2048]⟩
abbrev S4x2048 : Shape := ⟨2, ![4, 2048]⟩
abbrev S2048 : Shape := ⟨1, ![2048]⟩
abbrev S16x128x128 : Shape := ⟨3, ![16, 128, 128]⟩
abbrev S16x3x16x128 : Shape := ⟨4, ![16, 3, 16, 128]⟩
abbrev S16x16x3x128 : Shape := ⟨4, ![16, 16, 3, 128]⟩
abbrev S16x16x1x128 : Shape := ⟨4, ![16, 16, 1, 128]⟩
abbrev S4x16x128 : Shape := ⟨3, ![4, 16, 128]⟩
abbrev S16x4x128 : Shape := ⟨3, ![16, 4, 128]⟩
abbrev S16x1x128 : Shape := ⟨3, ![16, 1, 128]⟩
abbrev S16x256x128 : Shape := ⟨3, ![16, 256, 128]⟩
abbrev S16x16x128 : Shape := ⟨3, ![16, 16, 128]⟩
abbrev S1x16x3x128 : Shape := ⟨4, ![1, 16, 3, 128]⟩
abbrev S1x16x1x128 : Shape := ⟨4, ![1, 16, 1, 128]⟩
abbrev S16x24x128 : Shape := ⟨3, ![16, 24, 128]⟩
abbrev S16x8x128 : Shape := ⟨3, ![16, 8, 128]⟩
abbrev S16x128 : Shape := ⟨2, ![16, 128]⟩
abbrev S8x128 : Shape := ⟨2, ![8, 128]⟩
abbrev S1x1x3x128 : Shape := ⟨4, ![1, 1, 3, 128]⟩
abbrev S3x128 : Shape := ⟨2, ![3, 128]⟩
abbrev S1x3x128 : Shape := ⟨3, ![1, 3, 128]⟩
abbrev S1x1x1x128 : Shape := ⟨4, ![1, 1, 1, 128]⟩
abbrev S1x128 : Shape := ⟨2, ![1, 128]⟩
abbrev S1x8x128 : Shape := ⟨3, ![1, 8, 128]⟩
abbrev S1x16x128 : Shape := ⟨3, ![1, 16, 128]⟩
abbrev S1x4x128 : Shape := ⟨3, ![1, 4, 128]⟩
abbrev S4x128 : Shape := ⟨2, ![4, 128]⟩
abbrev S1x1x128 : Shape := ⟨3, ![1, 1, 128]⟩
abbrev S1x128x128 : Shape := ⟨3, ![1, 128, 128]⟩
abbrev S128x128 : Shape := ⟨2, ![128, 128]⟩

abbrev nBuf : Space → Nat
  | .hbm => 24
  | .vmem => 26
  | .smem => 0
  | _ => 0

abbrev bufTy : (tb : Table) → Fin (tcTables nBuf tb) → BufTy
  | .hbm, ⟨0, _⟩ => ⟨S128x256x128, .f32⟩
  | .hbm, ⟨1, _⟩ => ⟨S16x3x2048, .f32⟩
  | .hbm, ⟨2, _⟩ => ⟨S16x2048, .f32⟩
  | .hbm, ⟨3, _⟩ => ⟨S4x2048, .f32⟩
  | .hbm, ⟨4, _⟩ => ⟨S2048, .f32⟩
  | .hbm, ⟨5, _⟩ => ⟨S16x128x128, .f32⟩
  | .hbm, ⟨6, _⟩ => ⟨S2048, .f32⟩
  | .hbm, ⟨7, _⟩ => ⟨S16x128x128, .f32⟩
  | .hbm, ⟨8, _⟩ => ⟨S2048, .f32⟩
  | .hbm, ⟨9, _⟩ => ⟨S2048, .f32⟩
  | .hbm, ⟨10, _⟩ => ⟨S16x3x16x128, .f32⟩
  | .hbm, ⟨11, _⟩ => ⟨S16x16x3x128, .f32⟩
  | .hbm, ⟨12, _⟩ => ⟨S16x16x1x128, .f32⟩
  | .hbm, ⟨13, _⟩ => ⟨S4x16x128, .f32⟩
  | .hbm, ⟨14, _⟩ => ⟨S16x4x128, .f32⟩
  | .hbm, ⟨15, _⟩ => ⟨S16x1x128, .f32⟩
  | .hbm, ⟨16, _⟩ => ⟨S16x128x128, .bf16⟩
  | .hbm, ⟨17, _⟩ => ⟨S16x1x128, .f32⟩
  | .hbm, ⟨18, _⟩ => ⟨S16x128x128, .bf16⟩
  | .hbm, ⟨19, _⟩ => ⟨S16x1x128, .f32⟩
  | .hbm, ⟨20, _⟩ => ⟨S16x1x128, .f32⟩
  | .hbm, ⟨21, _⟩ => ⟨S16x256x128, .bf16⟩
  | .hbm, ⟨22, _⟩ => ⟨S16x16x3x128, .f32⟩
  | .hbm, ⟨23, _⟩ => ⟨S16x16x1x128, .f32⟩
  | .local _ .vmem, ⟨0, _⟩ => ⟨S16x16x128, .f32⟩
  | .local _ .vmem, ⟨1, _⟩ => ⟨S16x16x128, .f32⟩
  | .local _ .vmem, ⟨2, _⟩ => ⟨S16x16x128, .f32⟩
  | .local _ .vmem, ⟨3, _⟩ => ⟨S16x16x128, .f32⟩
  | .local _ .vmem, ⟨4, _⟩ => ⟨S1x16x3x128, .f32⟩
  | .local _ .vmem, ⟨5, _⟩ => ⟨S1x16x3x128, .f32⟩
  | .local _ .vmem, ⟨6, _⟩ => ⟨S1x16x1x128, .f32⟩
  | .local _ .vmem, ⟨7, _⟩ => ⟨S1x16x1x128, .f32⟩
  | .local _ .vmem, ⟨8, _⟩ => ⟨S16x4x128, .f32⟩
  | .local _ .vmem, ⟨9, _⟩ => ⟨S16x1x128, .f32⟩
  | .local _ .vmem, ⟨10, _⟩ => ⟨S16x128x128, .bf16⟩
  | .local _ .vmem, ⟨11, _⟩ => ⟨S16x1x128, .f32⟩
  | .local _ .vmem, ⟨12, _⟩ => ⟨S16x128x128, .bf16⟩
  | .local _ .vmem, ⟨13, _⟩ => ⟨S16x1x128, .f32⟩
  | .local _ .vmem, ⟨14, _⟩ => ⟨S16x1x128, .f32⟩
  | .local _ .vmem, ⟨15, _⟩ => ⟨S16x16x128, .bf16⟩
  | .local _ .vmem, ⟨16, _⟩ => ⟨S16x16x128, .bf16⟩
  | .local _ .vmem, ⟨17, _⟩ => ⟨S1x16x3x128, .f32⟩
  | .local _ .vmem, ⟨18, _⟩ => ⟨S1x16x3x128, .f32⟩
  | .local _ .vmem, ⟨19, _⟩ => ⟨S1x16x1x128, .f32⟩
  | .local _ .vmem, ⟨20, _⟩ => ⟨S1x16x1x128, .f32⟩
  | .local _ .vmem, ⟨21, _⟩ => ⟨S16x24x128, .f32⟩
  | .local _ .vmem, ⟨22, _⟩ => ⟨S16x8x128, .f32⟩
  | .local _ .vmem, ⟨23, _⟩ => ⟨S16x128, .f32⟩
  | .local _ .vmem, ⟨24, _⟩ => ⟨S16x128, .f32⟩
  | .local _ .vmem, ⟨25, _⟩ => ⟨S16x128, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨3, ![16, 1, 1], ![false, false, false]⟩

@[reducible] def k0_t1_loop : Scf.Loop 32 :=
  let c0_i32_2 : BitVec 32 := 0#32
  let c16_i32 : BitVec 32 := 16#32
  let v5 : BitVec 32 := Scalar.addi c0_i32_2 c16_i32
  let c1_i32 : BitVec 32 := 1#32
  ⟨c0_i32_2, v5, c1_i32⟩
def k0_off1 (k0_t1 : Fin k0_t1_loop.trips) : Fin 3 → Nat :=
  let c0_i32_2 : BitVec 32 := 0#32
  let c1_i32 : BitVec 32 := 1#32
  let arg22 : BitVec 32 := Scf.iv c0_i32_2 c1_i32 k0_t1
  let v6 : Index := Scalar.indexCast arg22
  let c0 : Index := 0#32
  let c0_4 : Index := 0#32
  ![v6.toNat, 0, 0]
def k0_off2 (k0_t1 : Fin k0_t1_loop.trips) : Fin 3 → Nat :=
  let c0_i32_2 : BitVec 32 := 0#32
  let c1_i32 : BitVec 32 := 1#32
  let arg22 : BitVec 32 := Scf.iv c0_i32_2 c1_i32 k0_t1
  let v9 : Index := Scalar.indexCast arg22
  let c8 : Index := 8#32
  let c0_5 : Index := 0#32
  ![v9.toNat, 8, 0]
def k0_off3 (k0_t1 : Fin k0_t1_loop.trips) : Fin 3 → Nat :=
  let c0_i32_2 : BitVec 32 := 0#32
  let c1_i32 : BitVec 32 := 1#32
  let arg22 : BitVec 32 := Scf.iv c0_i32_2 c1_i32 k0_t1
  let v13 : Index := Scalar.indexCast arg22
  let c0_6 : Index := 0#32
  let c0_7 : Index := 0#32
  ![v13.toNat, 0, 0]
def k0_off4 (k0_t1 : Fin k0_t1_loop.trips) : Fin 3 → Nat :=
  let c0_i32_2 : BitVec 32 := 0#32
  let c1_i32 : BitVec 32 := 1#32
  let arg22 : BitVec 32 := Scf.iv c0_i32_2 c1_i32 k0_t1
  let v16 : Index := Scalar.indexCast arg22
  let c0_8 : Index := 0#32
  let c0_9 : Index := 0#32
  ![v16.toNat, 0, 0]
def k0_off5 (k0_t1 : Fin k0_t1_loop.trips) : Fin 3 → Nat :=
  let c0_i32_2 : BitVec 32 := 0#32
  let c1_i32 : BitVec 32 := 1#32
  let arg22 : BitVec 32 := Scf.iv c0_i32_2 c1_i32 k0_t1
  let v19 : Index := Scalar.indexCast arg22
  let c5 : Index := 5#32
  let c0_10 : Index := 0#32
  ![v19.toNat, 5, 0]
def k0_off6 (k0_t1 : Fin k0_t1_loop.trips) : Fin 3 → Nat :=
  let c0_i32_2 : BitVec 32 := 0#32
  let c1_i32 : BitVec 32 := 1#32
  let arg22 : BitVec 32 := Scf.iv c0_i32_2 c1_i32 k0_t1
  let v27 : Index := Scalar.indexCast arg22
  let c6 : Index := 6#32
  let c0_11 : Index := 0#32
  ![v27.toNat, 6, 0]
def k0_off7 (k0_t1 : Fin k0_t1_loop.trips) : Fin 3 → Nat :=
  let c0_i32_2 : BitVec 32 := 0#32
  let c1_i32 : BitVec 32 := 1#32
  let arg22 : BitVec 32 := Scf.iv c0_i32_2 c1_i32 k0_t1
  let v34 : Index := Scalar.indexCast arg22
  let c7 : Index := 7#32
  let c0_12 : Index := 0#32
  ![v34.toNat, 7, 0]
def k0_off8 (k0_t1 : Fin k0_t1_loop.trips) : Fin 3 → Nat :=
  let c0_i32_2 : BitVec 32 := 0#32
  let c1_i32 : BitVec 32 := 1#32
  let arg22 : BitVec 32 := Scf.iv c0_i32_2 c1_i32 k0_t1
  let v49 : Index := Scalar.indexCast arg22
  let c5_15 : Index := 5#32
  let c0_16 : Index := 0#32
  ![v49.toNat, 5, 0]
def k0_off9 (k0_t1 : Fin k0_t1_loop.trips) : Fin 3 → Nat :=
  let c0_i32_2 : BitVec 32 := 0#32
  let c1_i32 : BitVec 32 := 1#32
  let arg22 : BitVec 32 := Scf.iv c0_i32_2 c1_i32 k0_t1
  let v54 : Index := Scalar.indexCast arg22
  let c0_17 : Index := 0#32
  let c0_18 : Index := 0#32
  ![v54.toNat, 0, 0]
def k0_off10 (k0_t1 : Fin k0_t1_loop.trips) : Fin 3 → Nat :=
  let c0_i32_2 : BitVec 32 := 0#32
  let c1_i32 : BitVec 32 := 1#32
  let arg22 : BitVec 32 := Scf.iv c0_i32_2 c1_i32 k0_t1
  let v108 : Index := Scalar.indexCast arg22
  let c0_38 : Index := 0#32
  let c0_39 : Index := 0#32
  ![v108.toNat, 0, 0]
def k0_mult1 : BitVec 32 :=
  let c0_i32_40 : BitVec 32 := 0#32
  let c8_i32 : BitVec 32 := 8#32
  let v111 : BitVec 32 := Scalar.muli c0_i32_40 c8_i32
  v111
def k0_off11 (c0_i32_40 : BitVec 32) : Fin 2 → Nat :=
  let c8_i32 : BitVec 32 := 8#32
  let v111 : BitVec 32 := Scalar.muli c0_i32_40 c8_i32
  let v112 : BitVec 32 := v111
  let v113 : Index := Scalar.indexCast v112
  let c0_41 : Index := 0#32
  ![v113.toNat, 0]
def k0_mult2 : BitVec 32 :=
  let c1_i32_57 : BitVec 32 := 1#32
  let c8_i32_58 : BitVec 32 := 8#32
  let v159 : BitVec 32 := Scalar.muli c1_i32_57 c8_i32_58
  v159
def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v223 : BitVec 32 := Scalar.extui v0
  let c0_i32_86 : BitVec 32 := 0#32
  let v224 : BitVec 1 := Scalar.cmpi .ne v223 c0_i32_86
  v224

def k0_off12 (k0_t1 : Fin k0_t1_loop.trips) : Fin 4 → Nat :=
  let c0_87 : Index := 0#32
  let c0_i32_2 : BitVec 32 := 0#32
  let c1_i32 : BitVec 32 := 1#32
  let arg22 : BitVec 32 := Scf.iv c0_i32_2 c1_i32 k0_t1
  let v225 : Index := Scalar.indexCast arg22
  let c0_88 : Index := 0#32
  let c0_89 : Index := 0#32
  ![0, v225.toNat, 0, 0]
def k0_off13 (k0_t1 : Fin k0_t1_loop.trips) : Fin 4 → Nat :=
  let c0_90 : Index := 0#32
  let c0_i32_2 : BitVec 32 := 0#32
  let c1_i32 : BitVec 32 := 1#32
  let arg22 : BitVec 32 := Scf.iv c0_i32_2 c1_i32 k0_t1
  let v230 : Index := Scalar.indexCast arg22
  let c0_91 : Index := 0#32
  let c0_92 : Index := 0#32
  ![0, v230.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c1_i32 : BitVec 32 := 1#32
  let v1 : BitVec 32 := Scalar.muli arg0 c1_i32
  let v2 : BitVec 32 := Scalar.addi v1 arg2
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c1_i32 : BitVec 32 := 1#32
  let v1 : BitVec 32 := Scalar.muli arg0 c1_i32
  let v2 : BitVec 32 := Scalar.addi v1 arg2
  let c0_i32 : BitVec 32 := 0#32
  let c0_i32_0 : BitVec 32 := 0#32
  ![v0.toNat, v2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![arg1.toNat, v1.toNat, c0_i32.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S16x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S16x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S16x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S16x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S16x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S16x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]

abbrev stage0_11 : Fin 2 → Memref sig .tc .vmem S16x16x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x16x3x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x16x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== RglruRefIdeal.lean ====
abbrev S128x256x128 : Shape := ⟨3, ![128, 256, 128]⟩
abbrev S16x3x2048 : Shape := ⟨3, ![16, 3, 2048]⟩
abbrev S16x2048 : Shape := ⟨2, ![16, 2048]⟩
abbrev S4x2048 : Shape := ⟨2, ![4, 2048]⟩
abbrev S2048 : Shape := ⟨1, ![2048]⟩
abbrev S16x128x128 : Shape := ⟨3, ![16, 128, 128]⟩
abbrev S256x128x128 : Shape := ⟨3, ![256, 128, 128]⟩
abbrev S16x16x16384 : Shape := ⟨3, ![16, 16, 16384]⟩
abbrev S16x16x2048 : Shape := ⟨3, ![16, 16, 2048]⟩
abbrev S16x19x2048 : Shape := ⟨3, ![16, 19, 2048]⟩
abbrev S1x2048 : Shape := ⟨2, ![1, 2048]⟩
abbrev S1x1x2048 : Shape := ⟨3, ![1, 1, 2048]⟩
abbrev S16x16x16x128 : Shape := ⟨4, ![16, 16, 16, 128]⟩
abbrev S16x128x16x16 : Shape := ⟨4, ![16, 128, 16, 16]⟩
abbrev S_ : Shape := ⟨0, ![]⟩
abbrev S16x1x2048 : Shape := ⟨3, ![16, 1, 2048]⟩
abbrev S256x16x128 : Shape := ⟨3, ![256, 16, 128]⟩
abbrev S16x256x128 : Shape := ⟨3, ![16, 256, 128]⟩
abbrev S16x3x16x128 : Shape := ⟨4, ![16, 3, 16, 128]⟩
abbrev S16x16x3x128 : Shape := ⟨4, ![16, 16, 3, 128]⟩
abbrev S16x16x1x128 : Shape := ⟨4, ![16, 16, 1, 128]⟩

abbrev nBuf : Space → Nat
  | .hbm => 235
  | .vmem => 0
  | .smem => 0
  | _ => 0

abbrev hbmTy0_0 (i : Nat) : BufTy := match i % 128 with
  | 0 => ⟨S128x256x128, .f32⟩
  | 1 => ⟨S16x3x2048, .f32⟩
  | 2 => ⟨S16x2048, .f32⟩
  | 3 => ⟨S4x2048, .f32⟩
  | 4 => ⟨S2048, .f32⟩
  | 5 => ⟨S16x128x128, .f32⟩
  | 6 => ⟨S2048, .f32⟩
  | 7 => ⟨S16x128x128, .f32⟩
  | 8 => ⟨S2048, .f32⟩
  | 9 => ⟨S2048, .f32⟩
  | 10 => ⟨S256x128x128, .f32⟩
  | 11 => ⟨S16x16x16384, .f32⟩
  | 12 => ⟨S16x16x2048, .f32⟩
  | 13 => ⟨S16x16x2048, .f32⟩
  | 14 => ⟨S16x19x2048, .f32⟩
  | 15 => ⟨S16x16x2048, .f32⟩
  | 16 => ⟨S1x2048, .f32⟩
  | 17 => ⟨S2048, .f32⟩
  | 18 => ⟨S1x1x2048, .f32⟩
  | 19 => ⟨S16x16x2048, .f32⟩
  | 20 => ⟨S16x16x2048, .f32⟩
  | 21 => ⟨S1x1x2048, .f32⟩
  | 22 => ⟨S16x16x2048, .f32⟩
  | 23 => ⟨S16x16x2048, .f32⟩
  | 24 => ⟨S16x16x2048, .f32⟩
  | 25 => ⟨S1x2048, .f32⟩
  | 26 => ⟨S2048, .f32⟩
  | 27 => ⟨S1x1x2048, .f32⟩
  | 28 => ⟨S16x16x2048, .f32⟩
  | 29 => ⟨S16x16x2048, .f32⟩
  | 30 => ⟨S16x16x2048, .f32⟩
  | 31 => ⟨S16x16x2048, .f32⟩
  | 32 => ⟨S1x2048, .f32⟩
  | 33 => ⟨S2048, .f32⟩
  | 34 => ⟨S1x1x2048, .f32⟩
  | 35 => ⟨S16x16x2048, .f32⟩
  | 36 => ⟨S16x16x2048, .f32⟩
  | 37 => ⟨S16x16x2048, .f32⟩
  | 38 => ⟨S16x16x2048, .f32⟩
  | 39 => ⟨S1x2048, .f32⟩
  | 40 => ⟨S2048, .f32⟩
  | 41 => ⟨S1x1x2048, .f32⟩
  | 42 => ⟨S16x16x2048, .f32⟩
  | 43 => ⟨S16x16x2048, .f32⟩
  | 44 => ⟨S16x16x2048, .f32⟩
  | 45 => ⟨S16x3x2048, .f32⟩
  | 46 => ⟨S16x16x16x128, .f32⟩
  | 47 => ⟨S16x128x16x16, .f32⟩
  | 48 => ⟨S16x16x16x128, .f32⟩
  | 49 => ⟨S16x16x2048, .f32⟩
  | 50 => ⟨S1x1x2048, .f32⟩
  | 51 => ⟨S16x16x2048, .f32⟩
  | 52 => ⟨S16x16x2048, .f32⟩
  | 53 => ⟨S16x16x2048, .f32⟩
  | 54 => ⟨S16x16x2048, .f32⟩
  | 55 => ⟨S_, .f32⟩
  | 56 => ⟨S16x16x2048, .f32⟩
  | 57 => ⟨S16x16x2048, .f32⟩
  | 58 => ⟨S_, .f32⟩
  | 59 => ⟨S16x16x2048, .f32⟩
  | 60 => ⟨S16x16x2048, .f32⟩
  | 61 => ⟨S16x16x16x128, .f32⟩
  | 62 => ⟨S16x128x16x16, .f32⟩
  | 63 => ⟨S16x16x16x128, .f32⟩
  | 64 => ⟨S16x16x2048, .f32⟩
  | 65 => ⟨S1x1x2048, .f32⟩
  | 66 => ⟨S16x16x2048, .f32⟩
  | 67 => ⟨S16x16x2048, .f32⟩
  | 68 => ⟨S16x16x2048, .f32⟩
  | 69 => ⟨S16x16x2048, .f32⟩
  | 70 => ⟨S_, .f32⟩
  | 71 => ⟨S16x16x2048, .f32⟩
  | 72 => ⟨S16x16x2048, .f32⟩
  | 73 => ⟨S_, .f32⟩
  | 74 => ⟨S16x16x2048, .f32⟩
  | 75 => ⟨S16x16x2048, .f32⟩
  | 76 => ⟨S_, .f32⟩
  | 77 => ⟨S16x16x2048, .f32⟩
  | 78 => ⟨S16x16x2048, .f32⟩
  | 79 => ⟨S2048, .f32⟩
  | 80 => ⟨S_, .f32⟩
  | 81 => ⟨S2048, .f32⟩
  | 82 => ⟨S2048, .f32⟩
  | 83 => ⟨S2048, .f32⟩
  | 84 => ⟨S2048, .f32⟩
  | 85 => ⟨S2048, .i1⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S2048, .f32⟩
  | 93 => ⟨S2048, .f32⟩
  | 94 => ⟨S1x1x2048, .f32⟩
  | 95 => ⟨S16x16x2048, .f32⟩
  | 96 => ⟨S16x16x2048, .f32⟩
  | 97 => ⟨S16x16x2048, .f32⟩
  | 98 => ⟨S_, .f32⟩
  | 99 => ⟨S16x16x2048, .f32⟩
  | 100 => ⟨S16x16x2048, .f32⟩
  | 101 => ⟨S16x16x2048, .f32⟩
  | 102 => ⟨S16x16x2048, .f32⟩
  | 103 => ⟨S16x16x2048, .f32⟩
  | 104 => ⟨S16x16x2048, .f32⟩
  | 105 => ⟨S16x16x2048, .f32⟩
  | 106 => ⟨S16x1x2048, .f32⟩
  | 107 => ⟨S16x2048, .f32⟩
  | 108 => ⟨S16x2048, .f32⟩
  | 109 => ⟨S16x1x2048, .f32⟩
  | 110 => ⟨S16x2048, .f32⟩
  | 111 => ⟨S16x2048, .f32⟩
  | 112 => ⟨S16x1x2048, .f32⟩
  | 113 => ⟨S16x2048, .f32⟩
  | 114 => ⟨S16x2048, .f32⟩
  | 115 => ⟨S16x1x2048, .f32⟩
  | 116 => ⟨S16x2048, .f32⟩
  | 117 => ⟨S16x2048, .f32⟩
  | 118 => ⟨S16x1x2048, .f32⟩
  | 119 => ⟨S16x2048, .f32⟩
  | 120 => ⟨S16x2048, .f32⟩
  | 121 => ⟨S16x1x2048, .f32⟩
  | 122 => ⟨S16x2048, .f32⟩
  | 123 => ⟨S16x2048, .f32⟩
  | 124 => ⟨S16x1x2048, .f32⟩
  | 125 => ⟨S16x2048, .f32⟩
  | 126 => ⟨S16x2048, .f32⟩
  | 127 => ⟨S16x1x2048, .f32⟩
  | _ => ⟨S128x256x128, .f32⟩

abbrev hbmTy0_1 (i : Nat) : BufTy := match i % 128 with
  | 0 => ⟨S16x2048, .f32⟩
  | 1 => ⟨S16x2048, .f32⟩
  | 2 => ⟨S16x1x2048, .f32⟩
  | 3 => ⟨S16x2048, .f32⟩
  | 4 => ⟨S16x2048, .f32⟩
  | 5 => ⟨S16x1x2048, .f32⟩
  | 6 => ⟨S16x2048, .f32⟩
  | 7 => ⟨S16x2048, .f32⟩
  | 8 => ⟨S16x1x2048, .f32⟩
  | 9 => ⟨S16x2048, .f32⟩
  | 10 => ⟨S16x2048, .f32⟩
  | 11 => ⟨S16x1x2048, .f32⟩
  | 12 => ⟨S16x2048, .f32⟩
  | 13 => ⟨S16x2048, .f32⟩
  | 14 => ⟨S16x1x2048, .f32⟩
  | 15 => ⟨S16x2048, .f32⟩
  | 16 => ⟨S16x2048, .f32⟩
  | 17 => ⟨S16x1x2048, .f32⟩
  | 18 => ⟨S16x2048, .f32⟩
  | 19 => ⟨S16x2048, .f32⟩
  | 20 => ⟨S16x1x2048, .f32⟩
  | 21 => ⟨S16x2048, .f32⟩
  | 22 => ⟨S16x2048, .f32⟩
  | 23 => ⟨S16x1x2048, .f32⟩
  | 24 => ⟨S16x2048, .f32⟩
  | 25 => ⟨S16x2048, .f32⟩
  | 26 => ⟨S16x1x2048, .f32⟩
  | 27 => ⟨S16x2048, .f32⟩
  | 28 => ⟨S16x2048, .f32⟩
  | 29 => ⟨S16x1x2048, .f32⟩
  | 30 => ⟨S16x2048, .f32⟩
  | 31 => ⟨S16x2048, .f32⟩
  | 32 => ⟨S16x1x2048, .f32⟩
  | 33 => ⟨S16x2048, .f32⟩
  | 34 => ⟨S16x2048, .f32⟩
  | 35 => ⟨S16x1x2048, .f32⟩
  | 36 => ⟨S16x2048, .f32⟩
  | 37 => ⟨S16x2048, .f32⟩
  | 38 => ⟨S16x1x2048, .f32⟩
  | 39 => ⟨S16x2048, .f32⟩
  | 40 => ⟨S16x2048, .f32⟩
  | 41 => ⟨S16x1x2048, .f32⟩
  | 42 => ⟨S16x2048, .f32⟩
  | 43 => ⟨S16x2048, .f32⟩
  | 44 => ⟨S16x1x2048, .f32⟩
  | 45 => ⟨S16x2048, .f32⟩
  | 46 => ⟨S16x2048, .f32⟩
  | 47 => ⟨S16x1x2048, .f32⟩
  | 48 => ⟨S16x2048, .f32⟩
  | 49 => ⟨S16x2048, .f32⟩
  | 50 => ⟨S16x1x2048, .f32⟩
  | 51 => ⟨S16x2048, .f32⟩
  | 52 => ⟨S16x2048, .f32⟩
  | 53 => ⟨S16x1x2048, .f32⟩
  | 54 => ⟨S16x2048, .f32⟩
  | 55 => ⟨S16x2048, .f32⟩
  | 56 => ⟨S16x1x2048, .f32⟩
  | 57 => ⟨S16x2048, .f32⟩
  | 58 => ⟨S16x2048, .f32⟩
  | 59 => ⟨S16x1x2048, .f32⟩
  | 60 => ⟨S16x2048, .f32⟩
  | 61 => ⟨S16x2048, .f32⟩
  | 62 => ⟨S16x1x2048, .f32⟩
  | 63 => ⟨S16x2048, .f32⟩
  | 64 => ⟨S16x2048, .f32⟩
  | 65 => ⟨S16x1x2048, .f32⟩
  | 66 => ⟨S16x2048, .f32⟩
  | 67 => ⟨S16x2048, .f32⟩
  | 68 => ⟨S16x1x2048, .f32⟩
  | 69 => ⟨S16x2048, .f32⟩
  | 70 => ⟨S16x2048, .f32⟩
  | 71 => ⟨S16x1x2048, .f32⟩
  | 72 => ⟨S16x2048, .f32⟩
  | 73 => ⟨S16x2048, .f32⟩
  | 74 => ⟨S16x1x2048, .f32⟩
  | 75 => ⟨S16x1x2048, .f32⟩
  | 76 => ⟨S16x1x2048, .f32⟩
  | 77 => ⟨S16x1x2048, .f32⟩
  | 78 => ⟨S16x1x2048, .f32⟩
  | 79 => ⟨S16x1x2048, .f32⟩
  | 80 => ⟨S16x1x2048, .f32⟩
  | 81 => ⟨S16x1x2048, .f32⟩
  | 82 => ⟨S16x1x2048, .f32⟩
  | 83 => ⟨S16x1x2048, .f32⟩
  | 84 => ⟨S16x1x2048, .f32⟩
  | 85 => ⟨S16x1x2048, .f32⟩
  | 86 => ⟨S16x1x2048, .f32⟩
  | 87 => ⟨S16x1x2048, .f32⟩
  | 88 => ⟨S16x1x2048, .f32⟩
  | 89 => ⟨S16x1x2048, .f32⟩
  | 90 => ⟨S16x16x2048, .f32⟩
  | 91 => ⟨S16x16x2048, .f32⟩
  | 92 => ⟨S16x16x2048, .f32⟩
  | 93 => ⟨S_, .f32⟩
  | 94 => ⟨S16x16x2048, .f32⟩
  | 95 => ⟨S16x16x2048, .f32⟩
  | 96 => ⟨S_, .f32⟩
  | 97 => ⟨S16x16x2048, .f32⟩
  | 98 => ⟨S16x16x2048, .f32⟩
  | 99 => ⟨S16x16x2048, .f32⟩
  | 100 => ⟨S16x16x2048, .f32⟩
  | 101 => ⟨S256x16x128, .f32⟩
  | 102 => ⟨S16x256x128, .f32⟩
  | 103 => ⟨S16x256x128, .bf16⟩
  | 104 => ⟨S16x3x16x128, .f32⟩
  | 105 => ⟨S16x16x3x128, .f32⟩
  | 106 => ⟨S16x16x1x128, .f32⟩
  | _ => ⟨S128x256x128, .f32⟩

abbrev hbmTy (i : Nat) : BufTy := match i / 128 with
  | 0 => hbmTy0_0 i
  | 1 => hbmTy0_1 i
  | _ => ⟨S128x256x128, .f32⟩

abbrev bufTy : (tb : Table) → Fin (tcTables nBuf tb) → BufTy
  | .hbm, ⟨i, _⟩ => hbmTy i
  | _, _ => ⟨S128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst : Ref sig .tc := ⟨.hbm, 55, rfl⟩
abbrev main_v45 : Ref sig .tc := ⟨.hbm, 56, rfl⟩
abbrev main_v46 : Ref sig .tc := ⟨.hbm, 57, rfl⟩
abbrev main_cst_0 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_1 : Ref sig .tc := ⟨.hbm, 70, rfl⟩
abbrev main_v58 : Ref sig .tc := ⟨.hbm, 71, rfl⟩
abbrev main_v59 : Ref sig .tc := ⟨.hbm, 72, rfl⟩
abbrev main_cst_2 : Ref sig .tc := ⟨.hbm, 73, rfl⟩
abbrev main_v60 : Ref sig .tc := ⟨.hbm, 74, rfl⟩
abbrev main_v61 : Ref sig .tc := ⟨.hbm, 75, rfl⟩
abbrev main_cst_3 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_4 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_call1_v0 : Ref sig .tc := ⟨.hbm, 219, rfl⟩
abbrev main_call1_v1 : Ref sig .tc := ⟨.hbm, 220, rfl⟩
abbrev main_call1_cst : Ref sig .tc := ⟨.hbm, 221, rfl⟩
abbrev main_call1_v2 : Ref sig .tc := ⟨.hbm, 222, rfl⟩
abbrev main_call1_v3 : Ref sig .tc := ⟨.hbm, 223, rfl⟩
abbrev main_call1_cst_0 : Ref sig .tc := ⟨.hbm, 224, rfl⟩
abbrev main_call1_v4 : Ref sig .tc := ⟨.hbm, 225, rfl⟩
abbrev main_call1_v5 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩

abbrev nD : Nat := 1
abbrev τ : Topo := Topo.v7x

variable {F : FTy → Type} [FloatOps F]
-- ==== OutSample.lean ====
abbrev S16x256x128 : Shape := ⟨3, ![16, 256, 128]⟩
abbrev S128x256x128 : Shape := ⟨3, ![128, 256, 128]⟩
abbrev S16x16x2048 : Shape := ⟨3, ![16, 16, 2048]⟩
abbrev S2048x2048 : Shape := ⟨2, ![2048, 2048]⟩
abbrev S2048 : Shape := ⟨1, ![2048]⟩
abbrev S256x2048 : Shape := ⟨2, ![256, 2048]⟩
abbrev S1x2048 : Shape := ⟨2, ![1, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 14
  | .vmem => 10
  | .smem => 0
  | _ => 0

abbrev bufTy : (tb : Table) → Fin (tcTables nBuf tb) → BufTy
  | .hbm, ⟨0, _⟩ => ⟨S16x256x128, .bf16⟩
  | .hbm, ⟨1, _⟩ => ⟨S16x256x128, .bf16⟩
  | .hbm, ⟨2, _⟩ => ⟨S128x256x128, .f32⟩
  | .hbm, ⟨3, _⟩ => ⟨S16x16x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S256x2048, .f32⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S1x2048, .f32⟩
  | .hbm, ⟨13, _⟩ => ⟨S256x2048, .f32⟩
  | .local _ .vmem, ⟨0, _⟩ => ⟨S16x256x128, .bf16⟩
  | .local _ .vmem, ⟨1, _⟩ => ⟨S16x256x128, .bf16⟩
  | .local _ .vmem, ⟨2, _⟩ => ⟨S16x256x128, .f32⟩
  | .local _ .vmem, ⟨3, _⟩ => ⟨S16x256x128, .f32⟩
  | .local _ .vmem, ⟨4, _⟩ => ⟨S256x2048, .f32⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S256x2048, .f32⟩
  | _, _ => ⟨S16x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_3 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== OutSampleRefIdeal.lean ====
abbrev S16x256x128 : Shape := ⟨3, ![16, 256, 128]⟩
abbrev S128x256x128 : Shape := ⟨3, ![128, 256, 128]⟩
abbrev S16x16x2048 : Shape := ⟨3, ![16, 16, 2048]⟩
abbrev S2048x2048 : Shape := ⟨2, ![2048, 2048]⟩
abbrev S2048 : Shape := ⟨1, ![2048]⟩
abbrev S256x128x128 : Shape := ⟨3, ![256, 128, 128]⟩
abbrev S16x16x16384 : Shape := ⟨3, ![16, 16, 16384]⟩
abbrev S256x16x128 : Shape := ⟨3, ![256, 16, 128]⟩
abbrev S_ : Shape := ⟨0, ![]⟩
abbrev S16x16 : Shape := ⟨2, ![16, 16]⟩
abbrev S16x16x1 : Shape := ⟨3, ![16, 16, 1]⟩
abbrev S1x1x2048 : Shape := ⟨3, ![1, 1, 2048]⟩
abbrev S256x2048 : Shape := ⟨2, ![256, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16x256x128, .bf16⟩
  | .hbm, ⟨1, _⟩ => ⟨S16x256x128, .bf16⟩
  | .hbm, ⟨2, _⟩ => ⟨S128x256x128, .f32⟩
  | .hbm, ⟨3, _⟩ => ⟨S16x16x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S256x128x128, .f32⟩
  | .hbm, ⟨9, _⟩ => ⟨S16x16x16384, .f32⟩
  | .hbm, ⟨10, _⟩ => ⟨S16x16x2048, .f32⟩
  | .hbm, ⟨11, _⟩ => ⟨S16x16x2048, .f32⟩
  | .hbm, ⟨12, _⟩ => ⟨S256x16x128, .bf16⟩
  | .hbm, ⟨13, _⟩ => ⟨S16x16x2048, .bf16⟩
  | .hbm, ⟨14, _⟩ => ⟨S16x16x2048, .f32⟩
  | .hbm, ⟨15, _⟩ => ⟨S16x16x2048, .f32⟩
  | .hbm, ⟨16, _⟩ => ⟨S256x16x128, .bf16⟩
  | .hbm, ⟨17, _⟩ => ⟨S16x16x2048, .bf16⟩
  | .hbm, ⟨18, _⟩ => ⟨S16x16x2048, .f32⟩
  | .hbm, ⟨19, _⟩ => ⟨S16x16x2048, .f32⟩
  | .hbm, ⟨20, _⟩ => ⟨S16x16x2048, .f32⟩
  | .hbm, ⟨21, _⟩ => ⟨S16x16x2048, .f32⟩
  | .hbm, ⟨22, _⟩ => ⟨S_, .f32⟩
  | .hbm, ⟨23, _⟩ => ⟨S16x16x2048, .f32⟩
  | .hbm, ⟨24, _⟩ => ⟨S16x16x2048, .f32⟩
  | .hbm, ⟨25, _⟩ => ⟨S_, .f32⟩
  | .hbm, ⟨26, _⟩ => ⟨S16x16x2048, .f32⟩
  | .hbm, ⟨27, _⟩ => ⟨S16x16x2048, .f32⟩
  | .hbm, ⟨28, _⟩ => ⟨S16x16x2048, .f32⟩
  | .hbm, ⟨29, _⟩ => ⟨S16x16x2048, .f32⟩
  | .hbm, ⟨30, _⟩ => ⟨S16x16x2048, .f32⟩
  | .hbm, ⟨31, _⟩ => ⟨S_, .f32⟩
  | .hbm, ⟨32, _⟩ => ⟨S16x16x2048, .f32⟩
  | .hbm, ⟨33, _⟩ => ⟨S16x16x2048, .f32⟩
  | .hbm, ⟨34, _⟩ => ⟨S_, .f32⟩
  | .hbm, ⟨35, _⟩ => ⟨S16x16x2048, .f32⟩
  | .hbm, ⟨36, _⟩ => ⟨S16x16x2048, .f32⟩
  | .hbm, ⟨37, _⟩ => ⟨S16x16x2048, .f32⟩
  | .hbm, ⟨38, _⟩ => ⟨S16x16x2048, .f32⟩
  | .hbm, ⟨39, _⟩ => ⟨S16x16x2048, .f32⟩
  | .hbm, ⟨40, _⟩ => ⟨S16x16x2048, .f32⟩
  | .hbm, ⟨41, _⟩ => ⟨S_, .f32⟩
  | .hbm, ⟨42, _⟩ => ⟨S16x16, .f32⟩
  | .hbm, ⟨43, _⟩ => ⟨S16x16x1, .f32⟩
  | .hbm, ⟨44, _⟩ => ⟨S_, .f32⟩
  | .hbm, ⟨45, _⟩ => ⟨S16x16x1, .f32⟩
  | .hbm, ⟨46, _⟩ => ⟨S16x16x1, .f32⟩
  | .hbm, ⟨47, _⟩ => ⟨S_, .f32⟩
  | .hbm, ⟨48, _⟩ => ⟨S16x16x1, .f32⟩
  | .hbm, ⟨49, _⟩ => ⟨S16x16x1, .f32⟩
  | .hbm, ⟨50, _⟩ => ⟨S16x16x1, .f32⟩
  | .hbm, ⟨51, _⟩ => ⟨S16x16x2048, .f32⟩
  | .hbm, ⟨52, _⟩ => ⟨S16x16x2048, .f32⟩
  | .hbm, ⟨53, _⟩ => ⟨S1x1x2048, .f32⟩
  | .hbm, ⟨54, _⟩ => ⟨S16x16x2048, .f32⟩
  | .hbm, ⟨55, _⟩ => ⟨S16x16x2048, .f32⟩
  | .hbm, ⟨56, _⟩ => ⟨S16x16x2048, .f32⟩
  | .hbm, ⟨57, _⟩ => ⟨S256x2048, .f32⟩
  | _, _ => ⟨S16x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.InProjBlock.lean ====
/- What one grid point of the input projection leaves: in the output block, the product of the normalised rows by
   the point's columns of the weight, its eight groups of 128 columns laid on the leading axis; in the carried buffer, the
   normalised rows. -/
module

public import proofs.«01_k».proof.Proof.Gen.InProjIdeal.Value
public import Idealize.ShloMosaic.Lib.Tactic
public import Idealize.ShloMosaic.Lib.Pointwise.Tactic
public import Idealize.ShloMosaic.Lib.Pointwise
public import Idealize.ShloMosaic.Lib.ValueIdx
public import Idealize.ShloMosaic.Lib.ValueLayout

@[expose] public section

set_option maxRecDepth 16384

noncomputable section

open Idealize.ShloMosaic Idealize.ShloMosaic.TcCoe Idealize.SL.Sem

namespace Cert.InProjIdeal.Block

open Cert.InProjIdeal Cert.InProjIdeal.Gen

variable {F : FTy → Type} [FloatOps F]

theorem hz : (![0, 0] : Fin 2 → Nat) = fun _ => 0 := funext fun a => by fin_cases a <;> rfl

/-- The eight groups of 128 columns of a block of columns, laid on the leading axis. -/
def fan (v : FVec F S1024x1024 .f32) : FVec F S8x1024x128 .f32 := fun y =>
  v (ix2 (y 1) ⟨128 * (y 0).val + (y 2).val, by
    have h0 : (y 0).val < 8 := (y 0).isLt; have h2 : (y 2).val < 128 := (y 2).isLt; omega⟩)

/-- One group of 128 columns, given a leading unit axis, is the group's row of `fan`. -/
theorem piece_eq (v : FVec F S1024x1024 .f32) (k o : Nat) (ho : o = 128 * k) (hs : S1024x1024.Slices ![0, o] S1024x128)
    (hc : S1024x128.ShapeCasts S1x1024x128) (inb : ∀ a, (![k, 0, 0] : Fin 3 → Nat) a + S1x1024x128.size a ≤ S8x1024x128.size a)
    (x : S1x1024x128.Idx) :
    shapeCast S1x1024x128 (extractStridedSlice S1024x128 ![0, o] v hs) hc x
      = fan v ((Rect.unit (s := S8x1024x128) ![k, 0, 0] S1x1024x128.size inb).emb x) := by
  subst ho
  have h0 : (x 0).val < 1 := (x 0).isLt
  rw [eq_ix3 x]
  refine (ValueIdx.shapeCast_ab_1ab_apply _ _ _ _ _).trans ?_
  unfold fan extractStridedSlice
  congr 1
  funext a
  apply Fin.ext
  match a with
  | ⟨0, _⟩ => show 0 + (x 1).val = 0 + 1 * (x 1).val; omega
  | ⟨1, _⟩ => show 128 * k + (x 2).val = 128 * (k + 1 * (x 0).val) + (0 + 1 * (x 2).val); omega

/-- A list of eight such groups, in any buffer it covers, reads as `fan`. -/
theorem groups_eq (v : FVec F S1024x1024 .f32) (L : List (View.Piece (Elt F) S8x1024x128 .f32))
    (hL : ∀ p ∈ L, ∀ x : p.1.shape.Idx, p.2 x = fan v (p.1.emb x)) (hc : ∀ y, ∃ p ∈ L, y ∈ p.1.set) :
    View.canon L = fan v := funext fun y => View.canon_apply_of_pieces (fan v) L hL y (hc y)

/-- A later point of a row block: the carried rows times the point's columns. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S8x1024x128 .f32) (harg5 : arg5.IsWhole) (arg6 : Memref sig .tc .vmem S1024x2048 .bf16) (harg6 : arg6.IsWhole) (hc0 : ¬cond0_0 i)
    (x0 : Vec F S1024x2048 .f32) (x1 : Vec F S1x2048 .f32) (x2 : Vec F S2048x1024 .bf16) (xs0 : Vec F S1024x2048 .bf16) :
    out0_B_3 c i arg2 harg2 arg3 harg3 arg4 harg4 arg5 harg5 arg6 harg6 hc0 x0 x1 x2 xs0 = fan (k0_pay5 xs0 x2) := by
  unfold out0_B_3
  rw [View.read_writes_junk_eq_canon]
  refine groups_eq _ _ ?_ (cover0_B_3 c i arg2 harg2 arg3 harg3 arg4 harg4 arg5 harg5 arg6 harg6 hc0 x0 x1 x2 xs0)
  unfold kernelRun0_B
  dsimp only
  sl_unfold_words
  simp only [View.readAt_eq_ld, harg4.read_unread, harg6.read_unread, View.ld_unit_zero (S := S1024x2048) hz,
    View.ld_unit_zero (S := S2048x1024) hz, List.forall_mem_cons, List.not_mem_nil, false_imp_iff, implies_true, and_true]
  exact ⟨piece_eq _ 7 896 rfl slices_S1024x1024_o0_896_S1024x128 shapeCasts_S1024x128_S1x1024x128 inb_S8x1024x128_S1x1024x128_7_0_0,
    piece_eq _ 6 768 rfl slices_S1024x1024_o0_768_S1024x128 shapeCasts_S1024x128_S1x1024x128 inb_S8x1024x128_S1x1024x128_6_0_0,
    piece_eq _ 5 640 rfl slices_S1024x1024_o0_640_S1024x128 shapeCasts_S1024x128_S1x1024x128 inb_S8x1024x128_S1x1024x128_5_0_0,
    piece_eq _ 4 512 rfl slices_S1024x1024_o0_512_S1024x128 shapeCasts_S1024x128_S1x1024x128 inb_S8x1024x128_S1x1024x128_4_0_0,
    piece_eq _ 3 384 rfl slices_S1024x1024_o0_384_S1024x128 shapeCasts_S1024x128_S1x1024x128 inb_S8x1024x128_S1x1024x128_3_0_0,
    piece_eq _ 2 256 rfl slices_S1024x1024_o0_256_S1024x128 shapeCasts_S1024x128_S1x1024x128 inb_S8x1024x128_S1x1024x128_2_0_0,
    piece_eq _ 1 128 rfl slices_S1024x1024_o0_128_S1024x128 shapeCasts_S1024x128_S1x1024x128 inb_S8x1024x128_S1x1024x128_1_0_0,
    piece_eq _ 0 0 rfl slices_S1024x1024_o0_0_S1024x128 shapeCasts_S1024x128_S1x1024x128 inb_S8x1024x128_S1x1024x128_0_0_0⟩

/-- The first point of a row block: the freshly normalised rows times the point's columns. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S8x1024x128 .f32) (harg5 : arg5.IsWhole) (arg6 : Memref sig .tc .vmem S1024x2048 .bf16) (harg6 : arg6.IsWhole) (hc0 : cond0_0 i)
    (x0 : Vec F S1024x2048 .f32) (x1 : Vec F S1x2048 .f32) (x2 : Vec F S2048x1024 .bf16) :
    out0_A_3 c i arg2 harg2 arg3 harg3 arg4 harg4 arg5 harg5 arg6 harg6 hc0 x0 x1 x2 = fan (k0_pay5 (k0_pay4 x0 x1) x2) := by
  unfold out0_A_3
  rw [View.read_writes_junk_eq_canon]
  refine groups_eq _ _ ?_ (cover0_A_3 c i arg2 harg2 arg3 harg3 arg4 harg4 arg5 harg5 arg6 harg6 hc0 x0 x1 x2)
  unfold kernelRun0_A
  dsimp only
  sl_unfold_words
  simp only [View.readAt_eq_ld, harg2.read_unread, harg3.read_unread, harg4.read_unread, View.ld_unit_zero (S := S1024x2048) hz,
    View.ld_unit_zero (S := S2048x1024) hz, View.ld_unit_zero (S := S1x2048) hz, View.readCov_unit_zero (S := S1024x2048) _ hz,
    List.forall_mem_cons, List.not_mem_nil, false_imp_iff, implies_true, and_true]
  exact ⟨piece_eq _ 7 896 rfl slices_S1024x1024_o0_896_S1024x128 shapeCasts_S1024x128_S1x1024x128 inb_S8x1024x128_S1x1024x128_7_0_0,
    piece_eq _ 6 768 rfl slices_S1024x1024_o0_768_S1024x128 shapeCasts_S1024x128_S1x1024x128 inb_S8x1024x128_S1x1024x128_6_0_0,
    piece_eq _ 5 640 rfl slices_S1024x1024_o0_640_S1024x128 shapeCasts_S1024x128_S1x1024x128 inb_S8x1024x128_S1x1024x128_5_0_0,
    piece_eq _ 4 512 rfl slices_S1024x1024_o0_512_S1024x128 shapeCasts_S1024x128_S1x1024x128 inb_S8x1024x128_S1x1024x128_4_0_0,
    piece_eq _ 3 384 rfl slices_S1024x1024_o0_384_S1024x128 shapeCasts_S1024x128_S1x1024x128 inb_S8x1024x128_S1x1024x128_3_0_0,
    piece_eq _ 2 256 rfl slices_S1024x1024_o0_256_S1024x128 shapeCasts_S1024x128_S1x1024x128 inb_S8x1024x128_S1x1024x128_2_0_0,
    piece_eq _ 1 128 rfl slices_S1024x1024_o0_128_S1024x128 shapeCasts_S1024x128_S1x1024x128 inb_S8x1024x128_S1x1024x128_1_0_0,
    piece_eq _ 0 0 rfl slices_S1024x1024_o0_0_S1024x128 shapeCasts_S1024x128_S1x1024x128 inb_S8x1024x128_S1x1024x128_0_0_0⟩

/-- The first point of a row block leaves the normalised rows in the carried buffer. -/
theorem sout_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S8x1024x128 .f32) (harg5 : arg5.IsWhole) (arg6 : Memref sig .tc .vmem S1024x2048 .bf16) (harg6 : arg6.IsWhole) (hc0 : cond0_0 i)
    (x0 : Vec F S1024x2048 .f32) (x1 : Vec F S1x2048 .f32) (x2 : Vec F S2048x1024 .bf16) :
    sout0_A_0 c i arg2 harg2 arg3 harg3 arg4 harg4 arg5 harg5 arg6 harg6 hc0 x0 x1 x2 = k0_pay4 x0 x1 := by
  unfold sout0_A_0
  rw [View.read_writes_junk_eq_canon]
  unfold kernelRun0_A
  dsimp only
  sl_unfold_words
  simp only [View.readAt_eq_ld, harg2.read_unread, harg3.read_unread, View.ld_unit_zero (S := S1024x2048) hz,
    View.ld_unit_zero (S := S1x2048) hz, View.canon_unit_zero (S := S1024x2048) hz]

end Cert.InProjIdeal.Block

end
-- ==== Proof.InProjValue.lean ====
/- The input projection's result array, at an index, as a sum over the 2048 features of the normalised token by the
   weight's column; and the reference's at the same index: they are equal. -/
module

public import proofs.«01_k».proof.Proof.InProjBlock
public import proofs.«01_k».proof.Proof.Gen.InProjRefIdeal.Read

@[expose] public section

set_option maxRecDepth 16384

noncomputable section

open Idealize.ShloMosaic Idealize.ShloMosaic.TcCoe Idealize.SL.Sem

namespace Cert.InProjIdeal.Block

open Cert.InProjIdeal Cert.InProjIdeal.Gen Cert.InProjIdeal.Value

/-- The reciprocal root mean square of a row of 2048 numbers, the small constant added. -/
def rms (x : Fin 2048 → EReal) : EReal :=
  Ideal.rsqrt (Ideal.div (∑ j, x j * x j) (Ideal.ofBits .f32 0x45000000#32) + Ideal.ofBits .f32 0x358637BD#32)

/-- The normalised rows of a block, at an index. -/
theorem pay4_apply (X : Vec Ideal S1024x2048 .f32) (g : Vec Ideal S1x2048 .f32) (r : Fin 1024) (k : Fin 2048) :
    k0_pay4 X g (ix2 r k) = X (ix2 r k) * rms (fun j => X (ix2 r j)) * g (ix2 0 k) := by
  unfold rms k0_pay4
  pointwise

/-- The product of a block of rows by a block of columns, at an index. -/
theorem pay5_apply (u : Vec Ideal S1024x2048 .bf16) (w : Vec Ideal S2048x1024 .bf16) (r : Fin 1024) (l : Fin 1024) :
    k0_pay5 u w (ix2 r l) = ∑ k : Fin 2048, u (ix2 r k) * w (ix2 k l) := by
  unfold k0_pay5
  pointwise

section
variable {F : FTy → Type} [FloatOps F]
variable (m : (ℓ : Loc nD τ sig) → Buf (Elt F) ℓ)

/-- The first array the kernel reads: the tokens, one row each. -/
theorem V0 (c : Dev nD) : V m c main_v0 = shapeCast S32768x2048 (m ((c : Thread nD τ).loc main_arg0)) shapeCasts_S2x16384x2048_S32768x2048 := by
  unfold V hostOps0
  after_results <;> rfl

theorem V1 (c : Dev nD) : V m c main_v1 = shapeCast S1x2048 (m ((c : Thread nD τ).loc main_arg1)) shapeCasts_S2048_S1x2048 := by
  unfold V hostOps0
  after_results <;> rfl

theorem V2 (c : Dev nD) : V m c main_v2 = (truncf .bf16 (m ((c : Thread nD τ).loc main_arg2)) bitsLt_bf16_f32 : Vec F S2048x16384 .bf16) := by
  unfold V hostOps0
  after_results <;> rfl

/-- Which blocks a point reads: the row block is the point's sixteenth, the column block its remainder. -/
theorem pts : ∀ t : Fin cfg0.N, win0_0.index t (0 : Fin 2) = t.val / 16 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 16 :=
  (by decide +kernel : ∀ t : Fin grid0.N, _)

theorem iblk0_apply (c : Dev nD) (t : Fin cfg0.N) (r : Fin 1024) (k : Fin 2048) :
    (iblk m c 0 t : Vec F S1024x2048 .f32) (ix2 r k)
      = V m c main_v0 (ix2 ⟨1024 * (t.val / 16) + r.val, by have := lt_of_lt_of_eq t.isLt (show cfg0.N = 512 from N_0); omega⟩ k) := by
  obtain ⟨e0, e1, -⟩ := pts t
  unfold iblk
  rw [View.read_apply]
  show V m c main_v0 _ = V m c main_v0 _
  congr 1
  funext a
  apply Fin.ext
  match a with
  | ⟨0, _⟩ => show win0_0.index t 0 * 1024 + 1 * r.val = 1024 * (t.val / 16) + r.val; rw [e0]; omega
  | ⟨1, _⟩ => show win0_0.index t 1 * 2048 + 1 * k.val = k.val; rw [e1]; omega

theorem iblk1_apply (c : Dev nD) (t : Fin cfg0.N) (k : Fin 2048) :
    (iblk m c 1 t : Vec F S1x2048 .f32) (ix2 0 k) = V m c main_v1 (ix2 0 k) := by
  obtain ⟨-, -, e0, e1, -⟩ := pts t
  unfold iblk
  rw [View.read_apply]
  show V m c main_v1 _ = V m c main_v1 _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem iblk2_apply (c : Dev nD) (t : Fin cfg0.N) (k : Fin 2048) (l : Fin 1024) :
    (iblk m c 2 t : Vec F S2048x1024 .bf16) (ix2 k l)
      = V m c main_v2 (ix2 k ⟨1024 * (t.val % 16) + l.val, by omega⟩) := by
  obtain ⟨-, -, -, -, e0, e1⟩ := pts t
  unfold iblk
  rw [View.read_apply]
  show V m c main_v2 _ = V m c main_v2 _
  congr 1
  funext a
  apply Fin.ext
  match a with
  | ⟨0, _⟩ => show win0_2.index t 0 * 2048 + 1 * k.val = k.val; rw [e0]; omega
  | ⟨1, _⟩ => show win0_2.index t 1 * 1024 + 1 * l.val = 1024 * (t.val % 16) + l.val; rw [e1]; omega

/-- The normalised rows of the block that point `t` reads. -/
abbrev rows (c : Dev nD) (t : Fin cfg0.N) : Vec F S1024x2048 .bf16 := k0_pay4 (iblk m c 0 t) (iblk m c 1 t)

/-- The points of one row block read the same rows and the same gain. -/
theorem rows_pred (c : Dev nD) (t : Fin cfg0.N) (hn : ¬t.val % 16 = 0) :
    rows m c ⟨t.val - 1, lt_of_le_of_lt (Nat.sub_le _ _) t.isLt⟩ = rows m c t := by
  have e : (t.val - 1) / 16 = t.val / 16 := by omega
  have e0 : (iblk m c 0 ⟨t.val - 1, lt_of_le_of_lt (Nat.sub_le _ _) t.isLt⟩ : Vec F S1024x2048 .f32) = iblk m c 0 t := by
    funext j
    rw [eq_ix2 j]
    refine (iblk0_apply m c _ (j 0) (j 1)).trans ((?_ : _ = _).trans (iblk0_apply m c _ (j 0) (j 1)).symm)
    simp only [e]
  have e1 : (iblk m c 1 ⟨t.val - 1, lt_of_le_of_lt (Nat.sub_le _ _) t.isLt⟩ : Vec F S1x2048 .f32) = iblk m c 1 t := by
    funext j
    have h0 : j 0 = (0 : Fin 1) := Fin.ext (by have h0 : (j 0).val < 1 := (j 0).isLt; show (j 0).val = 0; omega)
    rw [eq_ix2 j, h0]
    exact (iblk1_apply m c _ (j 1)).trans (iblk1_apply m c _ (j 1)).symm
  show k0_pay4 _ _ = k0_pay4 _ _
  rw [e0, e1]

/-- The first point of a row block leaves its normalised rows in the carried buffer. -/
theorem carried_A (c : Dev nD) (t : Fin cfg0.N) (h0 : t.val % 16 = 0) : (outsAt0 m c t.val t.isLt).2 = rows m c t := by
  rw [outsAt0_A m c t h0]
  dsimp only
  exact sout_A ..

/-- A later point leaves the carried buffer as the point before left it. -/
theorem carried_B (c : Dev nD) (t : Fin cfg0.N) (h0 : ¬t.val % 16 = 0) :
    (outsAt0 m c t.val t.isLt).2 = (outsAt0 m c (t.val - 1) (lt_of_le_of_lt (Nat.sub_le _ _) t.isLt)).2 := by
  rw [outsAt0_B m c t h0]
  rfl

/-- After every point the carried buffer holds the normalised rows of the point's row block. -/
theorem carried (c : Dev nD) : ∀ (n : ℕ) (t : Fin cfg0.N), t.val = n → (outsAt0 m c t.val t.isLt).2 = rows m c t := by
  intro n
  induction n with
  | zero => intro t ht; exact carried_A m c t (by rw [ht])
  | succ n ih =>
    intro t ht
    by_cases h0 : t.val % 16 = 0
    · exact carried_A m c t h0
    · have hlt : t.val - 1 < cfg0.N := lt_of_le_of_lt (Nat.sub_le _ _) t.isLt
      exact (carried_B m c t h0).trans ((ih ⟨t.val - 1, hlt⟩ (by show t.val - 1 = n; omega)).trans (rows_pred m c t h0))

/-- What every point leaves in the output block: its rows times its columns, fanned out. -/
theorem left (c : Dev nD) (t : Fin cfg0.N) :
    (outsAt0 m c t.val t.isLt).1 = fan (k0_pay5 (rows m c t) (iblk m c 2 t)) := by
  by_cases h0 : t.val % 16 = 0
  · rw [outsAt0_A m c t h0]
    dsimp only
    exact out_A ..
  · have hlt : t.val - 1 < cfg0.N := lt_of_le_of_lt (Nat.sub_le _ _) t.isLt
    have hc := (carried m c _ ⟨t.val - 1, hlt⟩ rfl).trans (rows_pred m c t h0)
    rw [← hc, outsAt0_B m c t h0]
    dsimp only
    exact out_B ..

end

variable (m : (ℓ : Loc nD τ sig) → Buf (Elt Ideal) ℓ)

/-- The tokens, the gain, the weight and the result, as functions of their indices. -/
abbrev tok (c : Dev nD) : S32768x2048.Idx → EReal := V m c main_v0
abbrev gain (c : Dev nD) : S1x2048.Idx → EReal := V m c main_v1
abbrev wt (c : Dev nD) : S2048x16384.Idx → EReal := V m c main_v2
abbrev res (c : Dev nD) : S128x32768x128.Idx → EReal := G3 m c

/-- What point `t` leaves in the output block, at an index. -/
theorem block_apply (c : Dev nD) (t : Fin cfg0.N) (a : Fin 8) (r : Fin 1024) (l : Fin 128) (p : Fin 32768) (q : Fin 16384)
    (hp : 1024 * (t.val / 16) + r.val = p.val) (hq : 1024 * (t.val % 16) + (128 * a.val + l.val) = q.val) :
    (fan (k0_pay5 (rows m c t) (iblk m c 2 t)) : S8x1024x128.Idx → EReal) (ix3 a r l) = ∑ k : Fin 2048,
      tok m c (ix2 p k) * rms (fun j => tok m c (ix2 p j)) * gain m c (ix2 0 k) * wt m c (ix2 k q) := by
  show k0_pay5 _ _ (ix2 r (⟨128 * a.val + l.val, _⟩ : Fin 1024)) = _
  rw [pay5_apply]
  refine Finset.sum_congr rfl fun k _ => ?_
  have e2 := iblk2_apply m c t k ⟨128 * a.val + l.val, by omega⟩
  have e1 := iblk1_apply m c t k
  have e0 : ∀ j : Fin 2048, (iblk m c 0 t : Vec Ideal S1024x2048 .f32) (ix2 r j) = tok m c (ix2 p j) := fun j => by
    rw [iblk0_apply]; exact congrArg (fun z => tok m c (ix2 z j)) (Fin.ext hp)
  refine congrArg₂ (· * ·) ?_ (e2.trans (congrArg (fun z => wt m c (ix2 k z)) (Fin.ext hq)))
  refine (pay4_apply _ _ r k).trans ?_
  rw [e0 k, e1]
  exact congrArg (fun f => tok m c (ix2 p k) * rms f * gain m c (ix2 0 k)) (funext e0)

/-- The result array, at head `h`, token `s`, lane `l`. -/
theorem G3_apply (c : Dev nD) (h : Fin 128) (s : Fin 32768) (l : Fin 128) :
    res m c (ix3 h s l) = ∑ k : Fin 2048,
      tok m c (ix2 s k) * rms (fun j => tok m c (ix2 s j)) * gain m c (ix2 0 k) * wt m c (ix2 k ⟨128 * h.val + l.val, by omega⟩) := by
  have hp : pt3Of (ix3 h s l) = h.val / 8 + 16 * (s.val / 1024) := by
    show 1 * (h.val / 8 - 0) + 16 * (s.val / 1024 - 0) + 512 * (l.val / 128 - 0) = _
    omega
  have hN : pt3Of (ix3 h s l) < cfg0.N := by rw [hp, show cfg0.N = 512 from N_0]; omega
  have e1 : 1024 * (pt3Of (ix3 h s l) / 16) + s.val % 1024 = s.val := by rw [hp]; omega
  have e2 : 1024 * (pt3Of (ix3 h s l) % 16) + (128 * (h.val % 8) + l.val % 128) = 128 * h.val + l.val := by rw [hp]; omega
  show G3 m c (ix3 h s l) = _
  unfold G3
  rw [dif_pos hN, ← outsAt0_sweep m c _ hN, left m c ⟨_, hN⟩]
  exact block_apply m c ⟨_, hN⟩ ⟨h.val % 8, by omega⟩ ⟨s.val % 1024, by omega⟩ ⟨l.val % 128, by omega⟩ s ⟨128 * h.val + l.val, by omega⟩ e1 e2

/-- The two batches' tokens one after another: the row of token `s`. -/
theorem flat_apply (x : S2x16384x2048.Idx → EReal) (s : Fin 32768) (k : Fin 2048) :
    shapeCast S32768x2048 x shapeCasts_S2x16384x2048_S32768x2048 (ix2 s k) = x (ix3 ⟨s.val / 16384, by omega⟩ ⟨s.val % 16384, by omega⟩ k) :=
  shapeCast_apply _ _ _ _ (by
    rw [Shape.rowMajor_val_three, Shape.rowMajor_val_two]
    show (s.val / 16384 * 16384 + s.val % 16384) * 2048 + k.val = s.val * 2048 + k.val
    omega)

/-- A token's row, in the argument as it is given. -/
theorem tok_apply (c : Dev nD) (s : Fin 32768) (k : Fin 2048) :
    tok m c (ix2 s k) = (m ((c : Thread nD τ).loc main_arg0) : S2x16384x2048.Idx → EReal)
      (ix3 ⟨s.val / 16384, by omega⟩ ⟨s.val % 16384, by omega⟩ k) :=
  (congrFun (V0 m c) _).trans (flat_apply _ s k)

theorem gain_apply (c : Dev nD) (k : Fin 2048) :
    gain m c (ix2 0 k) = (m ((c : Thread nD τ).loc main_arg1) : S2048.Idx → EReal) (ix1 k) :=
  (congrFun (V1 m c) _).trans (ValueIdx.shapeCast_a_1a_apply _ _ _ _)

/-- The weight is the argument (a change of format is the identity here). -/
theorem wt_apply (c : Dev nD) (i : S2048x16384.Idx) :
    wt m c i = (m ((c : Thread nD τ).loc main_arg2) : S2048x16384.Idx → EReal) i := congrFun (V2 m c) i

/-- The reference's normalised token, at an index. -/
theorem ref_apply (x : S2x16384x2048.Idx → EReal) (g : S2048.Idx → EReal) (b : Fin 2) (s : Fin 16384) (k : Fin 2048) :
    Cert.InProjRefIdeal.Read.val_main_v12 (F := Ideal) x g (ix3 b s k)
      = x (ix3 b s k) * rms (fun j => x (ix3 b s j)) * g (ix1 k) := by
  unfold Cert.InProjRefIdeal.Read.val_main_v12 Cert.InProjRefIdeal.Read.val_main_v9 Cert.InProjRefIdeal.Read.val_main_v8
    Cert.InProjRefIdeal.Read.val_main_v7 Cert.InProjRefIdeal.Read.val_main_v6 Cert.InProjRefIdeal.Read.val_main_v4
    Cert.InProjRefIdeal.Read.val_main_v2 Cert.InProjRefIdeal.Read.val_main_v1 Cert.InProjRefIdeal.Read.val_main_v0
    Cert.InProjRefIdeal.Read.val_main_v3 Cert.InProjRefIdeal.Read.val_main_v5 Cert.InProjRefIdeal.Read.val_main_v11
    Cert.InProjRefIdeal.Read.val_main_v10 Cert.InProjRefIdeal.Read.val_main_cst Cert.InProjRefIdeal.Read.val_main_cst_0
    Cert.InProjRefIdeal.Read.val_main_cst_1 rms
  pointwise

/-- The kernel's result array is the reference's. -/
theorem G3_eq (c : Dev nD) : G3 m c = Cert.InProjRefIdeal.Read.val_main_v15 (F := Ideal)
    (m ((c : Thread nD τ).loc main_arg0)) (m ((c : Thread nD τ).loc main_arg1)) (m ((c : Thread nD τ).loc main_arg2)) := by
  refine funext fun i : S128x32768x128.Idx => ?_
  obtain ⟨h, s, l, rfl⟩ : ∃ h s l, i = ix3 (n0 := 128) (n1 := 32768) (n2 := 128) h s l := ⟨_, _, _, eq_ix3 i⟩
  refine (G3_apply m c h s l).trans ?_
  rw [Cert.InProjRefIdeal.Read.val_main_v15_apply, Cert.InProjRefIdeal.Read.val_main_v14_apply, Cert.InProjRefIdeal.Read.val_main_v13_apply]
  refine Finset.sum_congr rfl fun k _ => ?_
  have hb : (⟨((s.val * 128 + h.val) * 128 + l.val) / 268435456, by omega⟩ : Fin 2) = ⟨s.val / 16384, by omega⟩ := Fin.ext (by
    show ((s.val * 128 + h.val) * 128 + l.val) / 268435456 = s.val / 16384; omega)
  have hs : (⟨((s.val * 128 + h.val) * 128 + l.val) / 16384 % 16384, by omega⟩ : Fin 16384) = ⟨s.val % 16384, by omega⟩ := Fin.ext (by
    show ((s.val * 128 + h.val) * 128 + l.val) / 16384 % 16384 = s.val % 16384; omega)
  have hl : (⟨((s.val * 128 + h.val) * 128 + l.val) % 16384, by omega⟩ : Fin 16384) = ⟨128 * h.val + l.val, by omega⟩ := Fin.ext (by
    show ((s.val * 128 + h.val) * 128 + l.val) % 16384 = 128 * h.val + l.val; omega)
  have el : Cert.InProjRefIdeal.Read.lidx_main_v13 (Cert.InProjRefIdeal.Read.idx_main_v14 (Cert.InProjRefIdeal.Read.idx_main_v15 (ix3 h s l))) k
      = ix3 ⟨s.val / 16384, by omega⟩ ⟨s.val % 16384, by omega⟩ k := by
    funext a
    match a with
    | ⟨0, _⟩ => exact hb
    | ⟨1, _⟩ => exact hs
    | ⟨2, _⟩ => rfl
  have er : Cert.InProjRefIdeal.Read.ridx_main_v13 (Cert.InProjRefIdeal.Read.idx_main_v14 (Cert.InProjRefIdeal.Read.idx_main_v15 (ix3 h s l))) k
      = ix2 k ⟨128 * h.val + l.val, by omega⟩ := by
    funext a
    match a with
    | ⟨0, _⟩ => rfl
    | ⟨1, _⟩ => exact hl
  rw [el, er, ref_apply, gain_apply, wt_apply, tok_apply, show (fun j => tok m c (ix2 s j)) = _ from funext (tok_apply m c s)]

end Cert.InProjIdeal.Block

end
-- ==== Proof.InProjClaim.lean ====
/- The claims of the input projection: its result is the reference's, and the reference runs and keeps its arguments. -/
module

public import proofs.«01_k».proof.Defs
public import proofs.«01_k».proof.Proof.InProjValue

@[expose] public section

noncomputable section

open Idealize.ShloMosaic Idealize.ShloMosaic.TcCoe Idealize.SL.Sem

namespace Cert.Proof.InProj

/-- The reference runs, keeps its arguments and ends with no semaphore counter raised: it is host operations alone. -/
theorem frame_ref : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- Over the extended reals the call's result is the reference's: for every token, its row normalised and taken through
    the weight, the columns laid out in heads. -/
theorem algebraic : Cert.algebraic_InProjIdeal_InProjRefIdeal := fun m ρ m' ρ' _ hag =>
  ⟨fun c => Cert.InProjRefIdeal.Read.val_main_v15 (F := Ideal) (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2)),
    (θ_run _ _ _).mono (fun _ h c => ⟨(h c).1.trans (Cert.InProjIdeal.Block.G3_eq m c), (h c).2⟩) (Cert.InProjIdeal.Value.run m ρ),
    (θ_run _ _ _).mono (fun _ h c => ⟨((h c).1.trans (Cert.InProjRefIdeal.Read.val_main_v15_eq ..)).trans
      (by rw [(hag c).1, (hag c).2.1, (hag c).2.2]), (h c).2⟩) (Cert.InProjRefIdeal.Value.run m' ρ')⟩

end Cert.Proof.InProj

end
-- ==== Proof.OutStageBlock.lean ====
/- What one grid point of the output stage leaves: the heads of its two branches laid side by side as columns, each branch
   taken through its own weight and gated, the two added and taken through the output weight, and the result's rows,
   normalised, added to the rows of the layer's input. -/
module

public import proofs.«01_k».proof.Proof.Gen.OutStageIdeal.Value
public import Idealize.ShloMosaic.Lib.Tactic
public import Idealize.ShloMosaic.Lib.Pointwise.Tactic
public import Idealize.ShloMosaic.Lib.Pointwise
public import Idealize.ShloMosaic.Lib.ValueIdx
public import Idealize.ShloMosaic.Lib.ValueLayout
public import Idealize.ShloMosaic.Lib.MatmulPlain

@[expose] public section

set_option maxRecDepth 16384

noncomputable section

open Idealize.ShloMosaic Idealize.ShloMosaic.TcCoe Idealize.SL.Sem

namespace Cert.OutStageIdeal.Block

open Cert.OutStageIdeal Cert.OutStageIdeal.Gen

section Layout
variable {α : Type}

/-- Head `n` of a block of sixteen heads. -/
def head (x : S16x256x128.Idx → α) (n : Fin 16) : S256x128.Idx → α := fun y => x (ix3 n (y 0) (y 1))

/-- The sixteen heads of a block laid side by side: column `128·n + l` is lane `l` of head `n`. -/
def flat (x : S16x256x128.Idx → α) : S256x2048.Idx → α := fun y =>
  x (ix3 ⟨(y 1).val / 128, by have h : (y 1).val < 2048 := (y 1).isLt; omega⟩ (y 0) ⟨(y 1).val % 128, Nat.mod_lt _ (by decide)⟩)

/-- The concatenation of the heads along the columns is `flat`. -/
theorem flat_eq (x : S16x256x128.Idx → α) (p0 p1 p2 p3 p4 p5 p6 p7 p8 p9 p10 p11 p12 p13 p14 p15 : S256x128.Idx → α)
    (h0 : p0 = head x 0) (h1 : p1 = head x 1) (h2 : p2 = head x 2) (h3 : p3 = head x 3) (h4 : p4 = head x 4)
    (h5 : p5 = head x 5) (h6 : p6 = head x 6) (h7 : p7 = head x 7) (h8 : p8 = head x 8) (h9 : p9 = head x 9)
    (h10 : p10 = head x 10) (h11 : p11 = head x 11) (h12 : p12 = head x 12) (h13 : p13 = head x 13)
    (h14 : p14 = head x 14) (h15 : p15 = head x 15) (h) :
    concatenate S256x2048 1 [⟨S256x128, p0⟩, ⟨S256x128, p1⟩, ⟨S256x128, p2⟩, ⟨S256x128, p3⟩, ⟨S256x128, p4⟩, ⟨S256x128, p5⟩,
      ⟨S256x128, p6⟩, ⟨S256x128, p7⟩, ⟨S256x128, p8⟩, ⟨S256x128, p9⟩, ⟨S256x128, p10⟩, ⟨S256x128, p11⟩, ⟨S256x128, p12⟩,
      ⟨S256x128, p13⟩, ⟨S256x128, p14⟩, ⟨S256x128, p15⟩] h = flat x := by
  subst h0 h1 h2 h3 h4 h5 h6 h7 h8 h9 h10 h11 h12 h13 h14 h15
  funext j
  exact concatenate_ofFn_apply (t := S256x2048) (s₁ := S256x128) 1 (N := 16) (head x) h rfl 128 rfl j
    ⟨(j 1).val / 128, by have h : (j 1).val < 2048 := (j 1).isLt; omega⟩ rfl
    (ix2 (j 0) ⟨(j 1).val % 128, Nat.mod_lt _ (by decide)⟩) rfl (fun b hb => by
      match b with
      | ⟨0, _⟩ => rfl
      | ⟨1, _⟩ => exact absurd rfl hb)

end Layout

variable {F : FTy → Type} [FloatOps F]

/-- One head read out of the block and stripped of its unit axis. -/
theorem head_eq {η : EltTy} (x : Vec F S16x256x128 η) (k : Nat) (hk : k < 16)
    (inb : ∀ a, (![k, 0, 0] : Fin 3 → Nat) a + S1x256x128.size a ≤ S16x256x128.size a) (hc : S1x256x128.ShapeCasts S256x128) :
    shapeCast S256x128 (View.ld x (Rect.unit (s := S16x256x128) ![k, 0, 0] S1x256x128.size inb)) hc = head x ⟨k, hk⟩ := by
  funext y
  rw [eq_ix2 y]
  refine (ValueIdx.shapeCast_1ab_ab_apply _ _ _ _).trans ?_
  show x _ = x _
  congr 1
  funext a
  apply Fin.ext
  match a with
  | ⟨0, _⟩ => show k + 1 * 0 = k; omega
  | ⟨1, _⟩ => show 0 + 1 * (y 0).val = (y 0).val; omega
  | ⟨2, _⟩ => show 0 + 1 * (y 1).val = (y 1).val; omega

/-- The concatenation of the heads read one after another out of a block is `flat`. -/
theorem heads_eq {η : EltTy} (x : Vec F S16x256x128 η) (h) :
    concatenate S256x2048 1 [⟨S256x128, shapeCast S256x128 (View.ld x r0_0) shapeCasts_S1x256x128_S256x128⟩,
      ⟨S256x128, shapeCast S256x128 (View.ld x r0_1) shapeCasts_S1x256x128_S256x128⟩,
      ⟨S256x128, shapeCast S256x128 (View.ld x r0_2) shapeCasts_S1x256x128_S256x128⟩,
      ⟨S256x128, shapeCast S256x128 (View.ld x r0_3) shapeCasts_S1x256x128_S256x128⟩,
      ⟨S256x128, shapeCast S256x128 (View.ld x r0_4) shapeCasts_S1x256x128_S256x128⟩,
      ⟨S256x128, shapeCast S256x128 (View.ld x r0_5) shapeCasts_S1x256x128_S256x128⟩,
      ⟨S256x128, shapeCast S256x128 (View.ld x r0_6) shapeCasts_S1x256x128_S256x128⟩,
      ⟨S256x128, shapeCast S256x128 (View.ld x r0_7) shapeCasts_S1x256x128_S256x128⟩,
      ⟨S256x128, shapeCast S256x128 (View.ld x r0_8) shapeCasts_S1x256x128_S256x128⟩,
      ⟨S256x128, shapeCast S256x128 (View.ld x r0_9) shapeCasts_S1x256x128_S256x128⟩,
      ⟨S256x128, shapeCast S256x128 (View.ld x r0_10) shapeCasts_S1x256x128_S256x128⟩,
      ⟨S256x128, shapeCast S256x128 (View.ld x r0_11) shapeCasts_S1x256x128_S256x128⟩,
      ⟨S256x128, shapeCast S256x128 (View.ld x r0_12) shapeCasts_S1x256x128_S256x128⟩,
      ⟨S256x128, shapeCast S256x128 (View.ld x r0_13) shapeCasts_S1x256x128_S256x128⟩,
      ⟨S256x128, shapeCast S256x128 (View.ld x r0_14) shapeCasts_S1x256x128_S256x128⟩,
      ⟨S256x128, shapeCast S256x128 (View.ld x r0_15) shapeCasts_S1x256x128_S256x128⟩] h = flat x :=
  flat_eq x _ _ _ _ _ _ _ _ _ _ _ _ _ _ _ _ (head_eq x 0 (by decide) _ _)
    (head_eq x 1 (by decide) _ _)
    (head_eq x 2 (by decide) _ _)
    (head_eq x 3 (by decide) _ _)
    (head_eq x 4 (by decide) _ _)
    (head_eq x 5 (by decide) _ _)
    (head_eq x 6 (by decide) _ _)
    (head_eq x 7 (by decide) _ _)
    (head_eq x 8 (by decide) _ _)
    (head_eq x 9 (by decide) _ _)
    (head_eq x 10 (by decide) _ _)
    (head_eq x 11 (by decide) _ _)
    (head_eq x 12 (by decide) _ _)
    (head_eq x 13 (by decide) _ _)
    (head_eq x 14 (by decide) _ _)
    (head_eq x 15 (by decide) _ _) h

theorem hz : (![0, 0] : Fin 2 → Nat) = fun _ => 0 := funext fun a => by fin_cases a <;> rfl

/-- A block of rows by a whole weight. -/
abbrev mm (u : FVec F S256x2048 .bf16) (w : FVec F S2048x2048 .bf16) : FVec F S256x2048 .f32 :=
  matmul dot_S256x2048_S2048x2048_S256x2048_1_0_0_1_n_n none u (shapeCast S2048x2048 w shapeCasts_S2048x2048_S2048x2048)
    (constant S256x2048 .f32 0x00000000#32)

/-- The second branch through its weight. -/
theorem second_eq (x0 : Vec F S16x256x128 .bf16) (x1 : Vec F S16x256x128 .bf16) (x2 : Vec F S16x256x128 .f32)
    (x3 : Vec F S16x256x128 .f32) (x4 : Vec F S256x2048 .f32) (x5 x6 x7 : Vec F S2048x2048 .bf16) (x8 : Vec F S1x2048 .f32) :
    k0_pay46 x0 x1 x2 x3 x4 x5 x6 x7 x8 = mm (flat x1) x6 := by
  show mm _ (View.ld x6 r0_16) = _
  rw [View.ld_unit_zero hz]
  exact congrArg (fun v => mm v x6) (heads_eq x1 _)

/-- The first branch through its weight, gated. -/
theorem first_eq (x0 : Vec F S16x256x128 .bf16) (x1 : Vec F S16x256x128 .bf16) (x2 : Vec F S16x256x128 .f32)
    (x3 : Vec F S16x256x128 .f32) (x4 : Vec F S256x2048 .f32) (x5 x6 x7 : Vec F S2048x2048 .bf16) (x8 : Vec F S1x2048 .f32) :
    k0_pay47 x0 x1 x2 x3 x4 x5 x6 x7 x8 = mulf (logistic (flat x2 : FVec F S256x2048 .f32)) (mm (flat x0) x5) := by
  show mulf (logistic _) (mm _ (View.ld x5 r0_16)) = _
  rw [View.ld_unit_zero hz]
  exact congrArg₂ (fun v u => mulf (logistic (v : FVec F S256x2048 .f32)) (mm u x5)) (heads_eq x2 _) (heads_eq x0 _)

/-- The two gated branches added. -/
abbrev mix (x0 x1 : Vec F S16x256x128 .bf16) (x2 x3 : Vec F S16x256x128 .f32) (x5 x6 : Vec F S2048x2048 .bf16) : FVec F S256x2048 .f32 :=
  addf (mulf (logistic (flat x2 : FVec F S256x2048 .f32)) (mm (flat x0) x5))
    (mulf (logistic (flat x3 : FVec F S256x2048 .f32)) (mm (flat x1) x6))

/-- The mixed branches through the output weight. -/
abbrev outp (x0 x1 : Vec F S16x256x128 .bf16) (x2 x3 : Vec F S16x256x128 .f32) (x5 x6 x7 : Vec F S2048x2048 .bf16) : FVec F S256x2048 .f32 :=
  mm (truncf .bf16 (mix x0 x1 x2 x3 x5 x6) bitsLt_bf16_f32) x7

/-- A row's sum of squares over its length. -/
abbrev meanSq (v : FVec F S256x2048 .f32) : FVec F S256x1 .f32 :=
  divf (shapeCast S256x1 (multiReduction .add [1] S256 (mulf v v) 0x00000000#32 reduces_S256x2048_S256 (.inl rfl) rfl) shapeCasts_S256_S256x1)
    (broadcast S256x1 (Scalar.ofBits .f32 0x45000000#32))

theorem outp_eq (x0 : Vec F S16x256x128 .bf16) (x1 : Vec F S16x256x128 .bf16) (x2 : Vec F S16x256x128 .f32)
    (x3 : Vec F S16x256x128 .f32) (x4 : Vec F S256x2048 .f32) (x5 x6 x7 : Vec F S2048x2048 .bf16) (x8 : Vec F S1x2048 .f32) :
    k0_pay43 (k0_pay46 x0 x1 x2 x3 x4 x5 x6 x7 x8) (k0_pay47 x0 x1 x2 x3 x4 x5 x6 x7 x8) (k0_pay48 x0 x1 x2 x3 x4 x5 x6 x7 x8)
      (k0_pay49 x0 x1 x2 x3 x4 x5 x6 x7 x8) (k0_pay50 x0 x1 x2 x3 x4 x5 x6 x7 x8) (k0_pay51 x0 x1 x2 x3 x4 x5 x6 x7 x8)
      (k0_pay52 x0 x1 x2 x3 x4 x5 x6 x7 x8) (k0_pay53 x0 x1 x2 x3 x4 x5 x6 x7 x8) (k0_pay54 x0 x1 x2 x3 x4 x5 x6 x7 x8)
      (k0_pay55 x0 x1 x2 x3 x4 x5 x6 x7 x8) (View.ld x3 r0_8) (View.ld x3 r0_9) (View.ld x3 r0_10) (View.ld x3 r0_11)
      (View.ld x3 r0_12) (View.ld x3 r0_13) (View.ld x3 r0_14) (View.ld x3 r0_15) (View.ld x7 r0_16)
      = outp x0 x1 x2 x3 x5 x6 x7 := by
  rw [first_eq, second_eq, View.ld_unit_zero hz]
  exact congrArg (fun v => mm (truncf .bf16 (addf (mulf (logistic (flat x2 : FVec F S256x2048 .f32)) (mm (flat x0) x5))
    (mulf (logistic (v : FVec F S256x2048 .f32)) (mm (flat x1) x6))) bitsLt_bf16_f32) x7) (heads_eq x3 _)

/-- What a point leaves in the output block. -/
theorem out_eq (x0 : Vec F S16x256x128 .bf16) (x1 : Vec F S16x256x128 .bf16) (x2 : Vec F S16x256x128 .f32)
    (x3 : Vec F S16x256x128 .f32) (x4 : Vec F S256x2048 .f32) (x5 x6 x7 : Vec F S2048x2048 .bf16) (x8 : Vec F S1x2048 .f32) :
    out0_9 x0 x1 x2 x3 x4 x5 x6 x7 x8
      = k0_pay1 (outp x0 x1 x2 x3 x5 x6 x7) (meanSq (outp x0 x1 x2 x3 x5 x6 x7)) (k0_pay45 x4) x8 := by
  unfold out0_9 k0_pay44
  rw [outp_eq, View.canon_unit_zero hz, View.ld_unit_zero hz, View.ld_unit_zero hz]

/-- The reciprocal root of a row's mean square and the small constant. -/
def rms (f : Fin 2048 → EReal) : EReal :=
  Ideal.rsqrt (Ideal.div (∑ j : Fin 2048, f j * f j) (Ideal.ofBits .f32 0x45000000#32) + Ideal.ofBits .f32 0x358637BD#32)

theorem mm_apply (u : FVec Ideal S256x2048 .bf16) (w : FVec Ideal S2048x2048 .bf16) (r : Fin 256) (j : Fin 2048) :
    mm u w (ix2 r j) = ∑ k : Fin 2048, u (ix2 r k) * w (ix2 k j) := by
  unfold mm
  pointwise

theorem pay1_apply (v x : FVec Ideal S256x2048 .f32) (g : FVec Ideal S1x2048 .f32) (r : Fin 256) (j : Fin 2048) :
    k0_pay1 v (meanSq v) (k0_pay45 x) g (ix2 r j)
      = x (ix2 r j) + v (ix2 r j) * rms (fun k => v (ix2 r k)) * g (ix2 0 j) := by
  unfold k0_pay1 k0_pay45 meanSq rms
  pointwise

end Cert.OutStageIdeal.Block

end
-- ==== Proof.OutStageValue.lean ====
/- The output stage's result array is the reference's: token by token, the input plus the normalised row of the two gated
   branches taken through the output weight. -/
module

public import proofs.«01_k».proof.Proof.OutStageBlock
public import proofs.«01_k».proof.Proof.Gen.OutStageRefIdeal.Read
public import Idealize.ShloMosaic.Lib.IdealHost
public import proofs.«01_k».proof.Proof.Gen.OutStageRefIdeal.Run

@[expose] public section

set_option maxRecDepth 16384

noncomputable section

open Idealize.ShloMosaic Idealize.ShloMosaic.TcCoe Idealize.SL.Sem

namespace Cert.OutStageIdeal.Block

open Cert.OutStageIdeal Cert.OutStageIdeal.Gen Cert.OutStageIdeal.Value

/-! ## One token's row -/

/-- A row by a weight, at a column. -/
def prod (a : Fin 2048 → EReal) (w : S2048x2048.Idx → EReal) (p : Fin 2048) : EReal := ∑ q : Fin 2048, a q * w (ix2 q p)

/-- The two branches' rows, each through its weight and gated, added. -/
def mixRow (a b ga gb : Fin 2048 → EReal) (wa wb : S2048x2048.Idx → EReal) (p : Fin 2048) : EReal :=
  Ideal.logistic (ga p) * prod a wa p + Ideal.logistic (gb p) * prod b wb p

/-- A token's result: its input plus the normalised output row times the gain. -/
def resRow (y x g : Fin 2048 → EReal) (j : Fin 2048) : EReal := x j + y j * rms y * g j

/-- A row of heads of an array laid side by side, from head `o` on. -/
def headRow {n0 n1 : Nat} (H : (⟨3, ![n0, n1, 128]⟩ : Shape).Idx → EReal) (o : Nat) (ho : o + 16 ≤ n0) (s : Fin n1) (p : Fin 2048) : EReal :=
  H (ix3 (n0 := n0) (n1 := n1) (n2 := 128) ⟨o + p.val / 128, by omega⟩ s ⟨p.val % 128, Nat.mod_lt _ (by decide)⟩)

/-- What a point leaves in the output block, at an index. -/
theorem out_apply (x0 x1 : FVec Ideal S16x256x128 .bf16) (x2 x3 : FVec Ideal S16x256x128 .f32)
    (x4 : FVec Ideal S256x2048 .f32) (x5 x6 x7 : FVec Ideal S2048x2048 .bf16) (x8 : FVec Ideal S1x2048 .f32) (r : Fin 256) (j : Fin 2048) :
    out0_9 (F := Ideal) x0 x1 x2 x3 x4 x5 x6 x7 x8 (ix2 r j)
      = resRow (prod (mixRow (headRow x0 0 (by decide) r) (headRow x1 0 (by decide) r) (headRow x2 0 (by decide) r) (headRow x3 0 (by decide) r)
          x5 x6) x7) (fun k => x4 (ix2 r k)) (fun k => x8 (ix2 0 k)) j := by
  rw [out_eq, pay1_apply]
  have hf : ∀ (x : S16x256x128.Idx → EReal) (p : Fin 2048), flat x (ix2 r p) = headRow (n0 := 16) (n1 := 256) x 0 (by decide) r p := fun x p => by
    unfold flat headRow
    congr 1
    funext a
    apply Fin.ext
    match a with
    | ⟨0, _⟩ => show p.val / 128 = 0 + p.val / 128; omega
    | ⟨1, _⟩ => rfl
    | ⟨2, _⟩ => rfl
  have ho : ∀ k : Fin 2048, outp (F := Ideal) x0 x1 x2 x3 x5 x6 x7 (ix2 r k) = prod (mixRow (headRow x0 0 (by decide) r) (headRow x1 0 (by decide) r)
      (headRow x2 0 (by decide) r) (headRow x3 0 (by decide) r) x5 x6) x7 k := fun k => by
    unfold prod mixRow
    refine (mm_apply _ _ r k).trans (Finset.sum_congr rfl fun p _ => congrArg (· * x7 (ix2 p k)) ?_)
    show Ideal.logistic (flat x2 (ix2 r p)) * mm (F := Ideal) (flat x0) x5 (ix2 r p) + Ideal.logistic (flat x3 (ix2 r p)) * mm (F := Ideal) (flat x1) x6 (ix2 r p) = _
    rw [mm_apply, mm_apply, hf, hf]
    unfold prod
    simp only [hf]
  unfold resRow
  rw [ho, show (fun k => outp (F := Ideal) x0 x1 x2 x3 x5 x6 x7 (ix2 r k)) = _ from funext ho]

/-! ## The reference, at an index -/

section Ref
open Cert.OutStageRefIdeal.Read

variable (x0 x1 : S16x32768x128.Idx → EReal) (x2 : S128x32768x128.Idx → EReal) (x3 : S2x16384x2048.Idx → EReal)
  (x4 x5 x6 : S2048x2048.Idx → EReal) (x7 : S2048.Idx → EReal)

/-- A token's place in the array of both batches' tokens. -/
abbrev at2 (b : Fin 2) (s : Fin 16384) : Fin 32768 := ⟨b.val * 16384 + s.val, by omega⟩

theorem ref_yh (b : Fin 2) (s : Fin 16384) (p : Fin 2048) :
    val_main_v6 (F := Ideal) x0 (ix3 b s p) = headRow (n0 := 16) (n1 := 32768) x0 0 (by decide) (at2 b s) p := by
  unfold val_main_v6
  show val_main_v5 (F := Ideal) x0 (ix3 b s p) = _
  rw [val_main_v5_apply, val_main_v4_apply]
  unfold headRow
  congr 1
  funext a
  apply Fin.ext
  match a with
  | ⟨0, _⟩ => show ((b.val * 16384 + s.val) * 2048 + p.val) / 128 % 16 = 0 + p.val / 128; omega
  | ⟨1, _⟩ => show ((b.val * 16384 + s.val) * 2048 + p.val) / 2048 = b.val * 16384 + s.val; omega
  | ⟨2, _⟩ => show ((b.val * 16384 + s.val) * 2048 + p.val) % 128 = p.val % 128; omega

theorem ref_yr (b : Fin 2) (s : Fin 16384) (p : Fin 2048) :
    val_main_v10 (F := Ideal) x1 (ix3 b s p) = headRow (n0 := 16) (n1 := 32768) x1 0 (by decide) (at2 b s) p := by
  refine Eq.trans ?_ (ref_yh x1 b s p)
  rfl

theorem ref_mh (b : Fin 2) (s : Fin 16384) (p : Fin 2048) :
    val_main_v2 (F := Ideal) x2 (ix3 b s p) = headRow (n0 := 128) (n1 := 32768) x2 96 (by decide) (at2 b s) p := by
  rw [val_main_v2_apply, val_main_v1_apply, val_main_v0_apply]
  unfold headRow
  congr 1
  funext a
  apply Fin.ext
  match a with
  | ⟨0, _⟩ => show ((b.val * 16384 + s.val) * 16384 + (12288 + p.val)) / 128 % 128 = 96 + p.val / 128; omega
  | ⟨1, _⟩ => show ((b.val * 16384 + s.val) * 16384 + (12288 + p.val)) / 16384 = b.val * 16384 + s.val; omega
  | ⟨2, _⟩ => show ((b.val * 16384 + s.val) * 16384 + (12288 + p.val)) % 128 = p.val % 128; omega

theorem ref_mr (b : Fin 2) (s : Fin 16384) (p : Fin 2048) :
    val_main_v3 (F := Ideal) x2 (ix3 b s p) = headRow (n0 := 128) (n1 := 32768) x2 112 (by decide) (at2 b s) p := by
  rw [val_main_v3_apply, val_main_v1_apply, val_main_v0_apply]
  unfold headRow
  congr 1
  funext a
  apply Fin.ext
  match a with
  | ⟨0, _⟩ => show ((b.val * 16384 + s.val) * 16384 + (14336 + p.val)) / 128 % 128 = 112 + p.val / 128; omega
  | ⟨1, _⟩ => show ((b.val * 16384 + s.val) * 16384 + (14336 + p.val)) / 16384 = b.val * 16384 + s.val; omega
  | ⟨2, _⟩ => show ((b.val * 16384 + s.val) * 16384 + (14336 + p.val)) % 128 = p.val % 128; omega

theorem one_word : Ideal.ofBits .f32 0x3F800000#32 = 1 := by
  exact Idealize.ShloMosaic.Ideal.ofBits_one_f32

/-- The reference's spelling of the logistic function. -/
theorem gate_h (i : S2x16384x2048.Idx) : val_main_v17 (F := Ideal) x2 i = Ideal.logistic (val_main_v2 (F := Ideal) x2 i) := by
  rw [val_main_v17_apply, val_main_v16_apply, val_main_v15_apply, val_main_v14_apply, val_main_v13_apply, val_main_v12_apply,
    val_main_cst_apply, val_main_cst_0_apply]
  show Ideal.div (Ideal.ofBits .f32 0x3F800000#32) (Ideal.ofBits .f32 0x3F800000#32 + Ideal.exp (-val_main_v2 (F := Ideal) x2 i)) = _
  rw [one_word]
  rfl

theorem gate_r (i : S2x16384x2048.Idx) : val_main_v24 (F := Ideal) x2 i = Ideal.logistic (val_main_v3 (F := Ideal) x2 i) := by
  rw [val_main_v24_apply, val_main_v23_apply, val_main_v22_apply, val_main_v21_apply, val_main_v20_apply, val_main_v19_apply,
    val_main_cst_1_apply, val_main_cst_2_apply]
  show Ideal.div (Ideal.ofBits .f32 0x3F800000#32) (Ideal.ofBits .f32 0x3F800000#32 + Ideal.exp (-val_main_v3 (F := Ideal) x2 i)) = _
  rw [one_word]
  rfl

/-- The mixed branches, at a token and column. -/
theorem ref_mix (b : Fin 2) (s : Fin 16384) (p : Fin 2048) :
    val_main_v26 (F := Ideal) x0 x1 x2 x4 x5 (ix3 b s p)
      = mixRow (headRow (n0 := 16) (n1 := 32768) x0 0 (by decide) (at2 b s)) (headRow (n0 := 16) (n1 := 32768) x1 0 (by decide) (at2 b s))
          (headRow (n0 := 128) (n1 := 32768) x2 96 (by decide) (at2 b s)) (headRow (n0 := 128) (n1 := 32768) x2 112 (by decide) (at2 b s)) x4 x5 p := by
  rw [val_main_v26_apply, val_main_v18_apply, val_main_v25_apply, gate_h, gate_r, ref_mh, ref_mr, val_main_v7_apply, val_main_v11_apply]
  unfold mixRow prod
  refine congrArg₂ (· + ·) (congrArg (_ * ·) (Finset.sum_congr rfl fun q _ => ?_)) (congrArg (_ * ·) (Finset.sum_congr rfl fun q _ => ?_))
  · exact congrArg₂ (· * ·) (ref_yh x0 b s q) (congrArg x4 (funext fun a => match a with | ⟨0, _⟩ => rfl | ⟨1, _⟩ => rfl))
  · exact congrArg₂ (· * ·) (ref_yr x1 b s q) (congrArg x5 (funext fun a => match a with | ⟨0, _⟩ => rfl | ⟨1, _⟩ => rfl))

/-- The reference's output row, at a token and column. -/
theorem ref_outp (b : Fin 2) (s : Fin 16384) (p : Fin 2048) :
    val_main_v27 (F := Ideal) x0 x1 x2 x4 x5 x6 (ix3 b s p)
      = prod (mixRow (headRow (n0 := 16) (n1 := 32768) x0 0 (by decide) (at2 b s)) (headRow (n0 := 16) (n1 := 32768) x1 0 (by decide) (at2 b s))
          (headRow (n0 := 128) (n1 := 32768) x2 96 (by decide) (at2 b s)) (headRow (n0 := 128) (n1 := 32768) x2 112 (by decide) (at2 b s)) x4 x5) x6 p := by
  rw [val_main_v27_apply]
  unfold prod
  refine Finset.sum_congr rfl fun q _ => ?_
  have el : lidx_main_v27 (ix3 b s p) q = ix3 b s q := funext fun a => match a with | ⟨0, _⟩ => rfl | ⟨1, _⟩ => rfl | ⟨2, _⟩ => rfl
  exact congrArg₂ (· * ·) ((congrArg _ el).trans (ref_mix x0 x1 x2 x4 x5 b s q)) (congrArg x6 (funext fun a => match a with | ⟨0, _⟩ => rfl | ⟨1, _⟩ => rfl))

/-- The reference's last steps: normalise, scale, add to the input. -/
theorem ref_res (b : Fin 2) (s : Fin 16384) (j : Fin 2048) :
    val_main_v41 (F := Ideal) x0 x1 x2 x3 x4 x5 x6 x7 (ix3 b s j)
      = resRow (fun k => val_main_v27 (F := Ideal) x0 x1 x2 x4 x5 x6 (ix3 b s k)) (fun k => x3 (ix3 b s k)) (fun k => x7 (ix1 k)) j := by
  unfold val_main_v41 val_main_v40 val_main_v39 val_main_v38 val_main_v37 val_main_v36 val_main_v35 val_main_v34 val_main_v33
    val_main_v32 val_main_v31 val_main_v30 val_main_v29 val_main_v28 val_main_cst_3 val_main_cst_4 val_main_cst_5 resRow rms
  generalize val_main_v27 (F := Ideal) x0 x1 x2 x4 x5 x6 = y
  pointwise

end Ref

/-! ## The arrays the kernel reads -/

variable (m : (ℓ : Loc nD τ sig) → Buf (Elt Ideal) ℓ)

/-- The arguments, as functions of their indices. -/
abbrev aYh (c : Dev nD) : S16x32768x128.Idx → EReal := m ((c : Thread nD τ).loc main_arg0)
abbrev aYr (c : Dev nD) : S16x32768x128.Idx → EReal := m ((c : Thread nD τ).loc main_arg1)
abbrev aProj (c : Dev nD) : S128x32768x128.Idx → EReal := m ((c : Thread nD τ).loc main_arg2)
abbrev aX (c : Dev nD) : S2x16384x2048.Idx → EReal := m ((c : Thread nD τ).loc main_arg3)
abbrev aWh (c : Dev nD) : S2048x2048.Idx → EReal := m ((c : Thread nD τ).loc main_arg4)
abbrev aWr (c : Dev nD) : S2048x2048.Idx → EReal := m ((c : Thread nD τ).loc main_arg5)
abbrev aWo (c : Dev nD) : S2048x2048.Idx → EReal := m ((c : Thread nD τ).loc main_arg6)
abbrev aG (c : Dev nD) : S2048.Idx → EReal := m ((c : Thread nD τ).loc main_arg7)

theorem V0 (c : Dev nD) : V m c main_v0 = shapeCast S32768x2048 (aX m c) shapeCasts_S2x16384x2048_S32768x2048 := by
  unfold V hostOps0
  after_results <;> rfl
theorem V1 (c : Dev nD) : V m c main_v1 = aWh m c := by
  unfold V hostOps0
  after_results <;> rfl
theorem V2 (c : Dev nD) : V m c main_v2 = aWr m c := by
  unfold V hostOps0
  after_results <;> rfl
theorem V3 (c : Dev nD) : V m c main_v3 = aWo m c := by
  unfold V hostOps0
  after_results <;> rfl
theorem V4 (c : Dev nD) : V m c main_v4 = shapeCast S1x2048 (aG m c) shapeCasts_S2048_S1x2048 := by
  unfold V hostOps0
  after_results <;> rfl

/-- The two batches' tokens one after another: the row of token `s`. -/
theorem tokens_apply (x : S2x16384x2048.Idx → EReal) (s : Fin 32768) (k : Fin 2048) :
    shapeCast S32768x2048 x shapeCasts_S2x16384x2048_S32768x2048 (ix2 s k) = x (ix3 ⟨s.val / 16384, by omega⟩ ⟨s.val % 16384, by omega⟩ k) :=
  shapeCast_apply _ _ _ _ (by
    rw [Shape.rowMajor_val_three, Shape.rowMajor_val_two]
    show (s.val / 16384 * 16384 + s.val % 16384) * 2048 + k.val = s.val * 2048 + k.val
    omega)

/-- Which blocks a point reads: its own rows of the branches, the gates and the input, the whole of each weight. -/
theorem pts : ∀ t : Fin cfg0.N, (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 6 ∧ win0_2.index t (1 : Fin 3) = t.val ∧ win0_2.index t (2 : Fin 3) = 0)
    ∧ (win0_3.index t (0 : Fin 3) = 7 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- The token a point's row is. -/
abbrev tokOf (t : Fin cfg0.N) (r : Fin 256) : Fin 32768 :=
  ⟨256 * t.val + r.val, by have := lt_of_lt_of_eq t.isLt (show cfg0.N = 128 from N_0); omega⟩

theorem blk0 (c : Dev nD) (t : Fin cfg0.N) (r : Fin 256) :
    headRow (n0 := 16) (n1 := 256) (iblk m c 0 t) 0 (by decide) r = headRow (n0 := 16) (n1 := 32768) (aYh m c) 0 (by decide) (tokOf t r) := by
  obtain ⟨⟨e0, e1, e2⟩, -⟩ := pts t
  funext p
  unfold headRow iblk
  rw [View.read_apply]
  show V m c main_arg0 _ = _
  rw [V_main_arg0]
  show aYh m c _ = aYh m c _
  congr 1
  funext a
  apply Fin.ext
  match a with
  | ⟨0, _⟩ => show win0_0.index t 0 * 16 + 1 * (0 + p.val / 128) = 0 + p.val / 128; rw [e0]; omega
  | ⟨1, _⟩ => show win0_0.index t 1 * 256 + 1 * r.val = 256 * t.val + r.val; rw [e1]; omega
  | ⟨2, _⟩ => show win0_0.index t 2 * 128 + 1 * (p.val % 128) = p.val % 128; rw [e2]; omega

theorem blk1 (c : Dev nD) (t : Fin cfg0.N) (r : Fin 256) :
    headRow (n0 := 16) (n1 := 256) (iblk m c 1 t) 0 (by decide) r = headRow (n0 := 16) (n1 := 32768) (aYr m c) 0 (by decide) (tokOf t r) := by
  obtain ⟨-, ⟨e0, e1, e2⟩, -⟩ := pts t
  funext p
  unfold headRow iblk
  rw [View.read_apply]
  show V m c main_arg1 _ = _
  rw [V_main_arg1]
  show aYr m c _ = aYr m c _
  congr 1
  funext a
  apply Fin.ext
  match a with
  | ⟨0, _⟩ => show win0_1.index t 0 * 16 + 1 * (0 + p.val / 128) = 0 + p.val / 128; rw [e0]; omega
  | ⟨1, _⟩ => show win0_1.index t 1 * 256 + 1 * r.val = 256 * t.val + r.val; rw [e1]; omega
  | ⟨2, _⟩ => show win0_1.index t 2 * 128 + 1 * (p.val % 128) = p.val % 128; rw [e2]; omega

theorem blk2 (c : Dev nD) (t : Fin cfg0.N) (r : Fin 256) :
    headRow (n0 := 16) (n1 := 256) (iblk m c 2 t) 0 (by decide) r = headRow (n0 := 128) (n1 := 32768) (aProj m c) 96 (by decide) (tokOf t r) := by
  obtain ⟨-, -, ⟨e0, e1, e2⟩, -⟩ := pts t
  funext p
  unfold headRow iblk
  rw [View.read_apply]
  show V m c main_arg2 _ = _
  rw [V_main_arg2]
  show aProj m c _ = aProj m c _
  congr 1
  funext a
  apply Fin.ext
  match a with
  | ⟨0, _⟩ => show win0_2.index t 0 * 16 + 1 * (0 + p.val / 128) = 96 + p.val / 128; rw [e0]; omega
  | ⟨1, _⟩ => show win0_2.index t 1 * 256 + 1 * r.val = 256 * t.val + r.val; rw [e1]; omega
  | ⟨2, _⟩ => show win0_2.index t 2 * 128 + 1 * (p.val % 128) = p.val % 128; rw [e2]; omega

theorem blk3 (c : Dev nD) (t : Fin cfg0.N) (r : Fin 256) :
    headRow (n0 := 16) (n1 := 256) (iblk m c 3 t) 0 (by decide) r = headRow (n0 := 128) (n1 := 32768) (aProj m c) 112 (by decide) (tokOf t r) := by
  obtain ⟨-, -, -, ⟨e0, e1, e2⟩, -⟩ := pts t
  funext p
  unfold headRow iblk
  rw [View.read_apply]
  show V m c main_arg2 _ = _
  rw [V_main_arg2]
  show aProj m c _ = aProj m c _
  congr 1
  funext a
  apply Fin.ext
  match a with
  | ⟨0, _⟩ => show win0_3.index t 0 * 16 + 1 * (0 + p.val / 128) = 112 + p.val / 128; rw [e0]; omega
  | ⟨1, _⟩ => show win0_3.index t 1 * 256 + 1 * r.val = 256 * t.val + r.val; rw [e1]; omega
  | ⟨2, _⟩ => show win0_3.index t 2 * 128 + 1 * (p.val % 128) = p.val % 128; rw [e2]; omega

theorem blk4 (c : Dev nD) (t : Fin cfg0.N) (r : Fin 256) (k : Fin 2048) :
    (iblk m c 4 t : S256x2048.Idx → EReal) (ix2 r k)
      = aX m c (ix3 ⟨(tokOf t r).val / 16384, by omega⟩ ⟨(tokOf t r).val % 16384, by omega⟩ k) := by
  obtain ⟨-, -, -, -, ⟨e0, e1⟩, -⟩ := pts t
  refine Eq.trans ?_ ((congrFun (V0 m c) _).trans (tokens_apply (aX m c) (tokOf t r) k))
  unfold iblk
  rw [View.read_apply]
  show V m c main_v0 _ = V m c main_v0 _
  congr 1
  funext a
  apply Fin.ext
  match a with
  | ⟨0, _⟩ => show win0_4.index t 0 * 256 + 1 * r.val = 256 * t.val + r.val; rw [e0]; omega
  | ⟨1, _⟩ => show win0_4.index t 1 * 2048 + 1 * k.val = k.val; rw [e1]; omega

/-- The index of a square weight read whole at a point is the index itself. -/
theorem blk5 (c : Dev nD) (t : Fin cfg0.N) : (iblk m c 5 t : S2048x2048.Idx → EReal) = aWh m c := by
  obtain ⟨-, -, -, -, -, ⟨e0, e1⟩, -⟩ := pts t
  refine Eq.trans ?_ (V1 m c)
  funext j
  unfold iblk
  rw [View.read_apply]
  show V m c main_v1 _ = V m c main_v1 _
  congr 1
  funext a
  apply Fin.ext
  match a with
  | ⟨0, _⟩ => show win0_5.index t 0 * 2048 + 1 * (j 0).val = (j 0).val; rw [e0]; omega
  | ⟨1, _⟩ => show win0_5.index t 1 * 2048 + 1 * (j 1).val = (j 1).val; rw [e1]; omega

theorem blk6 (c : Dev nD) (t : Fin cfg0.N) : (iblk m c 6 t : S2048x2048.Idx → EReal) = aWr m c := by
  obtain ⟨-, -, -, -, -, -, ⟨e0, e1⟩, -⟩ := pts t
  refine Eq.trans ?_ (V2 m c)
  funext j
  unfold iblk
  rw [View.read_apply]
  show V m c main_v2 _ = V m c main_v2 _
  congr 1
  funext a
  apply Fin.ext
  match a with
  | ⟨0, _⟩ => show win0_6.index t 0 * 2048 + 1 * (j 0).val = (j 0).val; rw [e0]; omega
  | ⟨1, _⟩ => show win0_6.index t 1 * 2048 + 1 * (j 1).val = (j 1).val; rw [e1]; omega

theorem blk7 (c : Dev nD) (t : Fin cfg0.N) : (iblk m c 7 t : S2048x2048.Idx → EReal) = aWo m c := by
  obtain ⟨-, -, -, -, -, -, -, ⟨e0, e1⟩, -⟩ := pts t
  refine Eq.trans ?_ (V3 m c)
  funext j
  unfold iblk
  rw [View.read_apply]
  show V m c main_v3 _ = V m c main_v3 _
  congr 1
  funext a
  apply Fin.ext
  match a with
  | ⟨0, _⟩ => show win0_7.index t 0 * 2048 + 1 * (j 0).val = (j 0).val; rw [e0]; omega
  | ⟨1, _⟩ => show win0_7.index t 1 * 2048 + 1 * (j 1).val = (j 1).val; rw [e1]; omega

theorem blk8 (c : Dev nD) (t : Fin cfg0.N) (k : Fin 2048) : (iblk m c 8 t : S1x2048.Idx → EReal) (ix2 0 k) = aG m c (ix1 k) := by
  obtain ⟨-, -, -, -, -, -, -, -, ⟨e0, e1⟩, -⟩ := pts t
  refine Eq.trans ?_ ((congrFun (V4 m c) (ix2 0 k)).trans (ValueIdx.shapeCast_a_1a_apply _ _ _ _))
  unfold iblk
  rw [View.read_apply]
  show V m c main_v4 _ = V m c main_v4 _
  congr 1
  funext a
  apply Fin.ext
  match a with
  | ⟨0, _⟩ => show win0_8.index t 0 * 1 + 1 * 0 = 0; rw [e0]
  | ⟨1, _⟩ => show win0_8.index t 1 * 2048 + 1 * k.val = k.val; rw [e1]; omega

/-! ## The result array -/

/-- The result array: the reference's. -/
abbrev G (c : Dev nD) : S32768x2048.Idx → EReal := Cert.OutStageRefIdeal.Read.val_main_v42 (F := Ideal) (aYh m c) (aYr m c) (aProj m c) (aX m c)
  (aWh m c) (aWr m c) (aWo m c) (aG m c)

/-- The reference's result at a token and column. -/
theorem G_apply (c : Dev nD) (s : Fin 32768) (j : Fin 2048) :
    G m c (ix2 s j) = resRow (prod (mixRow (headRow (n0 := 16) (n1 := 32768) (aYh m c) 0 (by decide) s) (headRow (n0 := 16) (n1 := 32768) (aYr m c) 0 (by decide) s)
          (headRow (n0 := 128) (n1 := 32768) (aProj m c) 96 (by decide) s) (headRow (n0 := 128) (n1 := 32768) (aProj m c) 112 (by decide) s)
          (aWh m c) (aWr m c)) (aWo m c)) (fun k => aX m c (ix3 ⟨s.val / 16384, by omega⟩ ⟨s.val % 16384, by omega⟩ k)) (fun k => aG m c (ix1 k)) j := by
  have hi : Cert.OutStageRefIdeal.Read.idx_main_v42 (ix2 s j) = ix3 ⟨s.val / 16384, by omega⟩ ⟨s.val % 16384, by omega⟩ j := by
    funext a
    apply Fin.ext
    match a with
    | ⟨0, _⟩ => show (s.val * 2048 + j.val) / 33554432 = s.val / 16384; omega
    | ⟨1, _⟩ => show (s.val * 2048 + j.val) / 2048 % 16384 = s.val % 16384; omega
    | ⟨2, _⟩ => show (s.val * 2048 + j.val) % 2048 = j.val; omega
  have hs : at2 ⟨s.val / 16384, by omega⟩ ⟨s.val % 16384, by omega⟩ = s := Fin.ext (by
    show s.val / 16384 * 16384 + s.val % 16384 = s.val; omega)
  unfold G
  rw [Cert.OutStageRefIdeal.Read.val_main_v42_apply, hi, ref_res]
  congr 1
  funext k
  rw [ref_outp, hs]

/-- What point `t` writes back is the reference's result on the point's rows. -/
theorem flushed_eq (c : Dev nD) (t : Fin cfg0.N) :
    (dats m 0 c).flushed 9 t = ((cfg0.win 9).blk t).view.read (Elt Ideal) (G m c) := by
  obtain ⟨-, -, -, -, -, -, -, -, -, ⟨e0, e1⟩⟩ := pts t
  rw [flushed9]
  refine funext fun i : S256x2048.Idx => ?_
  obtain ⟨r, j, rfl⟩ : ∃ r j, i = ix2 (n0 := 256) (n1 := 2048) r j := ⟨_, _, eq_ix2 i⟩
  have hr : ((cfg0.win 9).blk t).view.read (Elt Ideal) (G m c) (ix2 r j) = G m c (ix2 (tokOf t r) j) := by
    rw [View.read_apply]
    show G m c _ = G m c _
    congr 1
    funext a
    apply Fin.ext
    match a with
    | ⟨0, _⟩ => show win0_9.index t 0 * 256 + 1 * r.val = 256 * t.val + r.val; rw [e0]; omega
    | ⟨1, _⟩ => show win0_9.index t 1 * 2048 + 1 * j.val = j.val; rw [e1]; omega
  refine Eq.trans ?_ hr.symm
  refine Eq.trans ?_ (G_apply m c (tokOf t r) j).symm
  refine (out_apply _ _ _ _ _ _ _ _ _ r j).trans ?_
  rw [blk0, blk1, blk2, blk3, blk5, blk6, blk7, show (fun k => (iblk m c 4 t : S256x2048.Idx → EReal) (ix2 r k)) = _ from funext (blk4 m c t r),
    show (fun k => (iblk m c 8 t : S1x2048.Idx → EReal) (ix2 0 k)) = _ from funext (blk8 m c t)]

/-- The points' blocks tile the result. -/
theorem cover (i : S32768x2048.Idx) : ∃ t : Fin cfg0.N, (cfg0.win 9).flush t = true ∧ i ∈ ((cfg0.win 9).blk t).view.set := by
  have h0 : (i 0).val < 32768 := (i 0).isLt
  have h1 : (i 1).val < 2048 := (i 1).isLt
  have hN : cfg0.N = 128 := N_0
  have ht : (i 0).val / 256 < cfg0.N := by omega
  obtain ⟨-, -, -, -, -, -, -, -, -, ⟨e0, e1⟩⟩ := pts ⟨(i 0).val / 256, ht⟩
  refine ⟨⟨(i 0).val / 256, ht⟩, flush0_9 _, ?_⟩
  rw [show ((cfg0.win 9).blk ⟨(i 0).val / 256, ht⟩).view.set = _ from View.set_slice_whole .., Rect.mem_set_unit]
  intro a
  match a with
  | ⟨0, _⟩ =>
    show win0_9.index ⟨(i 0).val / 256, ht⟩ 0 * 256 ≤ (i 0).val ∧ (i 0).val < win0_9.index ⟨(i 0).val / 256, ht⟩ 0 * 256 + 256
    rw [e0]; dsimp only; omega
  | ⟨1, _⟩ =>
    show win0_9.index ⟨(i 0).val / 256, ht⟩ 1 * 2048 ≤ (i 1).val ∧ (i 1).val < win0_9.index ⟨(i 0).val / 256, ht⟩ 1 * 2048 + 2048
    rw [e1]; omega

/-- The kernel's result array is the reference's. -/
theorem final_eq (c : Dev nD) : (dats m 0 c).arrAt 9 cfg0.N = G m c :=
  (dats m 0 c).arrAt_eq_of_cover 9 (G m c) (fun t _ => flushed_eq m c t) cover

end Cert.OutStageIdeal.Block

end
-- ==== Proof.OutStageClaim.lean ====
/- The claims of the output stage: its result is the reference's, and the reference runs and keeps its arguments. -/
module

public import proofs.«01_k».proof.Defs
public import proofs.«01_k».proof.Proof.OutStageValue

@[expose] public section

noncomputable section

open Idealize.ShloMosaic Idealize.ShloMosaic.TcCoe Idealize.SL.Sem

namespace Cert.Proof.OutStage

/-- The reference runs, keeps its arguments and ends with no semaphore counter raised: it is host operations alone. -/
theorem frame_ref : Cert.quiescent_OutStageRefIdeal := fun m ρ _ =>
  (θ_run Cert.OutStageRefIdeal.defs _ _).mono (fun r h => ⟨fun c => (h c).2, sem_eq_zero_of_no_sems (by decide) r.2⟩)
    (Cert.OutStageRefIdeal.Value.run (F := Ideal) m ρ)

/-- Over the extended reals the call's result is the reference's: for every token, its input plus the normalised output
    row of the two gated branches. -/
theorem algebraic : Cert.algebraic_OutStageIdeal_OutStageRefIdeal := fun m ρ m' ρ' _ hag =>
  ⟨fun c => Cert.OutStageIdeal.Block.G m c,
    (θ_run _ _ _).mono (fun _ h c => ⟨(h c).1.trans (Cert.OutStageIdeal.Block.final_eq m c), (h c).2⟩) (Cert.OutStageIdeal.Value.run_blocks m ρ),
    (θ_run _ _ _).mono (fun _ h c => ⟨((h c).1.trans (Cert.OutStageRefIdeal.Read.val_main_v42_eq m' c)).trans
      (by obtain ⟨e0, e1, e2, e3, e4, e5, e6, e7⟩ := hag c; rw [e0, e1, e2, e3, e4, e5, e6, e7]), (h c).2⟩)
      (Cert.OutStageRefIdeal.Value.run m' ρ')⟩

end Cert.Proof.OutStage

end
-- ==== Proof.OutSampleValue.lean ====
/- The output stage at the sample's shapes: sixteen streams of sixteen tokens, one block of 256 rows, so one grid point. A token's
   row is computed as at the prompt's shapes; what differs is where the rows lie in the arrays. -/
module

public import proofs.«01_k».proof.Proof.OutStageValue
public import proofs.«01_k».proof.Proof.Gen.OutSampleIdeal.Value
public import proofs.«01_k».proof.Proof.Gen.OutSampleRefIdeal.Read
public import proofs.«01_k».proof.Proof.Gen.OutSampleRefIdeal.Run

@[expose] public section

set_option maxRecDepth 16384

noncomputable section

open Idealize.ShloMosaic Idealize.ShloMosaic.TcCoe Idealize.SL.Sem

namespace Cert.OutSampleIdeal.Block

open Cert.OutSampleIdeal Cert.OutSampleIdeal.Gen Cert.OutSampleIdeal.Value
open Cert.OutStageIdeal.Block (prod mixRow resRow headRow rms one_word)

/-- The body is the prompt's, a block having as many rows: what its one point leaves in the output block. -/
theorem out_apply (x0 x1 : FVec Ideal S16x256x128 .bf16) (x2 x3 : FVec Ideal S16x256x128 .f32)
    (x4 : FVec Ideal S256x2048 .f32) (x5 x6 x7 : FVec Ideal S2048x2048 .bf16) (x8 : FVec Ideal S1x2048 .f32) (r : Fin 256) (j : Fin 2048) :
    out0_9 (F := Ideal) x0 x1 x2 x3 x4 x5 x6 x7 x8 (ix2 r j)
      = resRow (prod (mixRow (headRow x0 0 (by decide) r) (headRow x1 0 (by decide) r) (headRow x2 0 (by decide) r) (headRow x3 0 (by decide) r)
          x5 x6) x7) (fun k => x4 (ix2 r k)) (fun k => x8 (ix2 0 k)) j :=
  Cert.OutStageIdeal.Block.out_apply x0 x1 x2 x3 x4 x5 x6 x7 x8 r j

/-! ## The reference, at an index -/

section Ref
open Cert.OutSampleRefIdeal.Read

variable (x0 x1 : S16x256x128.Idx → EReal) (x2 : S128x256x128.Idx → EReal) (x3 : S16x16x2048.Idx → EReal)
  (x4 x5 x6 : S2048x2048.Idx → EReal) (x7 : S2048.Idx → EReal)

/-- A token's row among all streams' tokens. -/
abbrev row (b s : Fin 16) : Fin 256 := ⟨b.val * 16 + s.val, by omega⟩

/-- A branch's heads, a token a row. -/
theorem ref_branch (b s : Fin 16) (p : Fin 2048) :
    val_main_v6 (F := Ideal) x0 (ix3 b s p) = headRow (n0 := 16) (n1 := 256) x0 0 (by decide) (row b s) p := by
  show val_main_v5 (F := Ideal) x0 (ix3 b s p) = _
  rw [val_main_v5_apply, val_main_v4_apply]
  unfold headRow
  congr 1
  funext a
  apply Fin.ext
  match a with
  | ⟨0, _⟩ => show ((b.val * 16 + s.val) * 2048 + p.val) / 128 % 16 = 0 + p.val / 128; omega
  | ⟨1, _⟩ => show ((b.val * 16 + s.val) * 2048 + p.val) / 2048 = b.val * 16 + s.val; omega
  | ⟨2, _⟩ => show ((b.val * 16 + s.val) * 2048 + p.val) % 128 = p.val % 128; omega

/-- The projection's columns, a token a row. -/
theorem ref_cols (b s : Fin 16) (k : Fin 16384) :
    val_main_v1 (F := Ideal) x2 (ix3 b s k) = x2 (ix3 (n0 := 128) (n1 := 256) (n2 := 128) ⟨k.val / 128, by omega⟩ (row b s) ⟨k.val % 128, Nat.mod_lt _ (by decide)⟩) := by
  rw [val_main_v1_apply, val_main_v0_apply]
  congr 1
  funext a
  apply Fin.ext
  match a with
  | ⟨0, _⟩ => show ((b.val * 16 + s.val) * 16384 + k.val) / 128 % 128 = k.val / 128; omega
  | ⟨1, _⟩ => show ((b.val * 16 + s.val) * 16384 + k.val) / 16384 = b.val * 16 + s.val; omega
  | ⟨2, _⟩ => show ((b.val * 16 + s.val) * 16384 + k.val) % 128 = k.val % 128; omega

/-- Sixteen heads of the projection from column `128·o` on. -/
theorem cols_head (o : Nat) (ho : o + 16 ≤ 128) (b s : Fin 16) (p : Fin 2048) (k : Fin 16384) (hk : k.val = 128 * o + p.val) :
    val_main_v1 (F := Ideal) x2 (ix3 b s k) = headRow (n0 := 128) (n1 := 256) x2 o ho (row b s) p := by
  rw [ref_cols]
  unfold headRow
  congr 1
  funext a
  apply Fin.ext
  match a with
  | ⟨0, _⟩ => show k.val / 128 = o + p.val / 128; omega
  | ⟨1, _⟩ => rfl
  | ⟨2, _⟩ => show k.val % 128 = p.val % 128; omega

theorem gates_h (b s : Fin 16) (p : Fin 2048) :
    val_main_v2 (F := Ideal) x2 (ix3 b s p) = headRow (n0 := 128) (n1 := 256) x2 96 (by decide) (row b s) p := by
  rw [val_main_v2_apply]
  refine (congrArg _ (funext fun a => ?_)).trans (cols_head x2 96 (by decide) b s p ⟨12288 + p.val, by omega⟩ rfl)
  match a with
  | ⟨0, _⟩ => rfl
  | ⟨1, _⟩ => rfl
  | ⟨2, _⟩ => rfl

theorem gates_r (b s : Fin 16) (p : Fin 2048) :
    val_main_v3 (F := Ideal) x2 (ix3 b s p) = headRow (n0 := 128) (n1 := 256) x2 112 (by decide) (row b s) p := by
  rw [val_main_v3_apply]
  refine (congrArg _ (funext fun a => ?_)).trans (cols_head x2 112 (by decide) b s p ⟨14336 + p.val, by omega⟩ rfl)
  match a with
  | ⟨0, _⟩ => rfl
  | ⟨1, _⟩ => rfl
  | ⟨2, _⟩ => rfl

/-- The reference spells the logistic function out. -/
theorem spelt (z : EReal) : Ideal.div (Ideal.ofBits .f32 0x3F800000#32) (Ideal.ofBits .f32 0x3F800000#32 + Ideal.exp (-z)) = Ideal.logistic z := by
  rw [one_word]
  rfl

/-- The two gated branches added, at a token. -/
theorem ref_mix (b s : Fin 16) (p : Fin 2048) :
    val_main_v26 (F := Ideal) x0 x1 x2 x4 x5 (ix3 b s p)
      = mixRow (headRow (n0 := 16) (n1 := 256) x0 0 (by decide) (row b s)) (headRow (n0 := 16) (n1 := 256) x1 0 (by decide) (row b s))
          (headRow (n0 := 128) (n1 := 256) x2 96 (by decide) (row b s)) (headRow (n0 := 128) (n1 := 256) x2 112 (by decide) (row b s)) x4 x5 p := by
  have hp : ∀ (x : S16x256x128.Idx → EReal) (w : S2048x2048.Idx → EReal), val_main_v7 (F := Ideal) x w (ix3 b s p)
      = prod (headRow (n0 := 16) (n1 := 256) x 0 (by decide) (row b s)) w p := fun x w => by
    rw [val_main_v7_apply]
    exact Finset.sum_congr rfl fun q _ => congrArg₂ (· * ·) (ref_branch x b s q) (congrArg w (funext fun a => match a with | ⟨0, _⟩ => rfl | ⟨1, _⟩ => rfl))
  have hh : val_main_v17 (F := Ideal) x2 (ix3 b s p) = Ideal.logistic (val_main_v2 (F := Ideal) x2 (ix3 b s p)) := spelt _
  have hr : val_main_v24 (F := Ideal) x2 (ix3 b s p) = Ideal.logistic (val_main_v3 (F := Ideal) x2 (ix3 b s p)) := spelt _
  rw [val_main_v26_apply, val_main_v18_apply, val_main_v25_apply, hh, hr, gates_h, gates_r]
  exact congrArg₂ (· + ·) (congrArg (_ * ·) (hp x0 x4)) (congrArg (_ * ·) (hp x1 x5))

/-- The reference's result, at a token. -/
theorem ref_res (b s : Fin 16) (j : Fin 2048) :
    val_main_v41 (F := Ideal) x0 x1 x2 x3 x4 x5 x6 x7 (ix3 b s j)
      = resRow (prod (mixRow (headRow (n0 := 16) (n1 := 256) x0 0 (by decide) (row b s)) (headRow (n0 := 16) (n1 := 256) x1 0 (by decide) (row b s))
          (headRow (n0 := 128) (n1 := 256) x2 96 (by decide) (row b s)) (headRow (n0 := 128) (n1 := 256) x2 112 (by decide) (row b s)) x4 x5) x6)
          (fun k => x3 (ix3 b s k)) (fun k => x7 (ix1 k)) j := by
  have ho : ∀ p : Fin 2048, val_main_v27 (F := Ideal) x0 x1 x2 x4 x5 x6 (ix3 b s p)
      = prod (fun q => val_main_v26 (F := Ideal) x0 x1 x2 x4 x5 (ix3 b s q)) x6 p := fun p => by
    rw [val_main_v27_apply]
    exact Finset.sum_congr rfl fun q _ => congrArg₂ (· * ·)
      (congrArg _ (funext fun a => match a with | ⟨0, _⟩ => rfl | ⟨1, _⟩ => rfl | ⟨2, _⟩ => rfl))
      (congrArg x6 (funext fun a => match a with | ⟨0, _⟩ => rfl | ⟨1, _⟩ => rfl))
  rw [← show (fun q => val_main_v26 (F := Ideal) x0 x1 x2 x4 x5 (ix3 b s q)) = _ from funext (ref_mix x0 x1 x2 x4 x5 b s), ← funext ho]
  unfold val_main_v41 val_main_v40 val_main_v39 val_main_v38 val_main_v37 val_main_v36 val_main_v35 val_main_v34 val_main_v33
    val_main_v32 val_main_v31 val_main_v30 val_main_v29 val_main_v28 val_main_cst_3 val_main_cst_4 val_main_cst_5 resRow rms
  generalize val_main_v27 (F := Ideal) x0 x1 x2 x4 x5 x6 = y
  pointwise

end Ref

/-! ## The arrays the kernel reads -/

variable (m : (ℓ : Loc nD τ sig) → Buf (Elt Ideal) ℓ)

/-- The arguments, as functions of their indices. -/
abbrev aYh (c : Dev nD) : S16x256x128.Idx → EReal := m ((c : Thread nD τ).loc main_arg0)
abbrev aYr (c : Dev nD) : S16x256x128.Idx → EReal := m ((c : Thread nD τ).loc main_arg1)
abbrev aProj (c : Dev nD) : S128x256x128.Idx → EReal := m ((c : Thread nD τ).loc main_arg2)
abbrev aX (c : Dev nD) : S16x16x2048.Idx → EReal := m ((c : Thread nD τ).loc main_arg3)
abbrev aWh (c : Dev nD) : S2048x2048.Idx → EReal := m ((c : Thread nD τ).loc main_arg4)
abbrev aWr (c : Dev nD) : S2048x2048.Idx → EReal := m ((c : Thread nD τ).loc main_arg5)
abbrev aWo (c : Dev nD) : S2048x2048.Idx → EReal := m ((c : Thread nD τ).loc main_arg6)
abbrev aG (c : Dev nD) : S2048.Idx → EReal := m ((c : Thread nD τ).loc main_arg7)

theorem V0 (c : Dev nD) : V m c main_v0 = shapeCast S256x2048 (aX m c) shapeCasts_S16x16x2048_S256x2048 := by
  unfold V hostOps0
  after_results <;> rfl
theorem V1 (c : Dev nD) : V m c main_v1 = aWh m c := by
  unfold V hostOps0
  after_results <;> rfl
theorem V2 (c : Dev nD) : V m c main_v2 = aWr m c := by
  unfold V hostOps0
  after_results <;> rfl
theorem V3 (c : Dev nD) : V m c main_v3 = aWo m c := by
  unfold V hostOps0
  after_results <;> rfl
theorem V4 (c : Dev nD) : V m c main_v4 = shapeCast S1x2048 (aG m c) shapeCasts_S2048_S1x2048 := by
  unfold V hostOps0
  after_results <;> rfl

/-- The streams' tokens one after another: the row of token `r`. -/
theorem tokens_apply (x : S16x16x2048.Idx → EReal) (r : Fin 256) (k : Fin 2048) :
    shapeCast S256x2048 x shapeCasts_S16x16x2048_S256x2048 (ix2 r k) = x (ix3 ⟨r.val / 16, by omega⟩ ⟨r.val % 16, by omega⟩ k) :=
  shapeCast_apply _ _ _ _ (by
    rw [Shape.rowMajor_val_three, Shape.rowMajor_val_two]
    show (r.val / 16 * 16 + r.val % 16) * 2048 + k.val = r.val * 2048 + k.val
    omega)

/-- Which blocks the one point reads: every array whole, but of the projection the seventh and the eighth sixteen heads. -/
theorem pts : ∀ t : Fin cfg0.N, (∀ a : Fin 3, win0_0.index t a = 0) ∧ (∀ a : Fin 3, win0_1.index t a = 0)
    ∧ (∀ a : Fin 3, win0_2.index t a = (![6, 0, 0] : Fin 3 → Nat) a) ∧ (∀ a : Fin 3, win0_3.index t a = (![7, 0, 0] : Fin 3 → Nat) a)
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) ∧ (∀ a : Fin 2, win0_9.index t a = 0) :=
  (by decide +kernel : ∀ t : Fin grid0.N, _)

/-- An axis of a block at index `0` starts where the array does. -/
theorem at_zero {i n r : Nat} (h : i = 0) : i * n + 1 * r = r := by subst h; omega

theorem blk0 (c : Dev nD) (t : Fin cfg0.N) : (iblk m c 0 t : S16x256x128.Idx → EReal) = aYh m c := by
  refine Eq.trans ?_ (show V m c main_arg0 = aYh m c from V_main_arg0 m c)
  funext j
  unfold iblk
  rw [View.read_apply]
  exact congrArg (V m c main_arg0) (funext fun a => Fin.ext (at_zero ((pts t).1 a)))

theorem blk1 (c : Dev nD) (t : Fin cfg0.N) : (iblk m c 1 t : S16x256x128.Idx → EReal) = aYr m c := by
  refine Eq.trans ?_ (show V m c main_arg1 = aYr m c from V_main_arg1 m c)
  funext j
  unfold iblk
  rw [View.read_apply]
  exact congrArg (V m c main_arg1) (funext fun a => Fin.ext (at_zero ((pts t).2.1 a)))

/-- The gates' heads, read from the projection at block `o` of sixteen. -/
theorem blk2 (c : Dev nD) (t : Fin cfg0.N) (r : Fin 256) :
    headRow (n0 := 16) (n1 := 256) (iblk m c 2 t) 0 (by decide) r = headRow (n0 := 128) (n1 := 256) (aProj m c) 96 (by decide) r := by
  obtain ⟨-, -, e, -⟩ := pts t
  funext p
  unfold headRow iblk
  rw [View.read_apply]
  refine Eq.trans ?_ (congrFun (show V m c main_arg2 = aProj m c from V_main_arg2 m c) _)
  refine congrArg (V m c main_arg2) (funext fun a => Fin.ext ?_)
  match a with
  | ⟨0, _⟩ => show win0_2.index t 0 * 16 + 1 * (0 + p.val / 128) = 96 + p.val / 128; rw [show win0_2.index t 0 = 6 from e 0]; omega
  | ⟨1, _⟩ => exact at_zero (e 1)
  | ⟨2, _⟩ => exact at_zero (e 2)

theorem blk3 (c : Dev nD) (t : Fin cfg0.N) (r : Fin 256) :
    headRow (n0 := 16) (n1 := 256) (iblk m c 3 t) 0 (by decide) r = headRow (n0 := 128) (n1 := 256) (aProj m c) 112 (by decide) r := by
  obtain ⟨-, -, -, e, -⟩ := pts t
  funext p
  unfold headRow iblk
  rw [View.read_apply]
  refine Eq.trans ?_ (congrFun (show V m c main_arg2 = aProj m c from V_main_arg2 m c) _)
  refine congrArg (V m c main_arg2) (funext fun a => Fin.ext ?_)
  match a with
  | ⟨0, _⟩ => show win0_3.index t 0 * 16 + 1 * (0 + p.val / 128) = 112 + p.val / 128; rw [show win0_3.index t 0 = 7 from e 0]; omega
  | ⟨1, _⟩ => exact at_zero (e 1)
  | ⟨2, _⟩ => exact at_zero (e 2)

theorem blk4 (c : Dev nD) (t : Fin cfg0.N) (r : Fin 256) (k : Fin 2048) :
    (iblk m c 4 t : S256x2048.Idx → EReal) (ix2 r k) = aX m c (ix3 ⟨r.val / 16, by omega⟩ ⟨r.val % 16, by omega⟩ k) := by
  refine Eq.trans ?_ ((congrFun (V0 m c) _).trans (tokens_apply (aX m c) r k))
  unfold iblk
  rw [View.read_apply]
  exact congrArg (V m c main_v0) (funext fun a => Fin.ext (at_zero ((pts t).2.2.2.2.1 a)))

theorem blk5 (c : Dev nD) (t : Fin cfg0.N) : (iblk m c 5 t : S2048x2048.Idx → EReal) = aWh m c := by
  refine Eq.trans ?_ (V1 m c)
  funext j
  unfold iblk
  rw [View.read_apply]
  exact congrArg (V m c main_v1) (funext fun a => Fin.ext (at_zero ((pts t).2.2.2.2.2.1 a)))

theorem blk6 (c : Dev nD) (t : Fin cfg0.N) : (iblk m c 6 t : S2048x2048.Idx → EReal) = aWr m c := by
  refine Eq.trans ?_ (V2 m c)
  funext j
  unfold iblk
  rw [View.read_apply]
  exact congrArg (V m c main_v2) (funext fun a => Fin.ext (at_zero ((pts t).2.2.2.2.2.2.1 a)))

theorem blk7 (c : Dev nD) (t : Fin cfg0.N) : (iblk m c 7 t : S2048x2048.Idx → EReal) = aWo m c := by
  refine Eq.trans ?_ (V3 m c)
  funext j
  unfold iblk
  rw [View.read_apply]
  exact congrArg (V m c main_v3) (funext fun a => Fin.ext (at_zero ((pts t).2.2.2.2.2.2.2.1 a)))

theorem blk8 (c : Dev nD) (t : Fin cfg0.N) (k : Fin 2048) : (iblk m c 8 t : S1x2048.Idx → EReal) (ix2 0 k) = aG m c (ix1 k) := by
  refine Eq.trans ?_ ((congrFun (V4 m c) (ix2 0 k)).trans (ValueIdx.shapeCast_a_1a_apply _ _ _ _))
  unfold iblk
  rw [View.read_apply]
  exact congrArg (V m c main_v4) (funext fun a => Fin.ext (at_zero ((pts t).2.2.2.2.2.2.2.2.1 a)))

/-! ## The result array -/

/-- The result array: the reference's. -/
abbrev G (c : Dev nD) : S256x2048.Idx → EReal := Cert.OutSampleRefIdeal.Read.val_main_v42 (F := Ideal) (aYh m c) (aYr m c) (aProj m c) (aX m c)
  (aWh m c) (aWr m c) (aWo m c) (aG m c)

/-- The reference's result at a token's row and a column. -/
theorem G_apply (c : Dev nD) (r : Fin 256) (j : Fin 2048) :
    G m c (ix2 r j) = resRow (prod (mixRow (headRow (n0 := 16) (n1 := 256) (aYh m c) 0 (by decide) r) (headRow (n0 := 16) (n1 := 256) (aYr m c) 0 (by decide) r)
          (headRow (n0 := 128) (n1 := 256) (aProj m c) 96 (by decide) r) (headRow (n0 := 128) (n1 := 256) (aProj m c) 112 (by decide) r)
          (aWh m c) (aWr m c)) (aWo m c)) (fun k => aX m c (ix3 ⟨r.val / 16, by omega⟩ ⟨r.val % 16, by omega⟩ k)) (fun k => aG m c (ix1 k)) j := by
  have hi : Cert.OutSampleRefIdeal.Read.idx_main_v42 (ix2 r j) = ix3 ⟨r.val / 16, by omega⟩ ⟨r.val % 16, by omega⟩ j := by
    funext a
    apply Fin.ext
    match a with
    | ⟨0, _⟩ => show (r.val * 2048 + j.val) / 32768 = r.val / 16; omega
    | ⟨1, _⟩ => show (r.val * 2048 + j.val) / 2048 % 16 = r.val % 16; omega
    | ⟨2, _⟩ => show (r.val * 2048 + j.val) % 2048 = j.val; omega
  have hr : row ⟨r.val / 16, by omega⟩ ⟨r.val % 16, by omega⟩ = r := Fin.ext (by
    show r.val / 16 * 16 + r.val % 16 = r.val; omega)
  unfold G
  rw [Cert.OutSampleRefIdeal.Read.val_main_v42_apply, hi, ref_res, hr]

/-- An index of the result lies in the one point's block, at its own place. -/
theorem blk9 (t : Fin cfg0.N) (g : S256x2048.Idx → EReal) (i : S256x2048.Idx) : ((cfg0.win 9).blk t).view.read (Elt Ideal) g i = g i := by
  rw [View.read_apply]
  exact congrArg g (funext fun a => Fin.ext (at_zero ((pts t).2.2.2.2.2.2.2.2.2 a)))

/-- What the point writes back is the reference's result. -/
theorem flushed_eq (c : Dev nD) (t : Fin cfg0.N) :
    (dats m 0 c).flushed 9 t = ((cfg0.win 9).blk t).view.read (Elt Ideal) (G m c) := by
  rw [flushed9]
  refine funext fun i : S256x2048.Idx => ?_
  obtain ⟨r, j, rfl⟩ : ∃ r j, i = ix2 (n0 := 256) (n1 := 2048) r j := ⟨_, _, eq_ix2 i⟩
  refine Eq.trans ?_ (blk9 t (G m c) (ix2 r j)).symm
  refine Eq.trans ?_ (G_apply m c r j).symm
  refine (out_apply _ _ _ _ _ _ _ _ _ r j).trans ?_
  rw [blk0, blk1, blk2, blk3, blk5, blk6, blk7, show (fun k => (iblk m c 4 t : S256x2048.Idx → EReal) (ix2 r k)) = _ from funext (blk4 m c t r),
    show (fun k => (iblk m c 8 t : S1x2048.Idx → EReal) (ix2 0 k)) = _ from funext (blk8 m c t)]

/-- The point's block is the whole result. -/
theorem cover (i : S256x2048.Idx) : ∃ t : Fin cfg0.N, (cfg0.win 9).flush t = true ∧ i ∈ ((cfg0.win 9).blk t).view.set := by
  have ht : 0 < cfg0.N := by rw [show cfg0.N = 1 from N_0]; omega
  refine ⟨⟨0, ht⟩, flush0_9 _, ?_⟩
  rw [show ((cfg0.win 9).blk ⟨0, ht⟩).view.set = _ from View.set_slice_whole .., Rect.mem_set_unit]
  intro a
  have e : win0_9.index ⟨0, ht⟩ a = 0 := (pts ⟨0, ht⟩).2.2.2.2.2.2.2.2.2 a
  show win0_9.index ⟨0, ht⟩ a * _ ≤ (i a).val ∧ (i a).val < win0_9.index ⟨0, ht⟩ a * _ + S256x2048.size a
  rw [e, Nat.zero_mul, Nat.zero_add]
  exact ⟨Nat.zero_le _, (i a).isLt⟩

/-- The kernel's result array is the reference's. -/
theorem final_eq (c : Dev nD) : (dats m 0 c).arrAt 9 cfg0.N = G m c :=
  (dats m 0 c).arrAt_eq_of_cover 9 (G m c) (fun t _ => flushed_eq m c t) cover

end Cert.OutSampleIdeal.Block

end
-- ==== Proof.OutSampleClaim.lean ====
/- The claims of the output stage at the sample's shapes: its result is the reference's, and the reference runs and keeps its arguments. -/
module

public import proofs.«01_k».proof.Defs
public import proofs.«01_k».proof.Proof.OutSampleValue

@[expose] public section

noncomputable section

open Idealize.ShloMosaic Idealize.ShloMosaic.TcCoe Idealize.SL.Sem

namespace Cert.Proof.OutSample

/-- The reference runs, keeps its arguments and ends with no semaphore counter raised: it is host operations alone. -/
theorem frame_ref : Cert.quiescent_OutSampleRefIdeal := fun m ρ _ =>
  (θ_run Cert.OutSampleRefIdeal.defs _ _).mono (fun r h => ⟨fun c => (h c).2, sem_eq_zero_of_no_sems (by decide) r.2⟩)
    (Cert.OutSampleRefIdeal.Value.run (F := Ideal) m ρ)

/-- Over the extended reals the call's result is the reference's: for every token, its input plus the normalised output
    row of the two gated branches. -/
theorem algebraic : Cert.algebraic_OutSampleIdeal_OutSampleRefIdeal := fun m ρ m' ρ' _ hag =>
  ⟨fun c => Cert.OutSampleIdeal.Block.G m c,
    (θ_run _ _ _).mono (fun _ h c => ⟨(h c).1.trans (Cert.OutSampleIdeal.Block.final_eq m c), (h c).2⟩) (Cert.OutSampleIdeal.Value.run_blocks m ρ),
    (θ_run _ _ _).mono (fun _ h c => ⟨((h c).1.trans (Cert.OutSampleRefIdeal.Read.val_main_v42_eq m' c)).trans
      (by obtain ⟨e0, e1, e2, e3, e4, e5, e6, e7⟩ := hag c; rw [e0, e1, e2, e3, e4, e5, e6, e7]), (h c).2⟩)
      (Cert.OutSampleRefIdeal.Value.run m' ρ')⟩

end Cert.Proof.OutSample

end
-- ==== Proof.RglruBlock.lean ====
/- The recurrence kernel, channel slab by channel slab: what one trip of its loop over the sixteen slabs computes from the
   slab's inputs, and what the trips so far leave in the output blocks and in the scratch. -/
module

public import proofs.«01_k».proof.Proof.Gen.RglruIdeal.Skeleton
public import Idealize.ShloMosaic.Lib.ValueLayout
public import Idealize.ShloMosaic.Lib.WritesUnit
public import Idealize.ShloMosaic.Lib.Pipeline.ValueKit
public import Idealize.ShloMosaic.Lib.Pipeline.Value

@[expose] public section

set_option maxRecDepth 16384

noncomputable section

open Idealize.ShloMosaic

namespace Cert.RglruIdeal.Block

open Cert.RglruIdeal Cert.RglruIdeal.Gen

variable {F : FTy → Type} [FloatOps F]

/-! ## One slab's values -/

/-- Slab `j` of an array of slabs. -/
abbrev slab {n a b : Nat} {e : EltTy} (x : Vec F ⟨3, ![n, a, b]⟩ e) (j : Fin n) : Vec F ⟨3, ![1, a, b]⟩ e :=
  fun y => x (ix3 (n0 := n) (n1 := a) (n2 := b) j (y 1) (y 2))

/-- Slab `j`'s rows seen `3 - d` steps before: the three rows of history, then the slab's own. -/
abbrev tap (x0 : Vec F S16x16x128 .f32) (x2 : Vec F S1x16x3x128 .f32) (j : Fin 16) (d : Nat) (hd : d ≤ 3) : Vec F S1x16x128 .f32 :=
  fun y => if h : (y 1).val + d < 3 then x2 (ix4 (n0 := 1) (n1 := 16) (n2 := 3) (n3 := 128) 0 j ⟨(y 1).val + d, h⟩ (y 2))
    else x0 (ix3 (n0 := 16) (n1 := 16) (n2 := 128) j ⟨(y 1).val + d - 3, by have h1 : (y 1).val < 16 := (y 1).isLt; omega⟩ (y 2))

/-- Rows `o … o + 7` of a slab's table. -/
abbrev rows (a : Vec F S16x128 .f32) (o : Nat) (ho : o + 8 ≤ 16) : Vec F S8x128 .f32 :=
  fun y => a (ix2 (n0 := 16) (n1 := 128) ⟨o + (y 0).val, by have h : (y 0).val < 8 := (y 0).isLt; omega⟩ (y 1))

/-- The row numbers of an eight-row table. -/
abbrev lanes : IVec S8x128 32 := iota .tc S8x128 32 [0] iota_S8x128_d0_w32

section Values
variable (x0 x1 : Vec F S16x16x128 .f32) (x2 : Vec F S1x16x3x128 .f32) (x3 : Vec F S1x16x1x128 .f32)
  (x4 : Vec F S16x4x128 .f32) (x5 : Vec F S16x1x128 .f32) (x6 : Vec F S16x128x128 .bf16) (x7 : Vec F S16x1x128 .f32)
  (x8 : Vec F S16x128x128 .bf16) (x9 x10 : Vec F S16x1x128 .f32) (v1 : IVec S8x128 32) (j : Fin 16)

/-- The slab after the causal convolution. -/
def conv : FVec F S16x128 .f32 :=
  k0_pay41 (slab x4 j) (slab x5 j) (tap x0 x2 j 0 (by decide)) (tap x0 x2 j 1 (by decide)) (tap x0 x2 j 2 (by decide)) (slab x0 j)

/-- The scaled recurrence gate. -/
def gate : FVec F S16x128 .f32 := k0_pay47 (conv x0 x2 x4 x5 j) (slab x6 j) (slab x7 j)

/-- The recurrence's factors. -/
def fac : FVec F S16x128 .f32 := k0_pay50 (k0_pay46 (slab x10 j)) (gate x0 x2 x4 x5 x6 x7 j)

/-- The recurrence's increments. -/
def inc : FVec F S16x128 .f32 :=
  k0_pay51 (conv x0 x2 x4 x5 j) (k0_pay45 (conv x0 x2 x4 x5 j) (slab x8 j) (slab x9 j)) (k0_pay46 (slab x10 j)) (gate x0 x2 x4 x5 x6 x7 j)

/-- The state before the slab's first row, over eight rows. -/
def start : FVec F S8x128 .f32 :=
  k0_pay52 (fun y => x3 (ix4 (n0 := 1) (n1 := 16) (n2 := 1) (n3 := 128) 0 j 0 (y 2)))

/-- The state after the first eight rows, over eight rows. -/
def mid : FVec F S8x128 .f32 :=
  k0_pay59 v1 (start x3 j) (k0_pay54 v1 (rows (fac x0 x2 x4 x5 x6 x7 x10 j) 0 (by decide)) (rows (inc x0 x2 x4 x5 x6 x7 x8 x9 x10 j) 0 (by decide)))
    (k0_pay55 v1 (rows (fac x0 x2 x4 x5 x6 x7 x10 j) 0 (by decide))) k0_pay56

/-- The first eight states. -/
def first : FVec F S8x128 .f32 :=
  k0_pay58 v1 (start x3 j) (k0_pay54 v1 (rows (fac x0 x2 x4 x5 x6 x7 x10 j) 0 (by decide)) (rows (inc x0 x2 x4 x5 x6 x7 x8 x9 x10 j) 0 (by decide)))
    (k0_pay55 v1 (rows (fac x0 x2 x4 x5 x6 x7 x10 j) 0 (by decide))) k0_pay56

/-- The last eight states. -/
def second : FVec F S8x128 .f32 :=
  k0_pay63 v1 (mid x0 x2 x3 x4 x5 x6 x7 x8 x9 x10 v1 j) (rows (fac x0 x2 x4 x5 x6 x7 x10 j) 8 (by decide)) (rows (inc x0 x2 x4 x5 x6 x7 x8 x9 x10 j) 8 (by decide))
    (k0_pay60 v1) (k0_pay61 v1 (rows (fac x0 x2 x4 x5 x6 x7 x10 j) 8 (by decide)) (rows (inc x0 x2 x4 x5 x6 x7 x8 x9 x10 j) 8 (by decide)))

/-- The state after the slab's last row, over eight rows. -/
def last : FVec F S8x128 .f32 :=
  k0_pay64 v1 (mid x0 x2 x3 x4 x5 x6 x7 x8 x9 x10 v1 j) (rows (fac x0 x2 x4 x5 x6 x7 x10 j) 8 (by decide)) (rows (inc x0 x2 x4 x5 x6 x7 x8 x9 x10 j) 8 (by decide))
    (k0_pay60 v1) (k0_pay61 v1 (rows (fac x0 x2 x4 x5 x6 x7 x10 j) 8 (by decide)) (rows (inc x0 x2 x4 x5 x6 x7 x8 x9 x10 j) 8 (by decide)))

/-- The slab's sixteen states. -/
def states : Vec F S16x128 .f32 := fun y =>
  if h : (y 0).val < 8 then first x0 x2 x3 x4 x5 x6 x7 x8 x9 x10 v1 j (ix2 (n0 := 8) (n1 := 128) ⟨(y 0).val, h⟩ (y 1))
  else second x0 x2 x3 x4 x5 x6 x7 x8 x9 x10 v1 j (ix2 (n0 := 8) (n1 := 128) ⟨(y 0).val - 8, by have h : (y 0).val < 16 := (y 0).isLt; omega⟩ (y 1))

/-- The slab of the gated states, as stored. -/
def outY : FVec F S1x16x128 .bf16 := k0_pay3 (states x0 x2 x3 x4 x5 x6 x7 x8 x9 x10 v1 j) (slab x1 j)

/-- The slab's last three input rows, as stored. -/
def outTail : FVec F S1x1x3x128 .f32 := k0_pay4 (k0_pay42 (k0_pay39 (slab x0 j)))

/-- The slab's last state, as stored. -/
def outLast : FVec F S1x1x1x128 .f32 := k0_pay5 (last x0 x2 x3 x4 x5 x6 x7 x8 x9 x10 v1 j)

/-- The block of gated states. -/
def resY : Vec F S16x16x128 .bf16 := fun y => outY x0 x1 x2 x3 x4 x5 x6 x7 x8 x9 x10 v1 (y 0) (ix3 (n0 := 1) (n1 := 16) (n2 := 128) 0 (y 1) (y 2))

/-- The block of last input rows. -/
def resTail : Vec F S1x16x3x128 .f32 := fun y => outTail x0 (y 1) (ix4 (n0 := 1) (n1 := 1) (n2 := 3) (n3 := 128) 0 0 (y 2) (y 3))

/-- The block of last states. -/
def resLast : Vec F S1x16x1x128 .f32 := fun y => outLast x0 x2 x3 x4 x5 x6 x7 x8 x9 x10 v1 (y 1) (ix4 (n0 := 1) (n1 := 1) (n2 := 1) (n3 := 128) 0 0 0 (y 3))

end Values

/-! ## What the trips before `k` leave -/

section Left
variable (x0 x1 : Vec F S16x16x128 .f32) (x2 : Vec F S1x16x3x128 .f32) (x3 : Vec F S1x16x1x128 .f32)
  (x4 : Vec F S16x4x128 .f32) (x5 : Vec F S16x1x128 .f32) (x6 : Vec F S16x128x128 .bf16) (x7 : Vec F S16x1x128 .f32)
  (x8 : Vec F S16x128x128 .bf16) (x9 x10 : Vec F S16x1x128 .f32) (v1 : IVec S8x128 32)

/-- The outputs' slabs before `k` hold the slabs' results; the scratch's slabs from `k` on hold the history's rows and the
    states to start from. -/
structure Left (k : Nat) (r14 : Vec F S16x16x128 .bf16) (r15 : Vec F S1x16x3x128 .f32) (r16 : Vec F S1x16x1x128 .f32)
    (r17 : Vec F S16x24x128 .f32) (r18 : Vec F S16x8x128 .f32) : Prop where
  y : ∀ (j : Fin 16) (r : Fin 16) (l : Fin 128), j.val < k → r14 (ix3 j r l) = outY x0 x1 x2 x3 x4 x5 x6 x7 x8 x9 x10 v1 j (ix3 0 r l)
  tail : ∀ (j : Fin 16) (r : Fin 3) (l : Fin 128), j.val < k → r15 (ix4 0 j r l) = outTail x0 j (ix4 0 0 r l)
  last : ∀ (j : Fin 16) (l : Fin 128), j.val < k → r16 (ix4 0 j 0 l) = outLast x0 x2 x3 x4 x5 x6 x7 x8 x9 x10 v1 j (ix4 0 0 0 l)
  hist : ∀ (j : Fin 16) (r : Fin 3) (l : Fin 128), k ≤ j.val → r17 (ix3 j ⟨5 + r.val, by omega⟩ l) = x2 (ix4 0 j r l)
  init : ∀ (j : Fin 16) (r : Fin 8) (l : Fin 128), k ≤ j.val → r18 (ix3 j r l) = x3 (ix4 0 j 0 l)

end Left

/-! ## Loads and stores of a trip -/

/-- There are sixteen trips. -/
theorem trips_eq : k0_t1_loop.trips = 16 := by decide +kernel

/-- The trip's slab. -/
abbrev sl (k : Fin k0_t1_loop.trips) : Fin 16 := ⟨k.val, trips_eq ▸ k.isLt⟩

/-- A load of slab `k` of a whole array. -/
theorem load_slab {n a b : Nat} {e : EltTy} (arg : Memref sig .tc .vmem ⟨3, ![n, a, b]⟩ e) (harg : arg.IsWhole)
    (x : Vec F ⟨3, ![n, a, b]⟩ e) {off : Fin 3 → Nat} (inb : ∀ i, off i + (![1, a, b] : Fin 3 → Nat) i ≤ (![n, a, b] : Fin 3 → Nat) i)
    (k : Fin n) (h : off = ![k.val, 0, 0]) :
    View.readAt (Elt F) arg.view (Rect.unit (s := ⟨3, ![n, a, b]⟩) off ![1, a, b] inb).toLoadRect (harg.unread x) = slab x k := by
  subst h
  refine (View.readAt_eq_ld arg.view (harg.unread x) (Rect.unit (s := ⟨3, ![n, a, b]⟩) _ ![1, a, b] inb)).trans ?_
  rw [harg.read_unread]
  funext y
  refine View.ld_unit_apply_of x _ ![1, a, b] inb y (ix3 k (y 1) (y 2)) fun i => ?_
  have h0 : (y 0).val < 1 := (y 0).isLt
  match i with
  | ⟨0, _⟩ => show k.val = k.val + (y 0).val; omega
  | ⟨1, _⟩ => show (y 1).val = 0 + (y 1).val; omega
  | ⟨2, _⟩ => show (y 2).val = 0 + (y 2).val; omega

/-- A slab stored and loaded back is itself. -/
theorem pay40_eq (v : Vec F S1x16x128 .f32) : k0_pay40 v = v := shapeCast_shapeCast v _ _

/-- The rows of the scratch from `5 + d` on, once the slab is stored at its row `8`. -/
theorem load_tap {arg17 : Memref sig .tc .vmem S16x24x128 .f32} (f17 : arg17.view.ty.Contents (Elt F))
    (x0 : Vec F S16x16x128 .f32) (x2 : Vec F S1x16x3x128 .f32) (k : Fin k0_t1_loop.trips)
    (hh : ∀ (r : Fin 3) (l : Fin 128), arg17.view.read (Elt F) f17 (ix3 (sl k) ⟨5 + r.val, by omega⟩ l) = x2 (ix4 0 (sl k) r l))
    (d : Nat) (hd : d ≤ 3) {off : Fin 3 → Nat} (inb : ∀ i, off i + S1x16x128.size i ≤ S16x24x128.size i) (h : off = ![k.val, 5 + d, 0]) :
    View.readAt (Elt F) arg17.view (Rect.unit (s := S16x24x128) off S1x16x128.size inb).toLoadRect
      (arg17.view.writes (Elt F) f17 [⟨Rect.unit (k0_off2 k) S1x16x128.size (k0_off2_inb k), slab x0 (sl k)⟩]) = tap x0 x2 (sl k) d hd := by
  subst h
  refine (View.readAt_eq_ld arg17.view _ (Rect.unit (s := S16x24x128) _ S1x16x128.size inb)).trans ?_
  funext y
  have h0 : (y 0).val < 1 := (y 0).isLt
  have h1 : (y 1).val < 16 := (y 1).isLt
  refine (View.ld_unit_apply_of (S := S16x24x128) _ _ S1x16x128.size inb y (ix3 (n0 := 16) (n1 := 24) (n2 := 128) (sl k) ⟨5 + d + (y 1).val, by omega⟩ (y 2)) fun i => ?_).trans ?_
  · match i with
    | ⟨0, _⟩ => show k.val = k.val + (y 0).val; omega
    | ⟨1, _⟩ => rfl
    | ⟨2, _⟩ => show (y 2).val = 0 + (y 2).val; omega
  · show _ = if h : (y 1).val + d < 3 then _ else _
    by_cases hc : (y 1).val + d < 3
    · rw [dif_pos hc]
      refine (View.read_writes_cons_unit_of_not_mem arg17.view f17 _ _ _ _ (k0_off2_eq k) ⟨1, by decide⟩ (Or.inl ?_)).trans ?_
      · show 5 + d + (y 1).val < 8; omega
      · refine Eq.trans ?_ (hh ⟨(y 1).val + d, hc⟩ (y 2))
        show arg17.view.read (Elt F) f17 _ = _
        congr 2
        apply Fin.ext
        show 5 + d + (y 1).val = 5 + ((y 1).val + d); omega
    · rw [dif_neg hc]
      refine (View.read_writes_cons_unit_of_mem arg17.view f17 _ _ _ _ (ix3 (n0 := 1) (n1 := 16) (n2 := 128) 0 ⟨(y 1).val + d - 3, by omega⟩ (y 2)) (k0_off2_eq k) fun i => ?_).trans rfl
      match i with
      | ⟨0, _⟩ => rfl
      | ⟨1, _⟩ => show 5 + d + (y 1).val = 8 + ((y 1).val + d - 3); omega
      | ⟨2, _⟩ => show (y 2).val = 0 + (y 2).val; omega

/-- What one store through a whole table leaves, read by eight rows. -/
theorem load_rows {arg : Memref sig .tc .vmem S16x128 .f32} (w : Vec F S16x128 .f32) (inb) (o : Nat) (ho : o + 8 ≤ 16) (inb') :
    arg.view.readCov (Val := Elt F) [⟨Rect.unit (s := S16x128) ![0, 0] S16x128.size inb, w⟩] (Rect.unit (s := S16x128) ![o, 0] S8x128.size inb').toLoadRect
      = rows w o ho := by
  rw [View.readCov_eq_canon', View.canon_unit_zero (by funext i; match i with | ⟨0, _⟩ => rfl | ⟨1, _⟩ => rfl)]
  funext y
  refine congrArg w (funext fun i => Fin.ext ?_)
  refine (Rect.idx_unit_val _ _ inb' y i).trans ?_
  match i with
  | ⟨0, _⟩ => rfl
  | ⟨1, _⟩ => show 0 + (y 1).val = (y 1).val; omega

/-- The two stores of eight rows, read as a table. -/
theorem load_states {arg : Memref sig .tc .vmem S16x128 .f32} (a b : Vec F S8x128 .f32) (inb0 inb8 inb) :
    arg.view.readCov (Val := Elt F) [⟨Rect.unit (s := S16x128) ![8, 0] S8x128.size inb8, b⟩, ⟨Rect.unit (s := S16x128) ![0, 0] S8x128.size inb0, a⟩]
      (Rect.unit (s := S16x128) ![0, 0] ![16, 128] inb).toLoadRect
      = fun y => if h : (y 0).val < 8 then a (ix2 (n0 := 8) (n1 := 128) ⟨(y 0).val, h⟩ (y 1))
        else b (ix2 (n0 := 8) (n1 := 128) ⟨(y 0).val - 8, by have h : (y 0).val < 16 := (y 0).isLt; omega⟩ (y 1)) := by
  funext y
  have h0 : (y 0).val < 16 := (y 0).isLt
  have hidx : (Rect.unit (s := S16x128) ![0, 0] ![16, 128] inb).toLoadRect.idx y = (y : S16x128.Idx) := by
    funext i
    apply Fin.ext
    refine (Rect.idx_unit_val _ _ inb y i).trans ?_
    match i with
    | ⟨0, _⟩ => show 0 + (y 0).val = (y 0).val; omega
    | ⟨1, _⟩ => show 0 + (y 1).val = (y 1).val; omega
  show arg.view.read (Elt F) (arg.view.writes (Elt F) arg.view.junk _) ((Rect.unit (s := S16x128) ![0, 0] ![16, 128] inb).toLoadRect.idx y) = _
  rw [hidx]
  by_cases hc : (y 0).val < 8
  · rw [dif_pos hc]
    refine (View.read_writes_cons_unit_of_not_mem arg.view _ inb8 _ _ _ rfl ⟨0, by decide⟩ (Or.inl hc)).trans ?_
    refine View.read_writes_cons_unit_of_mem arg.view _ inb0 _ _ _ (ix2 (n0 := 8) (n1 := 128) ⟨(y 0).val, hc⟩ (y 1)) rfl fun i => ?_
    match i with
    | ⟨0, _⟩ => show (y 0).val = 0 + (y 0).val; omega
    | ⟨1, _⟩ => show (y 1).val = 0 + (y 1).val; omega
  · rw [dif_neg hc]
    refine View.read_writes_cons_unit_of_mem arg.view _ inb8 _ _ _ (ix2 (n0 := 8) (n1 := 128) ⟨(y 0).val - 8, by omega⟩ (y 1)) rfl fun i => ?_
    match i with
    | ⟨0, _⟩ => show (y 0).val = 8 + ((y 0).val - 8); omega
    | ⟨1, _⟩ => show (y 1).val = 0 + (y 1).val; omega

/-! ## One trip -/

section Step
variable {x0 x1 : Vec F S16x16x128 .f32} {x2 : Vec F S1x16x3x128 .f32} {x3 : Vec F S1x16x1x128 .f32}
  {x4 : Vec F S16x4x128 .f32} {x5 : Vec F S16x1x128 .f32} {x6 : Vec F S16x128x128 .bf16} {x7 : Vec F S16x1x128 .f32}
  {x8 : Vec F S16x128x128 .bf16} {x9 x10 : Vec F S16x1x128 .f32} {v1 : IVec S8x128 32}
  {arg14 : Memref sig .tc .vmem S16x16x128 .bf16} {arg15 : Memref sig .tc .vmem S1x16x3x128 .f32} {arg16 : Memref sig .tc .vmem S1x16x1x128 .f32}
  {arg17 : Memref sig .tc .vmem S16x24x128 .f32} {arg18 : Memref sig .tc .vmem S16x8x128 .f32}
  {f14 : arg14.view.ty.Contents (Elt F)} {f15 : arg15.view.ty.Contents (Elt F)} {f16 : arg16.view.ty.Contents (Elt F)}
  {f17 : arg17.view.ty.Contents (Elt F)} {f18 : arg18.view.ty.Contents (Elt F)}

/-- A trip's stores take what the trips before it leave to what the trips up to it leave. -/
theorem Left.step {k : Fin k0_t1_loop.trips}
    (H : Left x0 x1 x2 x3 x4 x5 x6 x7 x8 x9 x10 v1 k.val (arg14.view.read (Elt F) f14) (arg15.view.read (Elt F) f15)
      (arg16.view.read (Elt F) f16) (arg17.view.read (Elt F) f17) (arg18.view.read (Elt F) f18))
    (inb14 inb15 inb16 inb17 inb17' inb18) (w17 : Vec F S1x3x128 .f32) (w17' : Vec F S1x16x128 .f32) (w18 : Vec F S1x8x128 .f32) :
    Left x0 x1 x2 x3 x4 x5 x6 x7 x8 x9 x10 v1 (k.val + 1)
      (arg14.view.read (Elt F) (arg14.view.writes (Elt F) f14 [⟨Rect.unit (k0_off1 k) S1x16x128.size inb14, outY x0 x1 x2 x3 x4 x5 x6 x7 x8 x9 x10 v1 (sl k)⟩]))
      (arg15.view.read (Elt F) (arg15.view.writes (Elt F) f15 [⟨Rect.unit (k0_off12 k) S1x1x3x128.size inb15, outTail x0 (sl k)⟩]))
      (arg16.view.read (Elt F) (arg16.view.writes (Elt F) f16 [⟨Rect.unit (k0_off13 k) S1x1x1x128.size inb16, outLast x0 x2 x3 x4 x5 x6 x7 x8 x9 x10 v1 (sl k)⟩]))
      (arg17.view.read (Elt F) (arg17.view.writes (Elt F) f17 [⟨Rect.unit (k0_off8 k) S1x3x128.size inb17, w17⟩, ⟨Rect.unit (k0_off2 k) S1x16x128.size inb17', w17'⟩]))
      (arg18.view.read (Elt F) (arg18.view.writes (Elt F) f18 [⟨Rect.unit (k0_off10 k) S1x8x128.size inb18, w18⟩])) where
  y j r l hj := by
    by_cases h : j.val < k.val
    · exact (View.read_writes_cons_unit_of_not_mem arg14.view f14 inb14 _ _ _ (k0_off1_eq k) ⟨0, by decide⟩ (Or.inl h)).trans (H.y j r l h)
    · have e : j = sl k := Fin.ext (by show j.val = k.val; omega)
      subst e
      refine View.read_writes_cons_unit_of_mem arg14.view f14 inb14 _ _ _ (ix3 (n0 := 1) (n1 := 16) (n2 := 128) 0 r l) (k0_off1_eq k) fun i => ?_
      match i with
      | ⟨0, _⟩ => rfl
      | ⟨1, _⟩ => show r.val = 0 + r.val; omega
      | ⟨2, _⟩ => show l.val = 0 + l.val; omega
  tail j r l hj := by
    by_cases h : j.val < k.val
    · exact (View.read_writes_cons_unit_of_not_mem arg15.view f15 inb15 _ _ _ (k0_off12_eq k) ⟨1, by decide⟩ (Or.inl h)).trans (H.tail j r l h)
    · have e : j = sl k := Fin.ext (by show j.val = k.val; omega)
      subst e
      refine View.read_writes_cons_unit_of_mem arg15.view f15 inb15 _ _ _ (ix4 (n0 := 1) (n1 := 1) (n2 := 3) (n3 := 128) 0 0 r l) (k0_off12_eq k) fun i => ?_
      match i with
      | ⟨0, _⟩ => rfl
      | ⟨1, _⟩ => rfl
      | ⟨2, _⟩ => show r.val = 0 + r.val; omega
      | ⟨3, _⟩ => show l.val = 0 + l.val; omega
  last j l hj := by
    by_cases h : j.val < k.val
    · exact (View.read_writes_cons_unit_of_not_mem arg16.view f16 inb16 _ _ _ (k0_off13_eq k) ⟨1, by decide⟩ (Or.inl h)).trans (H.last j l h)
    · have e : j = sl k := Fin.ext (by show j.val = k.val; omega)
      subst e
      refine View.read_writes_cons_unit_of_mem arg16.view f16 inb16 _ _ _ (ix4 (n0 := 1) (n1 := 1) (n2 := 1) (n3 := 128) 0 0 0 l) (k0_off13_eq k) fun i => ?_
      match i with
      | ⟨0, _⟩ => rfl
      | ⟨1, _⟩ => rfl
      | ⟨2, _⟩ => rfl
      | ⟨3, _⟩ => show l.val = 0 + l.val; omega
  hist j r l hj := by
    have hj' : k.val + 1 ≤ j.val := hj
    refine (View.read_writes_cons_unit_of_not_mem arg17.view f17 inb17 _ _ _ (k0_off8_eq k) ⟨0, by decide⟩ (Or.inr ?_)).trans ?_
    · exact hj'
    refine (View.read_writes_cons_unit_of_not_mem arg17.view f17 inb17' _ _ _ (k0_off2_eq k) ⟨0, by decide⟩ (Or.inr ?_)).trans ?_
    · exact hj'
    exact H.hist j r l (by omega)
  init j r l hj := by
    have hj' : k.val + 1 ≤ j.val := hj
    refine (View.read_writes_cons_unit_of_not_mem arg18.view f18 inb18 _ _ _ (k0_off10_eq k) ⟨0, by decide⟩ (Or.inr ?_)).trans (H.init j r l (by omega))
    exact hj'

/-- The state a trip starts from, loaded. -/
theorem load_start {k : Fin k0_t1_loop.trips}
    (hi : ∀ (r : Fin 8) (l : Fin 128), arg18.view.read (Elt F) f18 (ix3 (sl k) r l) = x3 (ix4 0 (sl k) 0 l)) (inb) :
    k0_pay52 (View.readAt (Elt F) arg18.view (Rect.unit (s := S16x8x128) (k0_off10 k) S1x8x128.size inb).toLoadRect f18) = start x3 (sl k) := by
  unfold start
  refine congrArg k0_pay52 ?_
  refine (View.readAt_eq_ld arg18.view _ (Rect.unit (s := S16x8x128) _ S1x8x128.size inb)).trans ?_
  funext y
  have h0 : (y 0).val < 1 := (y 0).isLt
  refine (View.ld_unit_apply_of (S := S16x8x128) _ _ S1x8x128.size inb y (ix3 (n0 := 16) (n1 := 8) (n2 := 128) (sl k) (y 1) (y 2)) fun i => ?_).trans (hi (y 1) (y 2))
  refine Eq.trans ?_ (congrArg (fun o : Fin 3 → Nat => o i + (y i).val) (k0_off10_eq k).symm)
  match i with
  | ⟨0, _⟩ => show k.val = k.val + (y 0).val; omega
  | ⟨1, _⟩ => show (y 1).val = 0 + (y 1).val; omega
  | ⟨2, _⟩ => show (y 2).val = 0 + (y 2).val; omega

end Step

end Cert.RglruIdeal.Block

end
-- ==== Proof.RglruTrip.lean ====
/- One trip of the recurrence kernel's loop: from what the trips before it leave to what the trips up to it leave. -/
module

public import proofs.«01_k».proof.Proof.RglruBlock
public import proofs.«01_k».proof.Proof.Gen.RglruIdeal.Frame
public import proofs.«01_k».proof.Proof.Gen.RglruIdeal.Loops

@[expose] public section

set_option maxRecDepth 16384

noncomputable section

namespace Cert.RglruIdeal.Hand

open Cert.RglruIdeal Cert.RglruIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The launch's last axis has one point, which is the last. -/
theorem cond2 (i : grid0.Coords) : k0_cond2 i = 1#1 := by
  have h : (i 2).val = 0 := by have h : (i 2).val < 1 := (i 2).isLt; omega
  unfold k0_cond2
  rw [h]
  decide
/-- The eleven input blocks at their contents. -/
abbrev Held (c : Dev nD) (arg3 : Memref sig .tc .vmem S16x16x128 .f32) (harg3 : arg3.IsWhole) (arg4 : Memref sig .tc .vmem S16x16x128 .f32) (harg4 : arg4.IsWhole)
    (arg5 : Memref sig .tc .vmem S1x16x3x128 .f32) (harg5 : arg5.IsWhole) (arg6 : Memref sig .tc .vmem S1x16x1x128 .f32) (harg6 : arg6.IsWhole)
    (arg7 : Memref sig .tc .vmem S16x4x128 .f32) (harg7 : arg7.IsWhole) (arg8 : Memref sig .tc .vmem S16x1x128 .f32) (harg8 : arg8.IsWhole)
    (arg9 : Memref sig .tc .vmem S16x128x128 .bf16) (harg9 : arg9.IsWhole) (arg10 : Memref sig .tc .vmem S16x1x128 .f32) (harg10 : arg10.IsWhole)
    (arg11 : Memref sig .tc .vmem S16x128x128 .bf16) (harg11 : arg11.IsWhole) (arg12 : Memref sig .tc .vmem S16x1x128 .f32) (harg12 : arg12.IsWhole)
    (arg13 : Memref sig .tc .vmem S16x1x128 .f32) (harg13 : arg13.IsWhole)
    (x0 : Vec F S16x16x128 .f32) (x1 : Vec F S16x16x128 .f32) (x2 : Vec F S1x16x3x128 .f32) (x3 : Vec F S1x16x1x128 .f32) (x4 : Vec F S16x4x128 .f32)
    (x5 : Vec F S16x1x128 .f32) (x6 : Vec F S16x128x128 .bf16) (x7 : Vec F S16x1x128 .f32) (x8 : Vec F S16x128x128 .bf16) (x9 : Vec F S16x1x128 .f32)
    (x10 : Vec F S16x1x128 .f32) : sProp 𝕄 :=
  iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (arg8.view.loc (c : Thread nD τ) ↦[arg8.view.set]{fullShare} harg8.unread x5) ∗ (arg9.view.loc (c : Thread nD τ) ↦[arg9.view.set]{fullShare} harg9.unread x6) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread x9) ∗ (arg13.view.loc (c : Thread nD τ) ↦[arg13.view.set]{fullShare} harg13.unread x10))

/-- The output blocks and the two scratch tables that pass from trip to trip, as the trips before `k` leave them. -/
abbrev Done (c : Dev nD) (arg14 : Memref sig .tc .vmem S16x16x128 .bf16) (arg15 : Memref sig .tc .vmem S1x16x3x128 .f32) (arg16 : Memref sig .tc .vmem S1x16x1x128 .f32)
    (arg17 : Memref sig .tc .vmem S16x24x128 .f32) (arg18 : Memref sig .tc .vmem S16x8x128 .f32)
    (x0 : Vec F S16x16x128 .f32) (x1 : Vec F S16x16x128 .f32) (x2 : Vec F S1x16x3x128 .f32) (x3 : Vec F S1x16x1x128 .f32) (x4 : Vec F S16x4x128 .f32)
    (x5 : Vec F S16x1x128 .f32) (x6 : Vec F S16x128x128 .bf16) (x7 : Vec F S16x1x128 .f32) (x8 : Vec F S16x128x128 .bf16) (x9 : Vec F S16x1x128 .f32)
    (x10 : Vec F S16x1x128 .f32) (v1 : IVec S8x128 32) (k : Nat) : sProp 𝕄 :=
  iprop(∃ f14, ∃ f15, ∃ f16, ∃ f17, ∃ f18, (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)
    ∗ ⌜Left x0 x1 x2 x3 x4 x5 x6 x7 x8 x9 x10 v1 k (arg14.view.read (Elt F) f14) (arg15.view.read (Elt F) f15) (arg16.view.read (Elt F) f16) (arg17.view.read (Elt F) f17) (arg18.view.read (Elt F) f18)⌝)

/-- The three tables a trip fills before it reads them. -/
abbrev Loose (c : Dev nD) (arg19 : Memref sig .tc .vmem S16x128 .f32) (arg20 : Memref sig .tc .vmem S16x128 .f32) (arg21 : Memref sig .tc .vmem S16x128 .f32) : sProp 𝕄 :=
  iprop((∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)))

-- a trip has five parts over nineteen blocks, some fifty loads and stores; each is passed in one run
set_option maxHeartbeats 8000000 in
/-- The loop by what its trips leave. -/
def loopInv_k0_t1 (c : Dev nD) (x0 : Vec F S16x16x128 .f32) (x1 : Vec F S16x16x128 .f32) (x2 : Vec F S1x16x3x128 .f32) (x3 : Vec F S1x16x1x128 .f32) (x4 : Vec F S16x4x128 .f32)
    (x5 : Vec F S16x1x128 .f32) (x6 : Vec F S16x128x128 .bf16) (x7 : Vec F S16x1x128 .f32) (x8 : Vec F S16x128x128 .bf16) (x9 : Vec F S16x1x128 .f32)
    (x10 : Vec F S16x1x128 .f32) (i : grid0.Coords)
    (arg3 : Memref sig .tc .vmem S16x16x128 .f32) (harg3 : arg3.IsWhole) (arg4 : Memref sig .tc .vmem S16x16x128 .f32) (harg4 : arg4.IsWhole)
    (arg5 : Memref sig .tc .vmem S1x16x3x128 .f32) (harg5 : arg5.IsWhole) (arg6 : Memref sig .tc .vmem S1x16x1x128 .f32) (harg6 : arg6.IsWhole)
    (arg7 : Memref sig .tc .vmem S16x4x128 .f32) (harg7 : arg7.IsWhole) (arg8 : Memref sig .tc .vmem S16x1x128 .f32) (harg8 : arg8.IsWhole)
    (arg9 : Memref sig .tc .vmem S16x128x128 .bf16) (harg9 : arg9.IsWhole) (arg10 : Memref sig .tc .vmem S16x1x128 .f32) (harg10 : arg10.IsWhole)
    (arg11 : Memref sig .tc .vmem S16x128x128 .bf16) (harg11 : arg11.IsWhole) (arg12 : Memref sig .tc .vmem S16x1x128 .f32) (harg12 : arg12.IsWhole)
    (arg13 : Memref sig .tc .vmem S16x1x128 .f32) (harg13 : arg13.IsWhole) (arg14 : Memref sig .tc .vmem S16x16x128 .bf16) (harg14 : arg14.IsWhole)
    (arg15 : Memref sig .tc .vmem S1x16x3x128 .f32) (harg15 : arg15.IsWhole) (arg16 : Memref sig .tc .vmem S1x16x1x128 .f32) (harg16 : arg16.IsWhole)
    (arg17 : Memref sig .tc .vmem S16x24x128 .f32) (harg17 : arg17.IsWhole) (arg18 : Memref sig .tc .vmem S16x8x128 .f32) (harg18 : arg18.IsWhole)
    (arg19 : Memref sig .tc .vmem S16x128 .f32) (harg19 : arg19.IsWhole) (arg20 : Memref sig .tc .vmem S16x128 .f32) (harg20 : arg20.IsWhole)
    (arg21 : Memref sig .tc .vmem S16x128 .f32) (harg21 : arg21.IsWhole)
    (v1 : IVec S8x128 32) :
    Gen.LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 where
  inv := fun k acc => iprop(Held c arg3 harg3 arg4 harg4 arg5 harg5 arg6 harg6 arg7 harg7 arg8 harg8 arg9 harg9 arg10 harg10 arg11 harg11 arg12 harg12 arg13 harg13 x0 x1 x2 x3 x4 x5 x6 x7 x8 x9 x10
    ∗ Done c arg14 arg15 arg16 arg17 arg18 x0 x1 x2 x3 x4 x5 x6 x7 x8 x9 x10 v1 k ∗ Loose c arg19 arg20 arg21)
  step := fun k acc => by
    unfold Gen.k0_t1_body
    simp only [Gen.k0_part8_eq_skeleton, Gen.k0_part9_eq_skeleton, Gen.k0_part10_eq_skeleton, Gen.k0_part11_eq_skeleton, Gen.k0_part12_eq_skeleton]
    iintro ⟨⟨H0, H1, H2, H3, H4, H5, H6, H7, H8, H9, H10⟩, ⟨%f14, %f15, %f16, %f17, %f18, H14, H15, H16, H17, H18, %HL⟩, ⟨%f19, H19⟩, ⟨%f20, H20⟩, ⟨%f21, H21⟩⟩
    sl_exec
    sl_step
    have l0 := load_slab arg3 harg3 x0 (Gen.k0_off1_inb k) (Block.sl k) (Gen.k0_off1_eq k)
    have l1 := load_slab arg4 harg4 x1 (Gen.k0_off1_inb k) (Block.sl k) (Gen.k0_off1_eq k)
    have l4 := load_slab arg7 harg7 x4 (Gen.k0_off3_inb k) (Block.sl k) (Gen.k0_off3_eq k)
    have l5 := load_slab arg8 harg8 x5 (Gen.k0_off4_inb k) (Block.sl k) (Gen.k0_off4_eq k)
    have l6 := load_slab arg9 harg9 x6 (Gen.k0_off9_inb k) (Block.sl k) (Gen.k0_off9_eq k)
    have l7 := load_slab arg10 harg10 x7 (Gen.k0_off4_inb k) (Block.sl k) (Gen.k0_off4_eq k)
    have l8 := load_slab arg11 harg11 x8 (Gen.k0_off9_inb k) (Block.sl k) (Gen.k0_off9_eq k)
    have l9 := load_slab arg12 harg12 x9 (Gen.k0_off4_inb k) (Block.sl k) (Gen.k0_off4_eq k)
    have l10 := load_slab arg13 harg13 x10 (Gen.k0_off4_inb k) (Block.sl k) (Gen.k0_off4_eq k)
    have e17 : _root_.Cert.RglruIdeal.Hand.loopInv_k0_t1.sl.H17_1 (F := F) x0 arg3 harg3 k = [⟨Rect.unit (k0_off2 k) S1x16x128.size (Gen.k0_off2_inb k), slab x0 (Block.sl k)⟩] := by
      unfold _root_.Cert.RglruIdeal.Hand.loopInv_k0_t1.sl.H17_1
      rw [l0, pay40_eq]
    have e42 : _root_.Cert.RglruIdeal.Hand.loopInv_k0_t1.sl.v42 (F := F) x0 arg3 harg3 arg17 k = slab x0 (Block.sl k) := by
      unfold _root_.Cert.RglruIdeal.Hand.loopInv_k0_t1.sl.v42
      rw [e17]
      exact View.readCov_cons_toLoadRect _ _ _ _
    have e1 : _root_.Cert.RglruIdeal.Hand.loopInv_k0_t1.sl.r_1 (F := F) c x0 x4 x5 arg3 harg3 arg7 harg7 arg8 harg8 arg17 k f17 = conv x0 x2 x4 x5 (Block.sl k) := by
      unfold _root_.Cert.RglruIdeal.Hand.loopInv_k0_t1.sl.r_1 conv
      rw [e42, e17, l4, l5]
      rw [load_tap f17 x0 x2 k (fun r l => HL.hist _ r l (Nat.le_refl _)) 0 (by decide) (Gen.k0_off5_inb k) (Gen.k0_off5_eq k),
        load_tap f17 x0 x2 k (fun r l => HL.hist _ r l (Nat.le_refl _)) 1 (by decide) (Gen.k0_off6_inb k) (Gen.k0_off6_eq k),
        load_tap f17 x0 x2 k (fun r l => HL.hist _ r l (Nat.le_refl _)) 2 (by decide) (Gen.k0_off7_inb k) (Gen.k0_off7_eq k)]
    have e4 : _root_.Cert.RglruIdeal.Hand.loopInv_k0_t1.sl.r_4 (F := F) x10 arg13 harg13 k = Gen.k0_pay46 (slab x10 (Block.sl k)) := by
      unfold _root_.Cert.RglruIdeal.Hand.loopInv_k0_t1.sl.r_4
      rw [l10]
    have e5 : _root_.Cert.RglruIdeal.Hand.loopInv_k0_t1.sl.r_5 (F := F) c x0 x4 x5 x6 x7 arg3 harg3 arg7 harg7 arg8 harg8 arg9 harg9 arg10 harg10 arg17 k f17 = gate x0 x2 x4 x5 x6 x7 (Block.sl k) := by
      unfold _root_.Cert.RglruIdeal.Hand.loopInv_k0_t1.sl.r_5 gate
      rw [e1, l6, l7]
    have e3 : _root_.Cert.RglruIdeal.Hand.loopInv_k0_t1.sl.r_3 (F := F) c x0 x4 x5 x8 x9 arg3 harg3 arg7 harg7 arg8 harg8 arg11 harg11 arg12 harg12 arg17 k f17 = Gen.k0_pay45 (conv x0 x2 x4 x5 (Block.sl k)) (slab x8 (Block.sl k)) (slab x9 (Block.sl k)) := by
      unfold _root_.Cert.RglruIdeal.Hand.loopInv_k0_t1.sl.r_3
      rw [e1, l8, l9]
    have e19 : _root_.Cert.RglruIdeal.Hand.loopInv_k0_t1.sl.H19_1 (F := F) c x0 x4 x5 x6 x7 x10 arg3 harg3 arg7 harg7 arg8 harg8 arg9 harg9 arg10 harg10 arg13 harg13 arg17 k f17 = [⟨Rect.unit (s := S16x128) ![0, 0] S16x128.size Gen.inb_S16x128_S16x128_0_0, fac x0 x2 x4 x5 x6 x7 x10 (Block.sl k)⟩] := by
      unfold _root_.Cert.RglruIdeal.Hand.loopInv_k0_t1.sl.H19_1 fac
      rw [e4, e5]
    have e20 : _root_.Cert.RglruIdeal.Hand.loopInv_k0_t1.sl.H20_1 (F := F) c x0 x4 x5 x6 x7 x8 x9 x10 arg3 harg3 arg7 harg7 arg8 harg8 arg9 harg9 arg10 harg10 arg11 harg11 arg12 harg12 arg13 harg13 arg17 k f17 = [⟨Rect.unit (s := S16x128) ![0, 0] S16x128.size Gen.inb_S16x128_S16x128_0_0, inc x0 x2 x4 x5 x6 x7 x8 x9 x10 (Block.sl k)⟩] := by
      unfold _root_.Cert.RglruIdeal.Hand.loopInv_k0_t1.sl.H20_1 inc
      rw [e1, e3, e4, e5]
    have e114 : _root_.Cert.RglruIdeal.Hand.loopInv_k0_t1.sl.v114 (F := F) c x0 x4 x5 x6 x7 x10 arg3 harg3 arg7 harg7 arg8 harg8 arg9 harg9 arg10 harg10 arg13 harg13 arg17 arg19 k f17 = rows (fac x0 x2 x4 x5 x6 x7 x10 (Block.sl k)) 0 (by decide) := by
      unfold _root_.Cert.RglruIdeal.Hand.loopInv_k0_t1.sl.v114
      rw [e19]
      exact load_rows _ _ 0 (by decide) _
    have e162 : _root_.Cert.RglruIdeal.Hand.loopInv_k0_t1.sl.v162 (F := F) c x0 x4 x5 x6 x7 x10 arg3 harg3 arg7 harg7 arg8 harg8 arg9 harg9 arg10 harg10 arg13 harg13 arg17 arg19 k f17 = rows (fac x0 x2 x4 x5 x6 x7 x10 (Block.sl k)) 8 (by decide) := by
      unfold _root_.Cert.RglruIdeal.Hand.loopInv_k0_t1.sl.v162
      rw [e19]
      exact load_rows _ _ 8 (by decide) _
    have e116 : _root_.Cert.RglruIdeal.Hand.loopInv_k0_t1.sl.v116 (F := F) c x0 x4 x5 x6 x7 x8 x9 x10 arg3 harg3 arg7 harg7 arg8 harg8 arg9 harg9 arg10 harg10 arg11 harg11 arg12 harg12 arg13 harg13 arg17 arg20 k f17 = rows (inc x0 x2 x4 x5 x6 x7 x8 x9 x10 (Block.sl k)) 0 (by decide) := by
      unfold _root_.Cert.RglruIdeal.Hand.loopInv_k0_t1.sl.v116
      rw [e20]
      exact load_rows _ _ 0 (by decide) _
    have e164 : _root_.Cert.RglruIdeal.Hand.loopInv_k0_t1.sl.v164 (F := F) c x0 x4 x5 x6 x7 x8 x9 x10 arg3 harg3 arg7 harg7 arg8 harg8 arg9 harg9 arg10 harg10 arg11 harg11 arg12 harg12 arg13 harg13 arg17 arg20 k f17 = rows (inc x0 x2 x4 x5 x6 x7 x8 x9 x10 (Block.sl k)) 8 (by decide) := by
      unfold _root_.Cert.RglruIdeal.Hand.loopInv_k0_t1.sl.v164
      rw [e20]
      exact load_rows _ _ 8 (by decide) _
    have e6 : _root_.Cert.RglruIdeal.Hand.loopInv_k0_t1.sl.r_6 (F := F) c arg18 k f18 = start x3 (Block.sl k) := by
      unfold _root_.Cert.RglruIdeal.Hand.loopInv_k0_t1.sl.r_6
      exact load_start (fun r l => HL.init _ r l (Nat.le_refl _)) _
    have e9 : _root_.Cert.RglruIdeal.Hand.loopInv_k0_t1.sl.r_9 (F := F) c x0 x4 x5 x6 x7 x8 x9 x10 arg3 harg3 arg7 harg7 arg8 harg8 arg9 harg9 arg10 harg10 arg11 harg11 arg12 harg12 arg13 harg13 arg17 arg18 arg19 arg20 v1 k f17 f18 = mid x0 x2 x3 x4 x5 x6 x7 x8 x9 x10 v1 (Block.sl k) := by
      unfold _root_.Cert.RglruIdeal.Hand.loopInv_k0_t1.sl.r_9 _root_.Cert.RglruIdeal.Hand.loopInv_k0_t1.sl.r_7 _root_.Cert.RglruIdeal.Hand.loopInv_k0_t1.sl.r_8 mid
      rw [e6, e114, e116]
    have e11 : _root_.Cert.RglruIdeal.Hand.loopInv_k0_t1.sl.r_11 (F := F) c x0 x4 x5 x6 x7 x8 x9 x10 arg3 harg3 arg7 harg7 arg8 harg8 arg9 harg9 arg10 harg10 arg11 harg11 arg12 harg12 arg13 harg13 arg17 arg18 arg19 arg20 v1 k f17 f18 = Block.last x0 x2 x3 x4 x5 x6 x7 x8 x9 x10 v1 (Block.sl k) := by
      unfold _root_.Cert.RglruIdeal.Hand.loopInv_k0_t1.sl.r_11 _root_.Cert.RglruIdeal.Hand.loopInv_k0_t1.sl.r_10 Block.last
      rw [e9, e162, e164]
    have e21 : _root_.Cert.RglruIdeal.Hand.loopInv_k0_t1.sl.v211 (F := F) c x0 x4 x5 x6 x7 x8 x9 x10 arg3 harg3 arg7 harg7 arg8 harg8 arg9 harg9 arg10 harg10 arg11 harg11 arg12 harg12 arg13 harg13 arg17 arg18 arg19 arg20 arg21 v1 k f17 f18 = states x0 x2 x3 x4 x5 x6 x7 x8 x9 x10 v1 (Block.sl k) := by
      unfold _root_.Cert.RglruIdeal.Hand.loopInv_k0_t1.sl.v211 _root_.Cert.RglruIdeal.Hand.loopInv_k0_t1.sl.H21_2 _root_.Cert.RglruIdeal.Hand.loopInv_k0_t1.sl.r_10 _root_.Cert.RglruIdeal.Hand.loopInv_k0_t1.sl.r_7 _root_.Cert.RglruIdeal.Hand.loopInv_k0_t1.sl.r_8
      rw [e9, e6, e114, e116, e162, e164]
      exact load_states (first x0 x2 x3 x4 x5 x6 x7 x8 x9 x10 v1 (Block.sl k)) (second x0 x2 x3 x4 x5 x6 x7 x8 x9 x10 v1 (Block.sl k)) _ _ _
    have e14 : _root_.Cert.RglruIdeal.Hand.loopInv_k0_t1.sl.H14_1 (F := F) c x0 x1 x4 x5 x6 x7 x8 x9 x10 arg3 harg3 arg4 harg4 arg7 harg7 arg8 harg8 arg9 harg9 arg10 harg10 arg11 harg11 arg12 harg12 arg13 harg13 arg17 arg18 arg19 arg20 arg21 v1 k f17 f18 = [⟨Rect.unit (k0_off1 k) S1x16x128.size (Gen.k0_off1_inb k), outY x0 x1 x2 x3 x4 x5 x6 x7 x8 x9 x10 v1 (Block.sl k)⟩] := by
      unfold _root_.Cert.RglruIdeal.Hand.loopInv_k0_t1.sl.H14_1 outY
      rw [e21]
      exact congrArg (fun w => [(⟨Rect.unit (k0_off1 k) S1x16x128.size (Gen.k0_off1_inb k), Gen.k0_pay3 (states x0 x2 x3 x4 x5 x6 x7 x8 x9 x10 v1 (Block.sl k)) w⟩ : View.Piece (Elt F) S16x16x128 .bf16)]) l1
    have e2 : _root_.Cert.RglruIdeal.Hand.loopInv_k0_t1.sl.r_2 (F := F) x0 arg3 harg3 k = Gen.k0_pay42 (Gen.k0_pay39 (slab x0 (Block.sl k))) := by
      unfold _root_.Cert.RglruIdeal.Hand.loopInv_k0_t1.sl.r_2 _root_.Cert.RglruIdeal.Hand.loopInv_k0_t1.sl.r
      rw [l0]
    have e172 : _root_.Cert.RglruIdeal.Hand.loopInv_k0_t1.sl.H17_2 (F := F) x0 arg3 harg3 k = [⟨Rect.unit (k0_off8 k) S1x3x128.size (Gen.k0_off8_inb k), Gen.k0_pay43 (Gen.k0_pay39 (slab x0 (Block.sl k)))⟩,
        ⟨Rect.unit (k0_off2 k) S1x16x128.size (Gen.k0_off2_inb k), slab x0 (Block.sl k)⟩] := by
      unfold _root_.Cert.RglruIdeal.Hand.loopInv_k0_t1.sl.H17_2 _root_.Cert.RglruIdeal.Hand.loopInv_k0_t1.sl.r
      rw [e17, l0]
    have e18 : _root_.Cert.RglruIdeal.Hand.loopInv_k0_t1.sl.H18_1 (F := F) c x0 x4 x5 x6 x7 x8 x9 x10 arg3 harg3 arg7 harg7 arg8 harg8 arg9 harg9 arg10 harg10 arg11 harg11 arg12 harg12 arg13 harg13 arg17 arg18 arg19 arg20 v1 k f17 f18 = [⟨Rect.unit (k0_off10 k) S1x8x128.size (Gen.k0_off10_inb k),
        Gen.k0_pay65 v1 (mid x0 x2 x3 x4 x5 x6 x7 x8 x9 x10 v1 (Block.sl k)) (rows (fac x0 x2 x4 x5 x6 x7 x10 (Block.sl k)) 8 (by decide)) (rows (inc x0 x2 x4 x5 x6 x7 x8 x9 x10 (Block.sl k)) 8 (by decide)) (Gen.k0_pay60 v1)
          (Gen.k0_pay61 v1 (rows (fac x0 x2 x4 x5 x6 x7 x10 (Block.sl k)) 8 (by decide)) (rows (inc x0 x2 x4 x5 x6 x7 x8 x9 x10 (Block.sl k)) 8 (by decide)))⟩] := by
      unfold _root_.Cert.RglruIdeal.Hand.loopInv_k0_t1.sl.H18_1 _root_.Cert.RglruIdeal.Hand.loopInv_k0_t1.sl.r_10
      rw [e9, e162, e164]
    isplitl [H0 H1 H2 H3 H4 H5 H6 H7 H8 H9 H10]
    · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; iexact H10
    isplitl [H14 H15 H16 H17 H18]
    · iexists _; iexists _; iexists _; iexists _; iexists _
      isplitl [H14]; iexact H14; isplitl [H15]; iexact H15; isplitl [H16]; iexact H16; isplitl [H17]; iexact H17; isplitl [H18]; iexact H18
      ipureintro
      rw [e14, e11, e2, e172, e18, dif_pos (cond2 i), dif_pos (cond2 i)]
      exact HL.step _ _ _ _ _ _ _ _ _
    isplitl [H19]; iexists _; iexact H19
    isplitl [H20]; iexists _; iexact H20
    iexists _; iexact H21

end Cert.RglruIdeal.Hand
end
-- ==== Proof.RglruStart.lean ====
/- The recurrence kernel's scratch before its loop: each slab's history rows and start state, stored one slab after the other. -/
module

public import proofs.«01_k».proof.Proof.RglruBlock

@[expose] public section

set_option maxRecDepth 16384

noncomputable section

open Idealize.ShloMosaic

namespace Cert.RglruIdeal.Block

open Cert.RglruIdeal Cert.RglruIdeal.Gen

variable {F : FTy → Type} [FloatOps F]

/-- The slabs in the order of a list of stores, the last first. -/
abbrev order : List (Fin 16) := [15, 14, 13, 12, 11, 10, 9, 8, 7, 6, 5, 4, 3, 2, 1, 0]

/-- Every slab is stored. -/
theorem mem_order : ∀ j : Fin 16, j ∈ order := by decide

theorem inb_src3 (j : Fin 16) : ∀ i, (![0, j.val, 0, 0] : Fin 4 → Nat) i + S1x1x3x128.size i ≤ S1x16x3x128.size i := by
  have := j.isLt
  intro i
  match i with
  | ⟨0, _⟩ => exact Nat.le_of_ble_eq_true rfl
  | ⟨1, _⟩ => show j.val + 1 ≤ 16; omega
  | ⟨2, _⟩ => exact Nat.le_of_ble_eq_true rfl
  | ⟨3, _⟩ => exact Nat.le_of_ble_eq_true rfl

theorem inb_src1 (j : Fin 16) : ∀ i, (![0, j.val, 0, 0] : Fin 4 → Nat) i + S1x1x1x128.size i ≤ S1x16x1x128.size i := by
  have := j.isLt
  intro i
  match i with
  | ⟨0, _⟩ => exact Nat.le_of_ble_eq_true rfl
  | ⟨1, _⟩ => show j.val + 1 ≤ 16; omega
  | ⟨2, _⟩ => exact Nat.le_of_ble_eq_true rfl
  | ⟨3, _⟩ => exact Nat.le_of_ble_eq_true rfl

theorem inb_dst3 (j : Fin 16) : ∀ i, (![j.val, 5, 0] : Fin 3 → Nat) i + S1x3x128.size i ≤ S16x24x128.size i := by
  have := j.isLt
  intro i
  match i with
  | ⟨0, _⟩ => show j.val + 1 ≤ 16; omega
  | ⟨1, _⟩ => exact Nat.le_of_ble_eq_true rfl
  | ⟨2, _⟩ => exact Nat.le_of_ble_eq_true rfl

theorem inb_dst8 (j : Fin 16) : ∀ i, (![j.val, 0, 0] : Fin 3 → Nat) i + S1x8x128.size i ≤ S16x8x128.size i := by
  have := j.isLt
  intro i
  match i with
  | ⟨0, _⟩ => show j.val + 1 ≤ 16; omega
  | ⟨1, _⟩ => exact Nat.le_of_ble_eq_true rfl
  | ⟨2, _⟩ => exact Nat.le_of_ble_eq_true rfl

section
variable (arg5 : Memref sig .tc .vmem S1x16x3x128 .f32) (harg5 : arg5.IsWhole) (x2 : Vec F S1x16x3x128 .f32)
  (arg6 : Memref sig .tc .vmem S1x16x1x128 .f32) (harg6 : arg6.IsWhole) (x3 : Vec F S1x16x1x128 .f32) (j : Fin 16)

/-- Slab `j`'s history, loaded. -/
def histAt : Vec F S1x3x128 .f32 :=
  shapeCast S1x3x128 (shapeCast S3x128 (View.readAt (Elt F) arg5.view (Rect.unit (s := S1x16x3x128) ![0, j.val, 0, 0] S1x1x3x128.size (inb_src3 j)).toLoadRect (harg5.unread x2)) shapeCasts_S1x1x3x128_S3x128) shapeCasts_S3x128_S1x3x128

/-- Slab `j`'s start state, loaded and repeated along eight rows. -/
def initAt : Vec F S1x8x128 .f32 :=
  shapeCast S1x8x128 (broadcastTo S8x128 (shapeCast S1x128 (shapeCast S1x128 (View.readAt (Elt F) arg6.view (Rect.unit (s := S1x16x1x128) ![0, j.val, 0, 0] S1x1x1x128.size (inb_src1 j)).toLoadRect (harg6.unread x3)) shapeCasts_S1x1x1x128_S1x128) shapeCasts_S1x128_S1x128) broadcasts_S1x128_S8x128) shapeCasts_S8x128_S1x8x128

theorem histAt_apply (y : S1x3x128.Idx) : histAt arg5 harg5 x2 j y = x2 (ix4 0 j (y 1) (y 2)) := by
  have h0 : (y 0).val < 1 := (y 0).isLt
  unfold histAt
  refine (shapeCast_apply (s := S3x128) (t := S1x3x128) _ _ y (ix2 (n0 := 3) (n1 := 128) (y 1) (y 2)) ?_).trans ?_
  · rw [Shape.rowMajor_val_two, Shape.rowMajor_val_three]
    show (y 1).val * 128 + (y 2).val = ((y 0).val * 3 + (y 1).val) * 128 + (y 2).val
    omega
  refine (shapeCast_apply (s := S1x1x3x128) (t := S3x128) _ _ _ (ix4 (n0 := 1) (n1 := 1) (n2 := 3) (n3 := 128) 0 0 (y 1) (y 2)) ?_).trans ?_
  · rw [Shape.rowMajor_val_four, Shape.rowMajor_val_two]
    show ((0 * 1 + 0) * 3 + (y 1).val) * 128 + (y 2).val = (y 1).val * 128 + (y 2).val
    omega
  rw [View.readAt_eq_ld arg5.view (harg5.unread x2) (Rect.unit (s := S1x16x3x128) _ _ _), harg5.read_unread]
  refine View.ld_unit_apply_of (S := S1x16x3x128) x2 _ S1x1x3x128.size _ _ (ix4 (n0 := 1) (n1 := 16) (n2 := 3) (n3 := 128) 0 j (y 1) (y 2)) fun i => ?_
  match i with
  | ⟨0, _⟩ => rfl
  | ⟨1, _⟩ => rfl
  | ⟨2, _⟩ => show (y 1).val = 0 + (y 1).val; omega
  | ⟨3, _⟩ => show (y 2).val = 0 + (y 2).val; omega

theorem initAt_apply (y : S1x8x128.Idx) : initAt arg6 harg6 x3 j y = x3 (ix4 0 j 0 (y 2)) := by
  have h0 : (y 0).val < 1 := (y 0).isLt
  unfold initAt
  refine (shapeCast_apply (s := S8x128) (t := S1x8x128) _ _ y (ix2 (n0 := 8) (n1 := 128) (y 1) (y 2)) ?_).trans ?_
  · rw [Shape.rowMajor_val_two, Shape.rowMajor_val_three]
    show (y 1).val * 128 + (y 2).val = ((y 0).val * 8 + (y 1).val) * 128 + (y 2).val
    omega
  rw [shapeCast_self]
  show shapeCast S1x128 _ _ (ix2 (n0 := 1) (n1 := 128) 0 (y 2)) = _
  refine (shapeCast_apply (s := S1x1x1x128) (t := S1x128) _ _ _ (ix4 (n0 := 1) (n1 := 1) (n2 := 1) (n3 := 128) 0 0 0 (y 2)) ?_).trans ?_
  · rw [Shape.rowMajor_val_four, Shape.rowMajor_val_two]
    show ((0 * 1 + 0) * 1 + 0) * 128 + (y 2).val = 0 * 128 + (y 2).val
    omega
  rw [View.readAt_eq_ld arg6.view (harg6.unread x3) (Rect.unit (s := S1x16x1x128) _ _ _), harg6.read_unread]
  refine View.ld_unit_apply_of (S := S1x16x1x128) x3 _ S1x1x1x128.size _ _ (ix4 (n0 := 1) (n1 := 16) (n2 := 1) (n3 := 128) 0 j 0 (y 2)) fun i => ?_
  match i with
  | ⟨0, _⟩ => rfl
  | ⟨1, _⟩ => rfl
  | ⟨2, _⟩ => rfl
  | ⟨3, _⟩ => show (y 2).val = 0 + (y 2).val; omega

/-- The store of slab `j`'s history. -/
def histPiece : View.Piece (Elt F) S16x24x128 .f32 := ⟨Rect.unit (s := S16x24x128) ![j.val, 5, 0] S1x3x128.size (inb_dst3 j), histAt arg5 harg5 x2 j⟩

/-- The store of slab `j`'s start state. -/
def initPiece : View.Piece (Elt F) S16x8x128 .f32 := ⟨Rect.unit (s := S16x8x128) ![j.val, 0, 0] S1x8x128.size (inb_dst8 j), initAt arg6 harg6 x3 j⟩

end

/-- Before the loop: nothing of the outputs is known, the scratch holds every slab's history and start state. -/
theorem Left.start (x0 x1 : Vec F S16x16x128 .f32) (x2 : Vec F S1x16x3x128 .f32) (x3 : Vec F S1x16x1x128 .f32)
    (x4 : Vec F S16x4x128 .f32) (x5 : Vec F S16x1x128 .f32) (x6 : Vec F S16x128x128 .bf16) (x7 : Vec F S16x1x128 .f32)
    (x8 : Vec F S16x128x128 .bf16) (x9 x10 : Vec F S16x1x128 .f32) (v1 : IVec S8x128 32)
    (arg5 : Memref sig .tc .vmem S1x16x3x128 .f32) (harg5 : arg5.IsWhole) (arg6 : Memref sig .tc .vmem S1x16x1x128 .f32) (harg6 : arg6.IsWhole)
    (arg17 : Memref sig .tc .vmem S16x24x128 .f32) (arg18 : Memref sig .tc .vmem S16x8x128 .f32)
    (r14 r15 r16) (f17 : arg17.view.ty.Contents (Elt F)) (f18 : arg18.view.ty.Contents (Elt F)) :
    Left x0 x1 x2 x3 x4 x5 x6 x7 x8 x9 x10 v1 0 r14 r15 r16
      (arg17.view.read (Elt F) (arg17.view.writes (Elt F) f17 (order.map (histPiece arg5 harg5 x2))))
      (arg18.view.read (Elt F) (arg18.view.writes (Elt F) f18 (order.map (initPiece arg6 harg6 x3)))) where
  y j r l hj := absurd hj (Nat.not_lt_zero _)
  tail j r l hj := absurd hj (Nat.not_lt_zero _)
  last j l hj := absurd hj (Nat.not_lt_zero _)
  hist j r l _ := by
    have hc : ∃ p ∈ order.map (histPiece arg5 harg5 x2), (ix3 (n0 := 16) (n1 := 24) (n2 := 128) j ⟨5 + r.val, by omega⟩ l) ∈ p.1.set := by
      refine ⟨_, List.mem_map_of_mem (mem_order j), ?_⟩
      refine (Rect.mem_set_unit (inb := inb_dst3 j)).mpr fun i => ?_
      have hr := r.isLt
      have hl := l.isLt
      match i with
      | ⟨0, _⟩ => show j.val ≤ j.val ∧ j.val < j.val + 1; omega
      | ⟨1, _⟩ => show 5 ≤ 5 + r.val ∧ 5 + r.val < 5 + 3; omega
      | ⟨2, _⟩ => show 0 ≤ l.val ∧ l.val < 0 + 128; omega
    rw [View.read_writes_apply_eq_canon arg17.view f17 _ _ hc]
    refine (View.canon_apply_of_pieces (S := S16x24x128) (fun y => x2 (ix4 (n0 := 1) (n1 := 16) (n2 := 3) (n3 := 128) 0 (y 0) ⟨((y 1).val - 5) % 3, Nat.mod_lt _ (by decide)⟩ (y 2))) _ ?_ _ hc).trans ?_
    · intro p hp x
      obtain ⟨j', -, rfl⟩ := List.mem_map.mp hp
      refine (histAt_apply arg5 harg5 x2 j' x).trans (congrArg x2 (funext fun i => Fin.ext ?_))
      have h0 : (x 0).val < 1 := (x 0).isLt
      have h1 : (x 1).val < 3 := (x 1).isLt
      match i with
      | ⟨0, _⟩ => rfl
      | ⟨1, _⟩ => show j'.val = j'.val + 1 * (x 0).val; omega
      | ⟨2, _⟩ => show (x 1).val = (5 + 1 * (x 1).val - 5) % 3; omega
      | ⟨3, _⟩ => show (x 2).val = 0 + 1 * (x 2).val; omega
    · refine congrArg x2 (funext fun i => Fin.ext ?_)
      have hr := r.isLt
      match i with
      | ⟨0, _⟩ => rfl
      | ⟨1, _⟩ => rfl
      | ⟨2, _⟩ => show (5 + r.val - 5) % 3 = r.val; omega
      | ⟨3, _⟩ => rfl
  init j r l _ := by
    have hc : ∃ p ∈ order.map (initPiece arg6 harg6 x3), (ix3 (n0 := 16) (n1 := 8) (n2 := 128) j r l) ∈ p.1.set := by
      refine ⟨_, List.mem_map_of_mem (mem_order j), ?_⟩
      refine (Rect.mem_set_unit (inb := inb_dst8 j)).mpr fun i => ?_
      have hr := r.isLt
      have hl := l.isLt
      match i with
      | ⟨0, _⟩ => show j.val ≤ j.val ∧ j.val < j.val + 1; omega
      | ⟨1, _⟩ => show 0 ≤ r.val ∧ r.val < 0 + 8; omega
      | ⟨2, _⟩ => show 0 ≤ l.val ∧ l.val < 0 + 128; omega
    rw [View.read_writes_apply_eq_canon arg18.view f18 _ _ hc]
    refine View.canon_apply_of_pieces (S := S16x8x128) (fun y => x3 (ix4 (n0 := 1) (n1 := 16) (n2 := 1) (n3 := 128) 0 (y 0) 0 (y 2))) _ ?_ _ hc
    intro p hp x
    obtain ⟨j', -, rfl⟩ := List.mem_map.mp hp
    refine (initAt_apply arg6 harg6 x3 j' x).trans (congrArg x3 (funext fun i => Fin.ext ?_))
    have h0 : (x 0).val < 1 := (x 0).isLt
    match i with
    | ⟨0, _⟩ => rfl
    | ⟨1, _⟩ => show j'.val = j'.val + 1 * (x 0).val; omega
    | ⟨2, _⟩ => rfl
    | ⟨3, _⟩ => show (x 2).val = 0 + 1 * (x 2).val; omega

section Done
variable {x0 x1 : Vec F S16x16x128 .f32} {x2 : Vec F S1x16x3x128 .f32} {x3 : Vec F S1x16x1x128 .f32}
  {x4 : Vec F S16x4x128 .f32} {x5 : Vec F S16x1x128 .f32} {x6 : Vec F S16x128x128 .bf16} {x7 : Vec F S16x1x128 .f32}
  {x8 : Vec F S16x128x128 .bf16} {x9 x10 : Vec F S16x1x128 .f32} {v1 : IVec S8x128 32} {r14 r15 r16 r17 r18}

/-- After the loop the outputs' blocks hold every slab's results. -/
theorem Left.resY {k : Nat} (hk : k = 16) (H : Left x0 x1 x2 x3 x4 x5 x6 x7 x8 x9 x10 v1 k r14 r15 r16 r17 r18) : r14 = Block.resY x0 x1 x2 x3 x4 x5 x6 x7 x8 x9 x10 v1 := by
  subst hk
  funext y
  have h := H.y (y 0) (y 1) (y 2) (y 0).isLt
  rwa [← eq_ix3 y] at h

theorem Left.resTail {k : Nat} (hk : k = 16) (H : Left x0 x1 x2 x3 x4 x5 x6 x7 x8 x9 x10 v1 k r14 r15 r16 r17 r18) : r15 = Block.resTail x0 := by
  subst hk
  funext y
  have e : y = ix4 (n0 := 1) (n1 := 16) (n2 := 3) (n3 := 128) 0 (y 1) (y 2) (y 3) := by
    refine (eq_ix4 y).trans (congrArg (fun i : Fin 1 => ix4 (n0 := 1) (n1 := 16) (n2 := 3) (n3 := 128) i (y 1) (y 2) (y 3)) (Subsingleton.elim (α := Fin 1) _ _))
  have h := H.tail (y 1) (y 2) (y 3) (y 1).isLt
  rwa [← e] at h

theorem Left.resLast {k : Nat} (hk : k = 16) (H : Left x0 x1 x2 x3 x4 x5 x6 x7 x8 x9 x10 v1 k r14 r15 r16 r17 r18) : r16 = Block.resLast x0 x2 x3 x4 x5 x6 x7 x8 x9 x10 v1 := by
  subst hk
  funext y
  have e : y = ix4 (n0 := 1) (n1 := 16) (n2 := 1) (n3 := 128) 0 (y 1) 0 (y 3) := by
    refine (eq_ix4 y).trans (congrArg₂ (fun (i i' : Fin 1) => ix4 (n0 := 1) (n1 := 16) (n2 := 1) (n3 := 128) i (y 1) i' (y 3)) (Subsingleton.elim (α := Fin 1) _ _) (Subsingleton.elim (α := Fin 1) _ _))
  have h := H.last (y 1) (y 3) (y 1).isLt
  rwa [← e] at h

end Done

end Cert.RglruIdeal.Block

end
-- ==== Proof.RglruBody.lean ====
/- The recurrence kernel's body at a point of the launch: the scratch filled slab by slab, then the loop over the slabs. -/
module

public import proofs.«01_k».proof.Proof.RglruTrip
public import proofs.«01_k».proof.Proof.RglruStart

@[expose] public section

set_option maxRecDepth 16384

noncomputable section

namespace Cert.RglruIdeal.Hand

open Cert.RglruIdeal Cert.RglruIdeal.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The loop, once the scratch is filled. -/
theorem sep_of_loop (c : Dev nD) (x0 : Vec F S16x16x128 .f32) (x1 : Vec F S16x16x128 .f32) (x2 : Vec F S1x16x3x128 .f32) (x3 : Vec F S1x16x1x128 .f32) (x4 : Vec F S16x4x128 .f32)
    (x5 : Vec F S16x1x128 .f32) (x6 : Vec F S16x128x128 .bf16) (x7 : Vec F S16x1x128 .f32) (x8 : Vec F S16x128x128 .bf16) (x9 : Vec F S16x1x128 .f32)
    (x10 : Vec F S16x1x128 .f32) (i : grid0.Coords)
    (arg3 : Memref sig .tc .vmem S16x16x128 .f32) (harg3 : arg3.IsWhole) (arg4 : Memref sig .tc .vmem S16x16x128 .f32) (harg4 : arg4.IsWhole)
    (arg5 : Memref sig .tc .vmem S1x16x3x128 .f32) (harg5 : arg5.IsWhole) (arg6 : Memref sig .tc .vmem S1x16x1x128 .f32) (harg6 : arg6.IsWhole)
    (arg7 : Memref sig .tc .vmem S16x4x128 .f32) (harg7 : arg7.IsWhole) (arg8 : Memref sig .tc .vmem S16x1x128 .f32) (harg8 : arg8.IsWhole)
    (arg9 : Memref sig .tc .vmem S16x128x128 .bf16) (harg9 : arg9.IsWhole) (arg10 : Memref sig .tc .vmem S16x1x128 .f32) (harg10 : arg10.IsWhole)
    (arg11 : Memref sig .tc .vmem S16x128x128 .bf16) (harg11 : arg11.IsWhole) (arg12 : Memref sig .tc .vmem S16x1x128 .f32) (harg12 : arg12.IsWhole)
    (arg13 : Memref sig .tc .vmem S16x1x128 .f32) (harg13 : arg13.IsWhole) (arg14 : Memref sig .tc .vmem S16x16x128 .bf16) (harg14 : arg14.IsWhole)
    (arg15 : Memref sig .tc .vmem S1x16x3x128 .f32) (harg15 : arg15.IsWhole) (arg16 : Memref sig .tc .vmem S1x16x1x128 .f32) (harg16 : arg16.IsWhole)
    (arg17 : Memref sig .tc .vmem S16x24x128 .f32) (harg17 : arg17.IsWhole) (arg18 : Memref sig .tc .vmem S16x8x128 .f32) (harg18 : arg18.IsWhole)
    (arg19 : Memref sig .tc .vmem S16x128 .f32) (harg19 : arg19.IsWhole) (arg20 : Memref sig .tc .vmem S16x128 .f32) (harg20 : arg20.IsWhole)
    (arg21 : Memref sig .tc .vmem S16x128 .f32) (harg21 : arg21.IsWhole) (v1 : IVec S8x128 32) (K : PUnit → sProp 𝕄) :
    iprop(iprop(Held c arg3 harg3 arg4 harg4 arg5 harg5 arg6 harg6 arg7 harg7 arg8 harg8 arg9 harg9 arg10 harg10 arg11 harg11 arg12 harg12 arg13 harg13 x0 x1 x2 x3 x4 x5 x6 x7 x8 x9 x10 ∗ Done c arg14 arg15 arg16 arg17 arg18 x0 x1 x2 x3 x4 x5 x6 x7 x8 x9 x10 v1 0 ∗ Loose c arg19 arg20 arg21) ∗ (iprop(Held c arg3 harg3 arg4 harg4 arg5 harg5 arg6 harg6 arg7 harg7 arg8 harg8 arg9 harg9 arg10 harg10 arg11 harg11 arg12 harg12 arg13 harg13 x0 x1 x2 x3 x4 x5 x6 x7 x8 x9 x10 ∗ Done c arg14 arg15 arg16 arg17 arg18 x0 x1 x2 x3 x4 x5 x6 x7 x8 x9 x10 v1 k0_t1_loop.trips ∗ Loose c arg19 arg20 arg21) -∗ K ⟨⟩))
      ⊢ wp frame (wpE (defs₀ (F := F)) Variants.none c none) Set.univ
        (do k0_t1_loop.for Gen.k0_t1_ok PUnit.unit (Gen.k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1); pure PUnit.unit) K := by
  show iprop((loopInv_k0_t1 c x0 x1 x2 x3 x4 x5 x6 x7 x8 x9 x10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1).inv 0 PUnit.unit ∗ ((loopInv_k0_t1 c x0 x1 x2 x3 x4 x5 x6 x7 x8 x9 x10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1).inv k0_t1_loop.trips PUnit.unit -∗ K PUnit.unit)) ⊢ _
  refine BIBase.Entails.trans (sep_mono_left (exec_loop frame (wpE (defs₀ (F := F)) Variants.none c none) Set.univ k0_t1_loop.lb k0_t1_loop.ub k0_t1_loop.st Gen.k0_t1_ok PUnit.unit
    (Gen.k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1) (loopInv_k0_t1 c x0 x1 x2 x3 x4 x5 x6 x7 x8 x9 x10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1) (kk := fun _ => pure PUnit.unit) (Q := K))) ?_
  iintro ⟨H, HK⟩
  iapply H
  iintro %acc H
  sl_step
  iapply HK
  iexact H

/-- The launch's last axis has one point, which is the first. -/
theorem cond1 (i : grid0.Coords) : Scalar.cmpi .ne (Scalar.extui (Scalar.cmpi .eq (BitVec.ofNat 32 (i 2).val) 0#32) : BitVec 32) 0#32 = 1#1 := by
  have h : (i 2).val = 0 := by have h : (i 2).val < 1 := (i 2).isLt; omega
  rw [h]
  decide

-- thirty-two stores before the loop, each after a load of its block and one of its scratch
set_option maxHeartbeats 8000000 in
/-- The body on whole blocks: the inputs' as they were, the outputs' at the slabs' results. -/
theorem sound_kernel (c : Dev nD) (i : grid0.Coords)
    (arg3 : Memref sig .tc .vmem S16x16x128 .f32) (harg3 : arg3.IsWhole) (arg4 : Memref sig .tc .vmem S16x16x128 .f32) (harg4 : arg4.IsWhole)
    (arg5 : Memref sig .tc .vmem S1x16x3x128 .f32) (harg5 : arg5.IsWhole) (arg6 : Memref sig .tc .vmem S1x16x1x128 .f32) (harg6 : arg6.IsWhole)
    (arg7 : Memref sig .tc .vmem S16x4x128 .f32) (harg7 : arg7.IsWhole) (arg8 : Memref sig .tc .vmem S16x1x128 .f32) (harg8 : arg8.IsWhole)
    (arg9 : Memref sig .tc .vmem S16x128x128 .bf16) (harg9 : arg9.IsWhole) (arg10 : Memref sig .tc .vmem S16x1x128 .f32) (harg10 : arg10.IsWhole)
    (arg11 : Memref sig .tc .vmem S16x128x128 .bf16) (harg11 : arg11.IsWhole) (arg12 : Memref sig .tc .vmem S16x1x128 .f32) (harg12 : arg12.IsWhole)
    (arg13 : Memref sig .tc .vmem S16x1x128 .f32) (harg13 : arg13.IsWhole) (arg14 : Memref sig .tc .vmem S16x16x128 .bf16) (harg14 : arg14.IsWhole)
    (arg15 : Memref sig .tc .vmem S1x16x3x128 .f32) (harg15 : arg15.IsWhole) (arg16 : Memref sig .tc .vmem S1x16x1x128 .f32) (harg16 : arg16.IsWhole)
    (arg17 : Memref sig .tc .vmem S16x24x128 .f32) (harg17 : arg17.IsWhole) (arg18 : Memref sig .tc .vmem S16x8x128 .f32) (harg18 : arg18.IsWhole)
    (arg19 : Memref sig .tc .vmem S16x128 .f32) (harg19 : arg19.IsWhole) (arg20 : Memref sig .tc .vmem S16x128 .f32) (harg20 : arg20.IsWhole)
    (arg21 : Memref sig .tc .vmem S16x128 .f32) (harg21 : arg21.IsWhole)
    (x0 : Vec F S16x16x128 .f32) (x1 : Vec F S16x16x128 .f32) (x2 : Vec F S1x16x3x128 .f32) (x3 : Vec F S1x16x1x128 .f32) (x4 : Vec F S16x4x128 .f32)
    (x5 : Vec F S16x1x128 .f32) (x6 : Vec F S16x128x128 .bf16) (x7 : Vec F S16x1x128 .f32) (x8 : Vec F S16x128x128 .bf16) (x9 : Vec F S16x1x128 .f32)
    (x10 : Vec F S16x1x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare (resY x0 x1 x2 x3 x4 x5 x6 x7 x8 x9 x10 (iota .tc S8x128 32 [0] Gen.iota_S8x128_d0_w32)) ∗ owns (c : Thread nD τ) arg15 fullShare (resTail x0) ∗ owns (c : Thread nD τ) arg16 fullShare (resLast x0 x2 x3 x4 x5 x6 x7 x8 x9 x10 (iota .tc S8x128 32 [0] Gen.iota_S8x128_d0_w32)) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) Set.univ (cc0_rglru i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [Gen.cc0_rglru_eq_skeleton]; unfold Gen.cc0_rglru_skel
  simp only [Gen.k0_part1_eq_skeleton, Gen.k0_part2_eq_skeleton, Gen.k0_part3_eq_skeleton, Gen.k0_part4_eq_skeleton, Gen.k0_part5_eq_skeleton, Gen.k0_part6_eq_skeleton, Gen.k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
  have hc := cond1 i
  sl_exec
  iapply (sep_of_loop c x0 x1 x2 x3 x4 x5 x6 x7 x8 x9 x10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota .tc S8x128 32 [0] Gen.iota_S8x128_d0_w32) K)
  isplitr [Hk]
  · isplitl [H0 H1 H2 H3 H4 H5 H6 H7 H8 H9 H10]
    · isplitl [H0]; iexact H0; isplitl [H1]; iexact H1; isplitl [H2]; iexact H2; isplitl [H3]; iexact H3; isplitl [H4]; iexact H4; isplitl [H5]; iexact H5; isplitl [H6]; iexact H6; isplitl [H7]; iexact H7; isplitl [H8]; iexact H8; isplitl [H9]; iexact H9; iexact H10
    isplitl [H14 H15 H16 H17 H18]
    · iexists _; iexists _; iexists _; iexists _; iexists _
      isplitl [H14]; iexact H14; isplitl [H15]; iexact H15; isplitl [H16]; iexact H16; isplitl [H17]; iexact H17; isplitl [H18]; iexact H18
      ipureintro

      exact Left.start x0 x1 x2 x3 x4 x5 x6 x7 x8 x9 x10 _ arg5 harg5 arg6 harg6 arg17 arg18 _ _ _ _ _
    isplitl [H19]; iexists _; iexact H19
    isplitl [H20]; iexists _; iexact H20
    iexists _; iexact H21
  iintro ⟨⟨H0, H1, H2, H3, H4, H5, H6, H7, H8, H9, H10⟩, ⟨%f14, %f15, %f16, %f17, %f18, H14, H15, H16, H17, H18, %HL⟩, ⟨%f19, H19⟩, ⟨%f20, H20⟩, ⟨%f21, H21⟩⟩
  iapply Hk
  isplitl [H0]
  · iexists harg3.unread x0; isplitr; · ipureintro; exact harg3.read_unread _
    iexact H0
  isplitl [H1]
  · iexists harg4.unread x1; isplitr; · ipureintro; exact harg4.read_unread _
    iexact H1
  isplitl [H2]
  · iexists harg5.unread x2; isplitr; · ipureintro; exact harg5.read_unread _
    iexact H2
  isplitl [H3]
  · iexists harg6.unread x3; isplitr; · ipureintro; exact harg6.read_unread _
    iexact H3
  isplitl [H4]
  · iexists harg7.unread x4; isplitr; · ipureintro; exact harg7.read_unread _
    iexact H4
  isplitl [H5]
  · iexists harg8.unread x5; isplitr; · ipureintro; exact harg8.read_unread _
    iexact H5
  isplitl [H6]
  · iexists harg9.unread x6; isplitr; · ipureintro; exact harg9.read_unread _
    iexact H6
  isplitl [H7]
  · iexists harg10.unread x7; isplitr; · ipureintro; exact harg10.read_unread _
    iexact H7
  isplitl [H8]
  · iexists harg11.unread x8; isplitr; · ipureintro; exact harg11.read_unread _
    iexact H8
  isplitl [H9]
  · iexists harg12.unread x9; isplitr; · ipureintro; exact harg12.read_unread _
    iexact H9
  isplitl [H10]
  · iexists harg13.unread x10; isplitr; · ipureintro; exact harg13.read_unread _
    iexact H10
  isplitl [H14]
  · iexists f14; isplitr; · ipureintro; exact HL.resY trips_eq
    iexact H14
  isplitl [H15]
  · iexists f15; isplitr; · ipureintro; exact HL.resTail trips_eq
    iexact H15
  isplitl [H16]
  · iexists f16; isplitr; · ipureintro; exact HL.resLast trips_eq
    iexact H16
  isplitl [H17]
  · iexists _; iexists f17; isplitr; · ipureintro; rfl
    iexact H17
  isplitl [H18]
  · iexists _; iexists f18; isplitr; · ipureintro; rfl
    iexact H18
  isplitl [H19]
  · iexists _; iexists f19; isplitr; · ipureintro; rfl
    iexact H19
  isplitl [H20]
  · iexists _; iexists f20; isplitr; · ipureintro; rfl
    iexact H20
  iexists _; iexists f21; isplitr; · ipureintro; rfl
  iexact H21

end Cert.RglruIdeal.Hand
end
-- ==== Proof.RglruPoint.lean ====
/- The recurrence kernel's launch: the pipeline's proof data and the body at every point. -/
module

public import proofs.«01_k».proof.Proof.RglruBody

@[expose] public section

set_option maxRecDepth 16384

noncomputable section

namespace Cert.RglruIdeal.Hand

open Cert.RglruIdeal Cert.RglruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch keeps between points: the five scratch buffers at some contents, and the generator's register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d)) ∗ (∃ r, prngReg c r)) := by
  unfold Pipeline.ΦA; rw [scopedRest0_eq]; simp only [owns_whole]; try rfl

/-- The pipeline's proof data: each input's buffer at its block, each output's at the body's results of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Block.resY (iblk m c 0 t) (iblk m c 1 t) (iblk m c 2 t) (iblk m c 3 t) (iblk m c 4 t) (iblk m c 5 t) (iblk m c 6 t) (iblk m c 7 t) (iblk m c 8 t) (iblk m c 9 t) (iblk m c 10 t) Block.lanes
    | ⟨12, _⟩ => Block.resTail (iblk m c 0 t)
    | ⟨13, _⟩ => Block.resLast (iblk m c 0 t) (iblk m c 2 t) (iblk m c 3 t) (iblk m c 4 t) (iblk m c 5 t) (iblk m c 6 t) (iblk m c 7 t) (iblk m c 8 t) (iblk m c 9 t) (iblk m c 10 t) Block.lanes
  Φ _ := Pipeline.ΦA spec0 c
  q w := Pipeline.shareOf spec0 w
  owed _ := 0

/-- The arrays are as the launch finds them. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = Block.resY (iblk m c 0 t) (iblk m c 1 t) (iblk m c 2 t) (iblk m c 3 t) (iblk m c 4 t) (iblk m c 5 t) (iblk m c 6 t) (iblk m c 7 t) (iblk m c 8 t) (iblk m c 9 t) (iblk m c 10 t) Block.lanes := by dsimp only [dats]
theorem after0_12 (c : Dev nD) (t : Fin cfg0.N) : (dats m 0 c).after 12 t = Block.resTail (iblk m c 0 t) := by dsimp only [dats]
theorem after0_13 (c : Dev nD) (t : Fin cfg0.N) : (dats m 0 c).after 13 t = Block.resLast (iblk m c 0 t) (iblk m c 2 t) (iblk m c 3 t) (iblk m c 4 t) (iblk m c 5 t) (iblk m c 6 t) (iblk m c 7 t) (iblk m c 8 t) (iblk m c 9 t) (iblk m c 10 t) Block.lanes := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- The body at any point: the windows' blocks and the scratch are what it runs on. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5, after0_6, after0_7, after0_8, after0_9, after0_10, after0_11, after0_12, after0_13]
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, S0, S1, S2, S3, S4⟩
  isplitl [Hr S0 S1 S2 S3 S4]
  · isplitr [Hr]
    · isplitl [S0]; iexact S0; isplitl [S1]; iexact S1; isplitl [S2]; iexact S2; isplitl [S3]; iexact S3; iexact S4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

-- the body of fourteen windows is compared whole
set_option maxHeartbeats 2000000 in
/-- The body table's row at a point is the body. -/
theorem defs₀_row (t : Fin cfg0.N) :
    defs₀ (F := F) .tc cfg0.body (cfg0.bodyArgs t (cfg0.slots t)) = bodyAt0 t := by
  unfold defs₀; rw [Defs.onTc_tc]

end Cert.RglruIdeal.Hand

end
-- ==== Proof.RglruFrame.lean ====
/- The recurrence kernel's launch: the pipeline's obligation, the run and the frame. -/
module

public import proofs.«01_k».proof.Proof.RglruPoint

@[expose] public section

set_option maxRecDepth 16384

noncomputable section

namespace Cert.RglruIdeal.Hand

open Cert.RglruIdeal Cert.RglruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs stored under a condition are stored at every point: the condition is the same for both and always holds. -/
theorem idle12 (t : Fin cfg0.N) : cfg0.idle (12 : Fin 14) (cfg0.grid.coords t) = false := by
  show (!(k0_cond2 (grid0.coords t) == 1#1)) = false
  rw [cond2]; rfl

-- fourteen windows and five scratch buffers on both sides
set_option maxHeartbeats 2000000 in
/-- The pipeline's obligation, at every point. -/
theorem body_obligation (c : Dev nD) : BodyObligation (dats (F := F) m 0 c) (defs₀ (F := F)) Variants.none () Set.univ := fun t => by
  rw [bigSep_W0, bigSep_W0, defs₀_row]
  rw [idle12 t]
  refine triple_restated (sound_body m c t) rfl .rfl fun _ => ?_
  exact .rfl

-- the run's implicit arguments are found by unifying its conclusion with this one
set_option backward.isDefEq.respectTransparency.types false in
set_option maxHeartbeats 800000 in
/-- The launch terminates with every array at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch terminates with every array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) :=
  frame_of m ρ (dats m) (A_eq m) (run_main m ρ)

/-- The frame: the argument arrays end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.RglruIdeal.Hand

end
-- ==== Proof.RglruSame.lean ====
/- The recurrence kernel and its idealization are one program: the idealization rewrites nothing. So the run proved of the one, at
   any reading of the floats, is a run of the other. -/
module

public import proofs.«01_k».proof.Defs
public import proofs.«01_k».proof.Proof.Gen.Rglru
public import proofs.«01_k».proof.Proof.RglruFrame

@[expose] public section

noncomputable section

open Idealize.ShloMosaic Idealize.ShloMosaic.TcCoe Idealize.SL.Sem

namespace Cert.Proof.Same

variable {F : FTy → Type} [FloatOps F]

/-- The two bodies are the same term. -/
theorem body_eq : @Cert.Rglru.cc0_rglru F _ Cert.Rglru.Gen.facts = @Cert.RglruIdeal.cc0_rglru F _ Cert.RglruIdeal.Gen.facts := rfl

attribute [local irreducible] Cert.Rglru.cc0_rglru Cert.RglruIdeal.cc0_rglru

-- the body takes fourteen windows and five scratch buffers, each by its own chain of names
set_option maxHeartbeats 8000000 in
/-- The two tables of bodies are the same. -/
theorem defs₀_eq : @Cert.Rglru.defs₀ F _ Cert.Rglru.Gen.facts = @Cert.RglruIdeal.defs₀ F _ Cert.RglruIdeal.Gen.facts := by
  unfold Cert.Rglru.defs₀ Cert.RglruIdeal.defs₀
  rw [body_eq]
  refine congrArg Defs.onTc ?_
  funext l a
  match l, a with
  | ⟨0, _⟩, (t, s) => rfl

/-- The two tables of launches are the same. -/
theorem defs_eq : @Cert.Rglru.defs F _ Cert.Rglru.Gen.facts = @Cert.RglruIdeal.defs F _ Cert.RglruIdeal.Gen.facts := by
  unfold Cert.Rglru.defs Cert.RglruIdeal.defs
  rw [defs₀_eq]
  rfl

/-- The two programs are the same. -/
theorem main_eq : @Cert.Rglru.main F _ Cert.Rglru.Gen.facts = @Cert.RglruIdeal.main F _ Cert.RglruIdeal.Gen.facts := rfl

/-- The kernel runs, keeps its arguments and ends with no counter raised. -/
theorem frame : Cert.quiescent_Rglru := fun m ρ _ => by
  rw [defs_eq, main_eq]
  exact Cert.RglruIdeal.Hand.frame (F := Bits) m ρ

end Cert.Proof.Same

end
-- ==== Proof.RglruMath.lean ====
/- The recurrence's mathematics over the extended reals: the decay factor and its two spellings of the multiplier, and a scan by
   doubling against the recurrence one step at a time. -/
module

public import Idealize.ShloMosaic.Lib.IdealHost
public import Mathlib.Analysis.SpecialFunctions.Trigonometric.DerivHyp

@[expose] public section

noncomputable section

open Idealize.ShloMosaic

namespace Cert.Proof.Rec

/-! ## The decay -/

/-- The rate of decay of a channel: `log (1 + e^(-λ))`, spelt so that nothing overflows. -/
def rate (l : EReal) : EReal := max (-l) 0 + Ideal.log1p (Ideal.exp (-max (-l) (- -l)))

/-- The logarithm of a step's factor: minus eight times the gate times the rate. -/
def logFac (z l : EReal) : EReal := Ideal.ofBits .f32 0xC1000000#32 * Ideal.logistic z * rate l

/-- What a step's increment is multiplied by: the root of one less the square of the factor. -/
def mult (x : EReal) : EReal := Ideal.sqrt (-(Ideal.exp (2 * x) - 1))

theorem exp_nonneg (x : EReal) : 0 ≤ Ideal.exp x := by
  induction x with
  | bot => simp
  | top => simp
  | coe r => rw [Ideal.exp_coe]; exact_mod_cast (Real.exp_pos r).le

theorem log1p_nonneg {x : EReal} (h : 0 ≤ x) : 0 ≤ Ideal.log1p x := by
  induction x with
  | bot => simp at h
  | top =>
    rw [Ideal.log1p, EReal.add_top_of_ne_bot (show (1 : EReal) ≠ ⊥ from EReal.coe_ne_bot 1)]; simp
  | coe r =>
    have hr : (0 : ℝ) ≤ r := by exact_mod_cast h
    rw [Ideal.log1p, show (1 : EReal) + (r : EReal) = ((1 + r : ℝ) : EReal) by push_cast; rfl, Ideal.log_coe, if_neg (by linarith)]
    exact_mod_cast Real.log_nonneg (by linarith)

theorem logistic_nonneg (x : EReal) : 0 ≤ Ideal.logistic x := by
  induction x with
  | bot => simp
  | top => simp
  | coe r => rw [Ideal.logistic_coe]; exact_mod_cast (by positivity : (0:ℝ) ≤ (1 + Real.exp (-r))⁻¹)

theorem rate_nonneg (l : EReal) : 0 ≤ rate l := add_nonneg (le_max_right _ _) (log1p_nonneg (exp_nonneg _))

theorem eight : Ideal.ofBits .f32 0xC1000000#32 = ((-8 : ℝ) : EReal) := by
  simp [Ideal.ofBits, Ideal.ieee, -EReal.coe_mul]; norm_num

theorem two : Ideal.ofBits .f32 0x40000000#32 = 2 := by
  have h : Ideal.ofBits .f32 0x40000000#32 = ((2 : ℝ) : EReal) := by
    simp [Ideal.ofBits, Ideal.ieee, -EReal.coe_mul]; norm_num
  exact h

theorem logFac_nonpos (z l : EReal) : logFac z l ≤ 0 := by
  have h8 : Ideal.ofBits .f32 0xC1000000#32 ≤ 0 := by rw [eight]; exact_mod_cast (by norm_num : (-8:ℝ) ≤ 0)
  exact mul_nonpos_of_nonpos_of_nonneg (mul_nonpos_of_nonpos_of_nonneg h8 (logistic_nonneg z)) (rate_nonneg l)

/-- A factor whose logarithm is not positive is finite. -/
theorem exp_ne_top {x : EReal} (h : x ≤ 0) : Ideal.exp x ≠ ⊤ := by
  induction x with
  | bot => simp
  | top => simp at h
  | coe r => rw [Ideal.exp_coe]; exact EReal.coe_ne_top _

/-- The multiplier in the hyperbolic tangent: `-tanh x (e^(2x) + 1) = 1 - e^(2x)`. -/
theorem mult_eq {x : EReal} (h : x ≤ 0) :
    Ideal.sqrt ((0 - Ideal.tanh x) * (Ideal.exp x * Ideal.exp x + 1)) = mult x := by
  unfold mult
  congr 1
  induction x with
  | bot =>
    rw [Ideal.tanh_bot, Ideal.exp_bot, EReal.mul_bot_of_pos (by norm_num), Ideal.exp_bot]
    simp
  | top => simp at h
  | coe r =>
    rw [Ideal.tanh_coe, Ideal.exp_coe, show (2 : EReal) * (r : EReal) = ((2 * r : ℝ) : EReal) by push_cast; rfl, Ideal.exp_coe]
    have e : (0 - Real.tanh r) * (Real.exp r * Real.exp r + 1) = -(Real.exp (2 * r) - 1) := by
      rw [Real.tanh_eq_sinh_div_cosh, Real.sinh_eq, Real.cosh_eq, Real.exp_neg, two_mul, Real.exp_add]
      have := Real.exp_pos r
      field_simp
      ring
    exact_mod_cast congrArg (fun y : ℝ => (y : EReal)) e

/-! ## The scan -/

/-- The state after `n` steps. -/
def state (a b : ℕ → EReal) (h0 : EReal) : ℕ → EReal
  | 0 => h0
  | n + 1 => a n * state a b h0 n + b n

/-- Pairs that carry the state `w` steps back (or the first state, if there are fewer steps) to the state after their step. -/
def Spans (H : ℕ → EReal) (w : ℕ) (A B : Fin 8 → EReal) : Prop :=
  ∀ i : Fin 8, 0 ≤ A i ∧ A i ≠ ⊤ ∧ A i * H (i.val + 1 - w) + B i = H (i.val + 1)

/-- One level of the scan doubles the span. -/
theorem Spans.double {H : ℕ → EReal} {w : ℕ} {A B A' B' : Fin 8 → EReal} (h : Spans H w A B) (hw : 0 < w)
    (hA : ∀ i, A' i = A i * (if w ≤ i.val then A ⟨i.val - w, by omega⟩ else 1))
    (hB : ∀ i, B' i = A i * (if w ≤ i.val then B ⟨i.val - w, by omega⟩ else 0) + B i) : Spans H (2 * w) A' B' := by
  intro i
  obtain ⟨p, q, e⟩ := h i
  rw [hA i, hB i]
  by_cases hi : w ≤ i.val
  · rw [if_pos hi, if_pos hi]
    obtain ⟨p', q', e'⟩ := h ⟨i.val - w, by omega⟩
    refine ⟨mul_nonneg p p', ?_, ?_⟩
    · lift A i to ℝ using ⟨q, fun hb => by rw [hb] at p; simp at p⟩ with x
      lift A ⟨i.val - w, by omega⟩ to ℝ using ⟨q', fun hb => by rw [hb] at p'; simp at p'⟩ with y
      rw [← EReal.coe_mul]
      exact EReal.coe_ne_top _
    · rw [mul_assoc, ← add_assoc, ← EReal.left_distrib_of_nonneg_of_ne_top p q]
      have e1 : i.val + 1 - 2 * w = i.val - w + 1 - w := by omega
      have e2 : i.val + 1 - w = i.val - w + 1 := by omega
      rw [e1, e', ← e2, e]
  · rw [if_neg hi, if_neg hi, mul_one, mul_zero, zero_add]
    refine ⟨p, q, ?_⟩
    have e1 : i.val + 1 - 2 * w = i.val + 1 - w := by omega
    rw [e1, e]

/-- A span of eight reaches back to the first state from every one of eight steps. -/
theorem Spans.reach {H : ℕ → EReal} {A B : Fin 8 → EReal} (h : Spans H 8 A B) (i : Fin 8) : A i * H 0 + B i = H (i.val + 1) := by
  obtain ⟨-, -, e⟩ := h i
  rwa [show i.val + 1 - 8 = 0 by omega] at e

/-- The steps themselves span one. -/
theorem Spans.one {a b : ℕ → EReal} {h0 : EReal} (o : ℕ) {A B : Fin 8 → EReal} (hA : ∀ i : Fin 8, A i = a (o + i.val))
    (hB : ∀ i : Fin 8, B i = b (o + i.val)) (h : ∀ i : Fin 8, 0 ≤ a (o + i.val) ∧ a (o + i.val) ≠ ⊤) :
    Spans (fun n => state a b h0 (o + n)) 1 A B := by
  intro i
  rw [hA i, hB i]
  refine ⟨(h i).1, (h i).2, ?_⟩
  show a (o + i.val) * state a b h0 (o + i.val) + b (o + i.val) = state a b h0 (o + i.val + 1)
  rfl

end Cert.Proof.Rec

end
-- ==== Proof.RglruCells.lean ====
/- One slab of the recurrence kernel over the extended reals, entry by entry: the convolution, the gates, the factors and the
   increments, and the states, which the kernel scans eight rows at a time. -/
module

public import proofs.«01_k».proof.Proof.RglruBlock
public import proofs.«01_k».proof.Proof.RglruMath
public import Idealize.ShloMosaic.Lib.Tactic
public import Idealize.ShloMosaic.Lib.Pointwise.Tactic
public import Idealize.ShloMosaic.Lib.Pointwise
public import Idealize.ShloMosaic.Lib.ValueIdx
public import Idealize.ShloMosaic.Lib.MatmulPlain
public import Idealize.ShloMosaic.Lib.KernelVsHost

@[expose] public section

set_option maxRecDepth 16384

noncomputable section

open Idealize.ShloMosaic

namespace Cert.RglruIdeal.Block

open Cert.RglruIdeal Cert.RglruIdeal.Gen Cert.Proof.Rec

/-! ## The gates -/

/-- The convolution at a row and lane: the bias and four products, in the order the kernel adds them. -/
theorem pay41_apply (w : FVec Ideal S1x4x128 .f32) (b : FVec Ideal S1x1x128 .f32) (u0 u1 u2 u3 : FVec Ideal S1x16x128 .f32)
    (t : Fin 16) (l : Fin 128) :
    k0_pay41 (F := Ideal) w b u0 u1 u2 u3 (ix2 t l)
      = b (ix3 0 0 l) + u0 (ix3 0 t l) * w (ix3 0 0 l) + u1 (ix3 0 t l) * w (ix3 0 1 l) + u2 (ix3 0 t l) * w (ix3 0 2 l)
        + u3 (ix3 0 t l) * w (ix3 0 3 l) := by
  unfold k0_pay41
  pointwise

/-- A gate's argument: the row by the slab's weight, and the bias. -/
def pre (u : Fin 128 → EReal) (w : FVec Ideal S1x128x128 .bf16) (b : FVec Ideal S1x1x128 .f32) (l : Fin 128) : EReal :=
  (∑ k : Fin 128, u k * w (ix3 0 k l)) + b (ix3 0 0 l)

theorem pay45_apply (v : FVec Ideal S16x128 .f32) (w : FVec Ideal S1x128x128 .bf16) (b : FVec Ideal S1x1x128 .f32) (t : Fin 16) (l : Fin 128) :
    k0_pay45 (F := Ideal) v w b (ix2 t l) = Ideal.logistic (pre (fun k => v (ix2 t k)) w b l) := by
  unfold k0_pay45 k0_pay44 pre
  pointwise

theorem pay47_apply (v : FVec Ideal S16x128 .f32) (w : FVec Ideal S1x128x128 .bf16) (b : FVec Ideal S1x1x128 .f32) (t : Fin 16) (l : Fin 128) :
    k0_pay47 (F := Ideal) v w b (ix2 t l)
      = Ideal.ofBits .f32 0xC1000000#32 * Ideal.logistic (pre (fun k => v (ix2 t k)) w b l) := by
  unfold k0_pay47 k0_pay44 pre
  pointwise

theorem pay46_apply (v : FVec Ideal S1x1x128 .f32) (l : Fin 128) : k0_pay46 (F := Ideal) v (ix2 0 l) = rate (v (ix3 0 0 l)) := by
  have h : k0_pay46 (F := Ideal) v (ix2 0 l)
      = max (0 - v (ix3 0 0 l)) 0 + Ideal.log1p (Ideal.exp (0 - max (0 - v (ix3 0 0 l)) (-(0 - v (ix3 0 0 l))))) := by
    unfold k0_pay46
    pointwise
    rfl
  rw [h, zero_sub, zero_sub]
  rfl

theorem pay50_apply (r : FVec Ideal S1x128 .f32) (g : FVec Ideal S16x128 .f32) (t : Fin 16) (l : Fin 128) :
    k0_pay50 (F := Ideal) r g (ix2 t l) = Ideal.exp (g (ix2 t l) * r (ix2 0 l)) := by
  unfold k0_pay50 k0_pay49 k0_pay48
  pointwise

theorem pay51_apply (v : FVec Ideal S16x128 .f32) (g : FVec Ideal S16x128 .f32) (r : FVec Ideal S1x128 .f32) (s : FVec Ideal S16x128 .f32)
    (t : Fin 16) (l : Fin 128) :
    k0_pay51 (F := Ideal) v g r s (ix2 t l)
      = Ideal.sqrt ((0 - Ideal.tanh (s (ix2 t l) * r (ix2 0 l))) * (Ideal.exp (s (ix2 t l) * r (ix2 0 l)) * Ideal.exp (s (ix2 t l) * r (ix2 0 l)) + 1))
        * g (ix2 t l) * v (ix2 t l) := by
  unfold k0_pay51 k0_pay49 k0_pay48
  pointwise

/-! ## The scan of eight rows -/

/-- Rows shifted down by `d`, the rows that run in replaced by `z`. -/
theorem shift_apply (d : Nat) (hd : d < 8) (w : BitVec 32) (hw : w.toNat = d)
    (hc : ∀ i : Fin 8, Scalar.cmpi .sge (BitVec.ofNat 32 i.val) w = if d ≤ i.val then 1#1 else 0#1)
    (x : FVec Ideal S8x128 .f32) (z : EReal) (i : Fin 8) (l : Fin 128) :
    select (cmpi .sge lanes (broadcast S8x128 w)) (dynamicRotate 0 w none x rotates_S8x128_d0) (broadcast S8x128 z) (ix2 i l)
      = if d ≤ i.val then x (ix2 ⟨i.val - d, by omega⟩ l) else z := by
  show Scalar.select (Scalar.cmpi .sge (lanes (ix2 i l)) w) (dynamicRotate 0 w none x rotates_S8x128_d0 (ix2 i l)) z = _
  have hl : lanes (ix2 i l) = BitVec.ofNat 32 i.val := by
    unfold lanes
    pointwise
  rw [hl, hc i]
  by_cases h : d ≤ i.val
  · rw [if_pos h, if_pos h, dynamicRotate_apply 0 w x rotates_S8x128_d0 (ix2 i l) (ix2 ⟨i.val - d, by omega⟩ l) (fun b => match b with
      | ⟨0, _⟩ => by
        show i.val - d = if (0 : Fin 2) = 0 then (i.val + 8 - w.toNat % 8) % 8 else i.val
        rw [if_pos rfl, hw]; omega
      | ⟨1, _⟩ => by
        show l.val = if (1 : Fin 2) = 0 then (l.val + 128 - w.toNat % 128) % 128 else l.val
        rw [if_neg (by decide)])]
    rfl
  · rw [if_neg h, if_neg h]
    rfl

/-- One level of the scan, on whole blocks of eight rows. -/
abbrev levA (w : BitVec 32) (a : FVec Ideal S8x128 .f32) : FVec Ideal S8x128 .f32 :=
  mulf a (select (cmpi .sge lanes (broadcast S8x128 w)) (dynamicRotate 0 w none a rotates_S8x128_d0) (broadcast S8x128 (Scalar.ofBits .f32 0x3F800000#32 : Ideal .f32)))
abbrev levB (w : BitVec 32) (a b : FVec Ideal S8x128 .f32) : FVec Ideal S8x128 .f32 :=
  addf (mulf a (select (cmpi .sge lanes (broadcast S8x128 w)) (dynamicRotate 0 w none b rotates_S8x128_d0) (broadcast S8x128 (Scalar.ofBits .f32 0x00000000#32 : Ideal .f32)))) b

/-- A level doubles the span of a lane's pairs. -/
theorem lev_spans (d : Nat) (hd : d < 8) (h0 : 0 < d) (w : BitVec 32) (hw : w.toNat = d)
    (hc : ∀ i : Fin 8, Scalar.cmpi .sge (BitVec.ofNat 32 i.val) w = if d ≤ i.val then 1#1 else 0#1)
    (a b : FVec Ideal S8x128 .f32) (l : Fin 128) (H : ℕ → EReal) (h : Spans H d (fun i => a (ix2 i l)) (fun i => b (ix2 i l))) :
    Spans H (2 * d) (fun i => levA w a (ix2 i l)) (fun i => levB w a b (ix2 i l)) := by
  refine h.double h0 (fun i => ?_) (fun i => ?_)
  · show a (ix2 i l) * _ = _
    rw [shift_apply d hd w hw hc a _ i l]
    show a (ix2 i l) * (if d ≤ i.val then _ else Ideal.ofBits .f32 0x3F800000#32) = _
    rw [Ideal.ofBits_one_f32]
  · show a (ix2 i l) * _ + b (ix2 i l) = _
    rw [shift_apply d hd w hw hc b _ i l]
    show a (ix2 i l) * (if d ≤ i.val then _ else Ideal.ofBits .f32 0x00000000#32) + _ = _
    rw [Ideal.ofBits_zero_f32]

/-- The three levels, and the first state carried to every row. -/
abbrev scan8 (a b h : FVec Ideal S8x128 .f32) : FVec Ideal S8x128 .f32 :=
  addf (mulf (levA 4#32 (levA 2#32 (levA 1#32 a))) h) (levB 4#32 (levA 2#32 (levA 1#32 a)) (levB 2#32 (levA 1#32 a) (levB 1#32 a b)))

/-- The scan of eight rows is the recurrence, one step at a time. -/
theorem scan8_apply (a b h : FVec Ideal S8x128 .f32) (l : Fin 128) (f g : ℕ → EReal) (h0 : EReal) (o : ℕ)
    (hA : ∀ i : Fin 8, a (ix2 i l) = f (o + i.val)) (hB : ∀ i : Fin 8, b (ix2 i l) = g (o + i.val))
    (hf : ∀ i : Fin 8, 0 ≤ f (o + i.val) ∧ f (o + i.val) ≠ ⊤) (i : Fin 8) (hh : h (ix2 i l) = state f g h0 o) :
    scan8 a b h (ix2 i l) = state f g h0 (o + (i.val + 1)) := by
  have s1 := Spans.one (h0 := h0) o hA hB hf
  have s2 := lev_spans 1 (by decide) (by decide) 1#32 rfl (by decide) a b l _ s1
  have s4 := lev_spans 2 (by decide) (by decide) 2#32 rfl (by decide) _ _ l _ s2
  have s8 := lev_spans 4 (by decide) (by decide) 4#32 rfl (by decide) _ _ l _ s4
  have e := Spans.reach s8 i
  show _ * h (ix2 i l) + _ = _
  rw [hh]
  exact e

/-! ## One slab -/

section Slab
variable (x0 x1 : FVec Ideal S16x16x128 .f32) (x2 : FVec Ideal S1x16x3x128 .f32) (x3 : FVec Ideal S1x16x1x128 .f32)
  (x4 : FVec Ideal S16x4x128 .f32) (x5 : FVec Ideal S16x1x128 .f32) (x6 : FVec Ideal S16x128x128 .bf16) (x7 : FVec Ideal S16x1x128 .f32)
  (x8 : FVec Ideal S16x128x128 .bf16) (x9 x10 : FVec Ideal S16x1x128 .f32) (j : Fin 16)

/-- The input row `n` of history and slab, in order. -/
def inp (l : Fin 128) (n : ℕ) : EReal :=
  if h : n < 3 then x2 (ix4 0 j ⟨n, h⟩ l) else if h : n - 3 < 16 then x0 (ix3 j ⟨n - 3, h⟩ l) else 0

/-- The convolution of a slab, at a row and lane. -/
def cv (t : ℕ) (l : Fin 128) : EReal :=
  x5 (ix3 j 0 l) + inp x0 x2 j l t * x4 (ix3 j 0 l) + inp x0 x2 j l (t + 1) * x4 (ix3 j 1 l) + inp x0 x2 j l (t + 2) * x4 (ix3 j 2 l)
    + inp x0 x2 j l (t + 3) * x4 (ix3 j 3 l)

/-- A gate's argument, at a row and lane. -/
def gt (w : S16x128x128.Idx → EReal) (b : S16x1x128.Idx → EReal) (t : ℕ) (l : Fin 128) : EReal :=
  (∑ k : Fin 128, cv x0 x2 x4 x5 j t k * w (ix3 j k l)) + b (ix3 j 0 l)

/-- The factor of a step. -/
def fa (l : Fin 128) (t : ℕ) : EReal := Ideal.exp (logFac (gt x0 x2 x4 x5 j x6 x7 t l) (x10 (ix3 j 0 l)))

/-- The increment of a step. -/
def ic (l : Fin 128) (t : ℕ) : EReal :=
  mult (logFac (gt x0 x2 x4 x5 j x6 x7 t l) (x10 (ix3 j 0 l))) * Ideal.logistic (gt x0 x2 x4 x5 j x8 x9 t l) * cv x0 x2 x4 x5 j t l

theorem tap_apply (d : Nat) (hd : d ≤ 3) (t : Fin 16) (l : Fin 128) :
    tap (F := Ideal) x0 x2 j d hd (ix3 0 t l) = inp x0 x2 j l (t.val + d) := by
  unfold inp
  show (if h : t.val + d < 3 then _ else _) = _
  by_cases h : t.val + d < 3
  · rw [dif_pos h, dif_pos h]; rfl
  · rw [dif_neg h, dif_neg h, dif_pos (show t.val + d - 3 < 16 by omega)]; rfl

theorem slab_inp (t : Fin 16) (l : Fin 128) : (slab (F := Ideal) (e := .f32) x0 j (ix3 0 t l) : EReal) = inp x0 x2 j l (t.val + 3) := by
  unfold inp
  rw [dif_neg (by omega), dif_pos (show t.val + 3 - 3 < 16 by omega)]
  show x0 (ix3 j t l) = _
  congr 2

theorem conv_apply (t : Fin 16) (l : Fin 128) : conv (F := Ideal) x0 x2 x4 x5 j (ix2 t l) = cv x0 x2 x4 x5 j t.val l := by
  unfold conv cv
  rw [pay41_apply, tap_apply, tap_apply, tap_apply, slab_inp (x2 := x2)]
  rfl

theorem pre_conv (w : FVec Ideal S16x128x128 .bf16) (b : FVec Ideal S16x1x128 .f32) (t : Fin 16) (l : Fin 128) :
    pre (fun k => conv (F := Ideal) x0 x2 x4 x5 j (ix2 t k)) (slab (F := Ideal) (n := 16) (a := 128) (b := 128) (e := .bf16) w j) (slab (F := Ideal) (n := 16) (a := 1) (b := 128) (e := .f32) b j) l = gt x0 x2 x4 x5 j w b t.val l := by
  unfold pre gt
  rw [show (fun k => conv (F := Ideal) x0 x2 x4 x5 j (ix2 t k)) = fun k => cv x0 x2 x4 x5 j t.val k from funext fun k => conv_apply x0 x2 x4 x5 j t k]
  rfl

theorem log_apply (t : Fin 16) (l : Fin 128) :
    gate (F := Ideal) x0 x2 x4 x5 x6 x7 j (ix2 t l) * k0_pay46 (F := Ideal) (slab x10 j) (ix2 0 l)
      = logFac (gt x0 x2 x4 x5 j x6 x7 t.val l) (x10 (ix3 j 0 l)) := by
  unfold gate logFac
  rw [pay47_apply, pay46_apply, pre_conv]
  rfl

theorem fac_apply (t : Fin 16) (l : Fin 128) :
    fac (F := Ideal) x0 x2 x4 x5 x6 x7 x10 j (ix2 t l) = fa x0 x2 x4 x5 x6 x7 x10 j l t.val := by
  unfold fac fa
  rw [pay50_apply, log_apply]

theorem inc_apply (t : Fin 16) (l : Fin 128) :
    inc (F := Ideal) x0 x2 x4 x5 x6 x7 x8 x9 x10 j (ix2 t l) = ic x0 x2 x4 x5 x6 x7 x8 x9 x10 j l t.val := by
  unfold inc ic
  rw [pay51_apply, log_apply, mult_eq (logFac_nonpos _ _), pay45_apply, pre_conv, conv_apply]

theorem fa_range (l : Fin 128) (t : ℕ) : 0 ≤ fa x0 x2 x4 x5 x6 x7 x10 j l t ∧ fa x0 x2 x4 x5 x6 x7 x10 j l t ≠ ⊤ :=
  ⟨exp_nonneg _, exp_ne_top (logFac_nonpos _ _)⟩

/-- The slab's state after `n` steps, at a lane. -/
def st (l : Fin 128) (n : ℕ) : EReal :=
  state (fa x0 x2 x4 x5 x6 x7 x10 j l) (ic x0 x2 x4 x5 x6 x7 x8 x9 x10 j l) (x3 (ix4 0 j 0 l)) n

theorem start_apply (i : Fin 8) (l : Fin 128) : start (F := Ideal) x3 j (ix2 i l) = x3 (ix4 0 j 0 l) := by
  unfold start k0_pay52
  pointwise

theorem first_apply (i : Fin 8) (l : Fin 128) :
    first (F := Ideal) x0 x2 x3 x4 x5 x6 x7 x8 x9 x10 lanes j (ix2 i l) = st x0 x2 x3 x4 x5 x6 x7 x8 x9 x10 j l (i.val + 1) := by
  have e : first (F := Ideal) x0 x2 x3 x4 x5 x6 x7 x8 x9 x10 lanes j
      = scan8 (rows (F := Ideal) (fac (F := Ideal) x0 x2 x4 x5 x6 x7 x10 j) 0 (by decide)) (rows (F := Ideal) (inc (F := Ideal) x0 x2 x4 x5 x6 x7 x8 x9 x10 j) 0 (by decide)) (start x3 j) := by
    unfold first k0_pay58
    rw [shapeCast_self]
    rfl
  rw [e]
  refine (scan8_apply _ _ _ l (fa x0 x2 x4 x5 x6 x7 x10 j l) (ic x0 x2 x4 x5 x6 x7 x8 x9 x10 j l) (x3 (ix4 0 j 0 l)) 0
    (fun i => fac_apply x0 x2 x4 x5 x6 x7 x10 j ⟨0 + i.val, by omega⟩ l) (fun i => inc_apply x0 x2 x4 x5 x6 x7 x8 x9 x10 j ⟨0 + i.val, by omega⟩ l)
    (fun i => fa_range x0 x2 x4 x5 x6 x7 x10 j l _) i (start_apply x3 j i l)).trans ?_
  rw [Nat.zero_add]
  rfl

/-- The last of eight rows, repeated over eight. -/
theorem last_row (y : FVec Ideal S8x128 .f32) (i : Fin 8) (l : Fin 128) :
    broadcastTo S8x128 (shapeCast S1x128 (extractStridedSlice S1x128 ![7, 0] y slices_S8x128_o7_0_S1x128) shapeCasts_S1x128_S1x128)
      broadcasts_S1x128_S8x128 (ix2 i l) = y (ix2 7 l) := by
  pointwise

theorem mid_apply (i : Fin 8) (l : Fin 128) :
    mid (F := Ideal) x0 x2 x3 x4 x5 x6 x7 x8 x9 x10 lanes j (ix2 i l) = st x0 x2 x3 x4 x5 x6 x7 x8 x9 x10 j l 8 := by
  refine Eq.trans ?_ (first_apply x0 x2 x3 x4 x5 x6 x7 x8 x9 x10 j 7 l)
  unfold mid k0_pay59
  refine (last_row _ i l).trans ?_
  unfold first k0_pay58
  rw [shapeCast_self]

theorem second_apply (i : Fin 8) (l : Fin 128) :
    second (F := Ideal) x0 x2 x3 x4 x5 x6 x7 x8 x9 x10 lanes j (ix2 i l) = st x0 x2 x3 x4 x5 x6 x7 x8 x9 x10 j l (8 + (i.val + 1)) := by
  have e : second (F := Ideal) x0 x2 x3 x4 x5 x6 x7 x8 x9 x10 lanes j
      = scan8 (rows (F := Ideal) (fac (F := Ideal) x0 x2 x4 x5 x6 x7 x10 j) 8 (by decide)) (rows (F := Ideal) (inc (F := Ideal) x0 x2 x4 x5 x6 x7 x8 x9 x10 j) 8 (by decide))
        (mid x0 x2 x3 x4 x5 x6 x7 x8 x9 x10 lanes j) := by
    unfold second k0_pay63
    rw [shapeCast_self]
    rfl
  rw [e]
  exact scan8_apply _ _ _ l (fa x0 x2 x4 x5 x6 x7 x10 j l) (ic x0 x2 x4 x5 x6 x7 x8 x9 x10 j l) (x3 (ix4 0 j 0 l)) 8
    (fun i => fac_apply x0 x2 x4 x5 x6 x7 x10 j ⟨8 + i.val, by omega⟩ l) (fun i => inc_apply x0 x2 x4 x5 x6 x7 x8 x9 x10 j ⟨8 + i.val, by omega⟩ l)
    (fun i => fa_range x0 x2 x4 x5 x6 x7 x10 j l _) i (mid_apply x0 x2 x3 x4 x5 x6 x7 x8 x9 x10 j i l)

theorem last_apply (i : Fin 8) (l : Fin 128) :
    last (F := Ideal) x0 x2 x3 x4 x5 x6 x7 x8 x9 x10 lanes j (ix2 i l) = st x0 x2 x3 x4 x5 x6 x7 x8 x9 x10 j l 16 := by
  refine Eq.trans ?_ (second_apply x0 x2 x3 x4 x5 x6 x7 x8 x9 x10 j 7 l)
  unfold last k0_pay64
  refine (last_row _ i l).trans ?_
  unfold second k0_pay63
  rw [shapeCast_self]

theorem states_apply (t : Fin 16) (l : Fin 128) :
    states (F := Ideal) x0 x2 x3 x4 x5 x6 x7 x8 x9 x10 lanes j (ix2 t l) = st x0 x2 x3 x4 x5 x6 x7 x8 x9 x10 j l (t.val + 1) := by
  unfold states
  show (if h : t.val < 8 then _ else _) = _
  by_cases h : t.val < 8
  · rw [dif_pos h]
    exact first_apply x0 x2 x3 x4 x5 x6 x7 x8 x9 x10 j ⟨t.val, h⟩ l
  · rw [dif_neg h]
    refine (second_apply x0 x2 x3 x4 x5 x6 x7 x8 x9 x10 j ⟨t.val - 8, by omega⟩ l).trans (congrArg _ ?_)
    show 8 + (t.val - 8 + 1) = t.val + 1
    omega

/-! ## The slab's results -/

theorem pay3_apply (h : FVec Ideal S16x128 .f32) (g : FVec Ideal S1x16x128 .f32) (t : Fin 16) (l : Fin 128) :
    k0_pay3 (F := Ideal) h g (ix3 0 t l) = h (ix2 t l) * (g (ix3 0 t l) * Ideal.logistic (g (ix3 0 t l))) := by
  unfold k0_pay3
  pointwise

theorem resY_apply (t : Fin 16) (l : Fin 128) :
    resY (F := Ideal) x0 x1 x2 x3 x4 x5 x6 x7 x8 x9 x10 lanes (ix3 j t l)
      = st x0 x2 x3 x4 x5 x6 x7 x8 x9 x10 j l (t.val + 1) * (x1 (ix3 j t l) * Ideal.logistic (x1 (ix3 j t l))) := by
  show outY (F := Ideal) x0 x1 x2 x3 x4 x5 x6 x7 x8 x9 x10 lanes j (ix3 0 t l) = _
  unfold outY
  rw [pay3_apply, states_apply]
  rfl

theorem resTail_apply (r : Fin 3) (l : Fin 128) :
    resTail (F := Ideal) x0 (ix4 0 j r l) = x0 (ix3 j ⟨13 + r.val, by omega⟩ l) := by
  show outTail (F := Ideal) x0 j (ix4 0 0 r l) = _
  unfold outTail k0_pay4 k0_pay42 k0_pay39
  pointwise
  rfl

theorem resLast_apply (l : Fin 128) :
    resLast (F := Ideal) x0 x2 x3 x4 x5 x6 x7 x8 x9 x10 lanes (ix4 0 j 0 l) = st x0 x2 x3 x4 x5 x6 x7 x8 x9 x10 j l 16 := by
  refine Eq.trans ?_ (last_apply x0 x2 x3 x4 x5 x6 x7 x8 x9 x10 j 0 l)
  show outLast (F := Ideal) x0 x2 x3 x4 x5 x6 x7 x8 x9 x10 lanes j (ix4 0 0 0 l) = _
  unfold outLast k0_pay5
  pointwise

end Slab

end Cert.RglruIdeal.Block

end
-- ==== Proof.RglruRef.lean ====
/- The recurrence's reference, entry by entry: the convolution, the gates, the factors, the increments and the states at a batch
   row, a step and a channel, in the terms of the kernel's one slab. -/
module

public import proofs.«01_k».proof.Proof.RglruCells
public import proofs.«01_k».proof.Proof.Gen.RglruRefIdeal.Read
public import Idealize.ShloMosaic.Lib.Pipeline.ValueKit.Tiles

@[expose] public section

set_option maxRecDepth 16384

noncomputable section

open Idealize.ShloMosaic Idealize.ShloMosaic.TcCoe

namespace Cert.RglruIdeal.Block

open Cert.RglruIdeal Cert.Proof.Rec

/-- The channel of a slab's lane. -/
abbrev chan (j : Fin 16) (l : Fin 128) : Fin 2048 := ⟨j.val * 128 + l.val, by omega⟩

/-! ## One batch row's inputs, slab by slab -/

section Inputs
variable (x0 : S128x256x128.Idx → EReal) (x1 : S16x3x2048.Idx → EReal) (x2 : S16x2048.Idx → EReal) (x3 : S4x2048.Idx → EReal)
  (x4 : S2048.Idx → EReal) (b : Fin 16)

/-- The branch's input: sixteen slabs of the projection from `o` on, the batch row's tokens. -/
def slabsIn (o : Nat) (ho : o + 16 ≤ 128) : S16x16x128.Idx → EReal := fun i =>
  x0 (ix3 (n0 := 128) (n1 := 256) (n2 := 128) ⟨o + (i 0).val, by have h : (i 0).val < 16 := (i 0).isLt; omega⟩
    ⟨b.val * 16 + (i 1).val, by have h : (i 1).val < 16 := (i 1).isLt; omega⟩ (i 2))

/-- The slabs the convolution takes. -/
abbrev xIn : S16x16x128.Idx → EReal := slabsIn x0 b 64 (by decide)

/-- The slabs the output gate takes. -/
abbrev gIn : S16x16x128.Idx → EReal := slabsIn x0 b 80 (by decide)

/-- The history. -/
def histIn : S1x16x3x128.Idx → EReal := fun i => x1 (ix3 (n0 := 16) (n1 := 3) (n2 := 2048) b (i 2) (chan (i 1) (i 3)))

/-- The state to start from. -/
def stateIn : S1x16x1x128.Idx → EReal := fun i => x2 (ix2 (n0 := 16) (n1 := 2048) b (chan (i 1) (i 3)))

/-- The convolution's weight. -/
def tapsIn : S16x4x128.Idx → EReal := fun i => x3 (ix2 (n0 := 4) (n1 := 2048) (i 1) (chan (i 0) (i 2)))

/-- A vector over the channels. -/
def vecIn : S16x1x128.Idx → EReal := fun i => x4 (ix1 (n0 := 2048) (chan (i 0) (i 2)))

end Inputs

section Ref
open Cert.RglruRefIdeal.Read

variable (x0 : S128x256x128.Idx → EReal) (x1 : S16x3x2048.Idx → EReal) (x2 : S16x2048.Idx → EReal) (x3 : S4x2048.Idx → EReal)
  (x4 : S2048.Idx → EReal) (x5 : S16x128x128.Idx → EReal) (x6 : S2048.Idx → EReal) (x7 : S16x128x128.Idx → EReal) (x8 x9 : S2048.Idx → EReal)
  (b : Fin 16) (j : Fin 16) (l : Fin 128)

/-! ## The convolution -/

theorem ref_x (t : Fin 16) : val_main_v2 (F := Ideal) x0 (ix3 b t (chan j l)) = (xIn x0 b) (ix3 j t l) := by
  rw [val_main_v2_apply, val_main_v1_apply, val_main_v0_apply]
  unfold xIn slabsIn
  congr 1
  funext a
  apply Fin.ext
  match a with
  | ⟨0, _⟩ => show ((b.val * 16 + t.val) * 16384 + (8192 + (j.val * 128 + l.val))) / 128 % 128 = 64 + j.val; omega
  | ⟨1, _⟩ => show ((b.val * 16 + t.val) * 16384 + (8192 + (j.val * 128 + l.val))) / 16384 = b.val * 16 + t.val; omega
  | ⟨2, _⟩ => show ((b.val * 16 + t.val) * 16384 + (8192 + (j.val * 128 + l.val))) % 128 = l.val; omega

theorem ref_g (t : Fin 16) : val_main_v3 (F := Ideal) x0 (ix3 b t (chan j l)) = (gIn x0 b) (ix3 j t l) := by
  rw [val_main_v3_apply, val_main_v1_apply, val_main_v0_apply]
  unfold gIn slabsIn
  congr 1
  funext a
  apply Fin.ext
  match a with
  | ⟨0, _⟩ => show ((b.val * 16 + t.val) * 16384 + (10240 + (j.val * 128 + l.val))) / 128 % 128 = 80 + j.val; omega
  | ⟨1, _⟩ => show ((b.val * 16 + t.val) * 16384 + (10240 + (j.val * 128 + l.val))) / 16384 = b.val * 16 + t.val; omega
  | ⟨2, _⟩ => show ((b.val * 16 + t.val) * 16384 + (10240 + (j.val * 128 + l.val))) % 128 = l.val; omega

/-- The history and the input, one after the other. -/
theorem ref_inp (n : ℕ) (hn : n < 19) :
    val_main_v4 (F := Ideal) x0 x1 (ix3 (n0 := 16) (n1 := 19) (n2 := 2048) b ⟨n, hn⟩ (chan j l)) = inp (xIn x0 b) (histIn x1 b) j l n := by
  unfold val_main_v4 inp
  by_cases h : n < 3
  · rw [dif_pos h]
    exact concatenate_pair_apply_left (t := RglruRefIdeal.S16x19x2048) (s₁ := RglruRefIdeal.S16x3x2048) (s₂ := RglruRefIdeal.S16x16x2048) 1 x1
      (val_main_v2 (F := Ideal) x0) _ (ix3 (n0 := 16) (n1 := 19) (n2 := 2048) b ⟨n, hn⟩ (chan j l)) rfl
      (ix3 (n0 := 16) (n1 := 3) (n2 := 2048) b ⟨n, h⟩ (chan j l)) (fun a => match a with | ⟨0, _⟩ => rfl | ⟨1, _⟩ => rfl | ⟨2, _⟩ => rfl)
  · rw [dif_neg h, dif_pos (show n - 3 < 16 by omega)]
    refine (concatenate_pair_apply_right (t := RglruRefIdeal.S16x19x2048) (s₁ := RglruRefIdeal.S16x3x2048) (s₂ := RglruRefIdeal.S16x16x2048) 1 x1
      (val_main_v2 (F := Ideal) x0) _ (ix3 (n0 := 16) (n1 := 19) (n2 := 2048) b ⟨n, hn⟩ (chan j l)) rfl rfl
      (ix3 (n0 := 16) (n1 := 16) (n2 := 2048) b ⟨n - 3, by omega⟩ (chan j l))
      (fun a => match a with | ⟨0, _⟩ => fun _ => rfl | ⟨1, _⟩ => fun h => absurd rfl h | ⟨2, _⟩ => fun _ => rfl)
      (by show n - 3 + 3 = n; omega)).trans ?_
    exact ref_x x0 b j l ⟨n - 3, by omega⟩

theorem ref_cv (t : Fin 16) : val_main_v34 (F := Ideal) x0 x1 x3 x4 (ix3 b t (chan j l)) = cv (xIn x0 b) (histIn x1 b) (tapsIn x3) (vecIn x4) j t.val l := by
  have e : val_main_v34 (F := Ideal) x0 x1 x3 x4 (ix3 b t (chan j l))
      = x4 (ix1 (chan j l)) + val_main_v4 (F := Ideal) x0 x1 (ix3 (n0 := 16) (n1 := 19) (n2 := 2048) b ⟨t.val, by omega⟩ (chan j l)) * x3 (ix2 0 (chan j l))
        + val_main_v4 (F := Ideal) x0 x1 (ix3 (n0 := 16) (n1 := 19) (n2 := 2048) b ⟨t.val + 1, by omega⟩ (chan j l)) * x3 (ix2 1 (chan j l))
        + val_main_v4 (F := Ideal) x0 x1 (ix3 (n0 := 16) (n1 := 19) (n2 := 2048) b ⟨t.val + 2, by omega⟩ (chan j l)) * x3 (ix2 2 (chan j l))
        + val_main_v4 (F := Ideal) x0 x1 (ix3 (n0 := 16) (n1 := 19) (n2 := 2048) b ⟨t.val + 3, by omega⟩ (chan j l)) * x3 (ix2 3 (chan j l)) := by
    unfold val_main_v34 val_main_v33 val_main_v32 val_main_v31 val_main_v30 val_main_v29 val_main_v28 val_main_v27 val_main_v26 val_main_v25
      val_main_v24 val_main_v23 val_main_v22 val_main_v21 val_main_v20 val_main_v19 val_main_v18 val_main_v17 val_main_v16 val_main_v15
      val_main_v14 val_main_v13 val_main_v12 val_main_v11 val_main_v10 val_main_v9 val_main_v8 val_main_v7 val_main_v6 val_main_v5
    generalize val_main_v4 (F := Ideal) x0 x1 = y
    pointwise
    simp only [Nat.add_comm 1, Nat.add_comm 2, Nat.add_comm 3]
  rw [e, ref_inp, ref_inp, ref_inp, ref_inp]
  rfl

/-! ## The gates -/

theorem idx39 (t : Fin 16) : idx_main_v39 (ix3 b t (chan j l)) = ix4 (n0 := 16) (n1 := 16) (n2 := 16) (n3 := 128) b t j l := by
  funext a
  apply Fin.ext
  match a with
  | ⟨0, _⟩ => show ((b.val * 16 + t.val) * 2048 + (j.val * 128 + l.val)) / 32768 = b.val; omega
  | ⟨1, _⟩ => show ((b.val * 16 + t.val) * 2048 + (j.val * 128 + l.val)) / 2048 % 16 = t.val; omega
  | ⟨2, _⟩ => show ((b.val * 16 + t.val) * 2048 + (j.val * 128 + l.val)) / 128 % 16 = j.val; omega
  | ⟨3, _⟩ => show ((b.val * 16 + t.val) * 2048 + (j.val * 128 + l.val)) % 128 = l.val; omega

theorem idx36 (t : Fin 16) : idx_main_v36 (ix4 b t j l) = ix3 (n0 := 16) (n1 := 16) (n2 := 2048) b t (chan j l) := by
  funext a
  apply Fin.ext
  match a with
  | ⟨0, _⟩ => show (((b.val * 16 + t.val) * 16 + j.val) * 128 + l.val) / 32768 = b.val; omega
  | ⟨1, _⟩ => show (((b.val * 16 + t.val) * 16 + j.val) * 128 + l.val) / 2048 % 16 = t.val; omega
  | ⟨2, _⟩ => show (((b.val * 16 + t.val) * 16 + j.val) * 128 + l.val) % 2048 = j.val * 128 + l.val; omega

/-- The argument of a gate with weight `x5` and bias `x6`. -/
theorem ref_pre (t : Fin 16) : val_main_v42 (F := Ideal) x0 x1 x3 x4 x5 x6 (ix3 b t (chan j l))
    = gt (xIn x0 b) (histIn x1 b) (tapsIn x3) (vecIn x4) j x5 (vecIn x6) t.val l := by
  rw [val_main_v42_apply, val_main_v39_apply, idx39, val_main_v38_apply, val_main_v37_apply, val_main_v41_apply, val_main_v40_apply]
  unfold gt
  refine congrArg₂ (fun u v : EReal => u + v) (Finset.sum_congr rfl fun k _ => ?_) (congrArg x6 ?_)
  · rw [mul_comm, show ridx_main_v37 (idx_main_v38 (ix4 b t j l)) k = ix4 (n0 := 16) (n1 := 16) (n2 := 16) (n3 := 128) b t j k from
      funext fun a => match a with | ⟨0, _⟩ => rfl | ⟨1, _⟩ => rfl | ⟨2, _⟩ => rfl | ⟨3, _⟩ => rfl,
      show lidx_main_v37 (idx_main_v38 (ix4 b t j l)) k = ix3 (n0 := 16) (n1 := 128) (n2 := 128) j k l from
      funext fun a => match a with | ⟨0, _⟩ => rfl | ⟨1, _⟩ => rfl | ⟨2, _⟩ => rfl, val_main_v36_apply, idx36, ref_cv]
  · funext a
    match a with
    | ⟨0, _⟩ => rfl

/-- A gate with weight `x5` and bias `x6`. -/
theorem ref_gate (t : Fin 16) : val_main_v48 (F := Ideal) x0 x1 x3 x4 x5 x6 (ix3 b t (chan j l))
    = Ideal.logistic (gt (xIn x0 b) (histIn x1 b) (tapsIn x3) (vecIn x4) j x5 (vecIn x6) t.val l) := by
  rw [← ref_pre]
  unfold val_main_v48 val_main_v47 val_main_v46 val_main_v45 val_main_v44 val_main_v43 val_main_cst val_main_cst_0
  generalize val_main_v42 (F := Ideal) x0 x1 x3 x4 x5 x6 = y
  pointwise
  rfl

/-- The softplus of the parameter. -/
theorem ref_rate (p : Fin 2048) : val_main_v65 (F := Ideal) x9 (ix1 p) = rate (x9 (ix1 p)) := by
  unfold val_main_v65 val_main_call0_v11 val_main_call0_v10 val_main_call0_v9 val_main_call0_v8 val_main_call0_v7 val_main_call0_v6 val_main_call0_v5
    val_main_call0_v4 val_main_call0_v3 val_main_call0_v2 val_main_call0_v1 val_main_call0_v0 val_main_call0_cst val_main_v64 rate
  pointwise
  rw [if_neg (fun h => h rfl)]
  rfl

theorem ref_log (t : Fin 16) : val_main_v68 (F := Ideal) x0 x1 x3 x4 x5 x6 x9 (ix3 b t (chan j l))
    = logFac (gt (xIn x0 b) (histIn x1 b) (tapsIn x3) (vecIn x4) j x5 (vecIn x6) t.val l) (vecIn x9 (ix3 j 0 l)) := by
  rw [val_main_v68_apply, val_main_v63_apply, ref_gate, val_main_v67_apply, val_main_v66_apply, val_main_v62_apply, val_main_cst_3_apply,
    show idx_main_v66 (idx_main_v67 (ix3 b t (chan j l))) = ix1 (n0 := 2048) (chan j l) from funext fun a => match a with | ⟨0, _⟩ => rfl, ref_rate]
  rfl

theorem ref_fa (t : Fin 16) : val_main_v69 (F := Ideal) x0 x1 x3 x4 x5 x6 x9 (ix3 b t (chan j l))
    = fa (xIn x0 b) (histIn x1 b) (tapsIn x3) (vecIn x4) x5 (vecIn x6) (vecIn x9) j l t.val := by
  rw [val_main_v69_apply, ref_log]
  rfl

theorem ref_ic (t : Fin 16) : val_main_v76 (F := Ideal) x0 x1 x3 x4 x5 x6 x7 x8 x9 (ix3 b t (chan j l))
    = ic (xIn x0 b) (histIn x1 b) (tapsIn x3) (vecIn x4) x5 (vecIn x6) x7 (vecIn x8) (vecIn x9) j l t.val := by
  rw [val_main_v76_apply, val_main_v75_apply, val_main_v74_apply, val_main_v73_apply, val_main_v72_apply, val_main_v71_apply, val_main_v70_apply,
    val_main_cst_4_apply, ref_log, ref_cv, show val_main_v61 (F := Ideal) x0 x1 x3 x4 x7 x8 = val_main_v48 (F := Ideal) x0 x1 x3 x4 x7 x8 from rfl, ref_gate]
  unfold ic mult
  rw [← two]
  rfl

/-! ## The states -/

/-- The state before step `n` from the arguments: the slab's, of the batch row's inputs. -/
abbrev stIn (n : ℕ) : EReal :=
  st (xIn x0 b) (histIn x1 b) (stateIn x2 b) (tapsIn x3) (vecIn x4) x5 (vecIn x6) x7 (vecIn x8) (vecIn x9) j l n

/-- One step of the reference: a factor times the state, plus an increment. -/
theorem step (y : S16x2048.Idx → EReal) (n : ℕ) (hn : n < 16)
    (hs : RglruRefIdeal.S16x16x2048.Slices ![0, n, 0] RglruRefIdeal.S16x1x2048)
    (hc : Shape.ShapeCasts RglruRefIdeal.S16x1x2048 RglruRefIdeal.S16x2048)
    (h : y (ix2 b (chan j l)) = stIn x0 x1 x2 x3 x4 x5 x6 x7 x8 x9 b j l n) :
    addf (F := Ideal) (φ := .f32) (mulf (F := Ideal) (φ := .f32) (shapeCast RglruRefIdeal.S16x2048
        (extractStridedSlice RglruRefIdeal.S16x1x2048 ![0, n, 0] (val_main_v69 (F := Ideal) x0 x1 x3 x4 x5 x6 x9) hs) hc) y)
      (shapeCast RglruRefIdeal.S16x2048 (extractStridedSlice RglruRefIdeal.S16x1x2048 ![0, n, 0]
        (val_main_v76 (F := Ideal) x0 x1 x3 x4 x5 x6 x7 x8 x9) hs) hc) (ix2 b (chan j l))
      = stIn x0 x1 x2 x3 x4 x5 x6 x7 x8 x9 b j l (n + 1) := by
  have g : ∀ z : RglruRefIdeal.S16x16x2048.Idx → EReal,
      shapeCast RglruRefIdeal.S16x2048 (extractStridedSlice RglruRefIdeal.S16x1x2048 ![0, n, 0] z hs) hc (ix2 b (chan j l))
        = z (ix3 b ⟨n, hn⟩ (chan j l)) := fun z => by
    rw [shapeCast_apply _ hc (ix2 b (chan j l)) (ix3 (n0 := 16) (n1 := 1) (n2 := 2048) b 0 (chan j l))
      (by rw [Shape.rowMajor_val_two, Shape.rowMajor_val_three]; show (b.val * 1 + 0) * 2048 + (j.val * 128 + l.val) = b.val * 2048 + (j.val * 128 + l.val); omega)]
    exact extractStridedSlice_apply ![0, n, 0] z hs _ _ (fun a => match a with
      | ⟨0, _⟩ => (Nat.zero_add _).symm
      | ⟨1, _⟩ => rfl
      | ⟨2, _⟩ => (Nat.zero_add _).symm)
  show (_ * _ + _ : EReal) = _
  rw [g, g, h, ref_fa, ref_ic]
  rfl

/-- A stacked state, at its own step. -/
theorem piece (t : Fin 16) (y : S16x2048.Idx → EReal) (n : ℕ)
    (hb : RglruRefIdeal.S16x2048.BroadcastsInDim RglruRefIdeal.S16x1x2048 (![0, 2] : Fin 2 → Fin RglruRefIdeal.S16x1x2048.rank))
    (h : y (ix2 b (chan j l)) = stIn x0 x1 x2 x3 x4 x5 x6 x7 x8 x9 b j l (n + 1)) :
    PieceAt (t := RglruRefIdeal.S16x16x2048) 1 (ix3 b t (chan j l)) (stIn x0 x1 x2 x3 x4 x5 x6 x7 x8 x9 b j l (t.val + 1))
      RglruRefIdeal.S16x1x2048 (broadcastInDim RglruRefIdeal.S16x1x2048 ![0, 2] hb y) n := by
  intro ht hr i _ hi
  have ht : t.val = n := ht
  rw [broadcastInDim_apply _ hb y i (ix2 b (chan j l)) (fun a => match a with
    | ⟨0, _⟩ => (hi 0 (by decide)).symm.trans (if_neg (show ¬(16 : ℕ) = 1 by decide)).symm
    | ⟨1, _⟩ => (hi 2 (by decide)).symm.trans (if_neg (show ¬(2048 : ℕ) = 1 by decide)).symm), h, ht]

/-- The stacked states, and the last. -/
theorem ref_states (t : Fin 16) :
    val_main_v189 (F := Ideal) x0 x1 x2 x3 x4 x5 x6 x7 x8 x9 (ix3 b t (chan j l)) = stIn x0 x1 x2 x3 x4 x5 x6 x7 x8 x9 b j l (t.val + 1)
      ∧ val_main_v172 (F := Ideal) x0 x1 x2 x3 x4 x5 x6 x7 x8 x9 (ix2 b (chan j l)) = stIn x0 x1 x2 x3 x4 x5 x6 x7 x8 x9 b j l 16 := by
  have h0 : x2 (ix2 b (chan j l)) = stIn x0 x1 x2 x3 x4 x5 x6 x7 x8 x9 b j l 0 := rfl
  have h1 : val_main_v82 (F := Ideal) x0 x1 x2 x3 x4 x5 x6 x7 x8 x9 (ix2 b (chan j l)) = stIn x0 x1 x2 x3 x4 x5 x6 x7 x8 x9 b j l 1 := step x0 x1 x2 x3 x4 x5 x6 x7 x8 x9 b j l _ 0 (by decide) _ _ h0
  have h2 : val_main_v88 (F := Ideal) x0 x1 x2 x3 x4 x5 x6 x7 x8 x9 (ix2 b (chan j l)) = stIn x0 x1 x2 x3 x4 x5 x6 x7 x8 x9 b j l 2 := step x0 x1 x2 x3 x4 x5 x6 x7 x8 x9 b j l _ 1 (by decide) _ _ h1
  have h3 : val_main_v94 (F := Ideal) x0 x1 x2 x3 x4 x5 x6 x7 x8 x9 (ix2 b (chan j l)) = stIn x0 x1 x2 x3 x4 x5 x6 x7 x8 x9 b j l 3 := step x0 x1 x2 x3 x4 x5 x6 x7 x8 x9 b j l _ 2 (by decide) _ _ h2
  have h4 : val_main_v100 (F := Ideal) x0 x1 x2 x3 x4 x5 x6 x7 x8 x9 (ix2 b (chan j l)) = stIn x0 x1 x2 x3 x4 x5 x6 x7 x8 x9 b j l 4 := step x0 x1 x2 x3 x4 x5 x6 x7 x8 x9 b j l _ 3 (by decide) _ _ h3
  have h5 : val_main_v106 (F := Ideal) x0 x1 x2 x3 x4 x5 x6 x7 x8 x9 (ix2 b (chan j l)) = stIn x0 x1 x2 x3 x4 x5 x6 x7 x8 x9 b j l 5 := step x0 x1 x2 x3 x4 x5 x6 x7 x8 x9 b j l _ 4 (by decide) _ _ h4
  have h6 : val_main_v112 (F := Ideal) x0 x1 x2 x3 x4 x5 x6 x7 x8 x9 (ix2 b (chan j l)) = stIn x0 x1 x2 x3 x4 x5 x6 x7 x8 x9 b j l 6 := step x0 x1 x2 x3 x4 x5 x6 x7 x8 x9 b j l _ 5 (by decide) _ _ h5
  have h7 : val_main_v118 (F := Ideal) x0 x1 x2 x3 x4 x5 x6 x7 x8 x9 (ix2 b (chan j l)) = stIn x0 x1 x2 x3 x4 x5 x6 x7 x8 x9 b j l 7 := step x0 x1 x2 x3 x4 x5 x6 x7 x8 x9 b j l _ 6 (by decide) _ _ h6
  have h8 : val_main_v124 (F := Ideal) x0 x1 x2 x3 x4 x5 x6 x7 x8 x9 (ix2 b (chan j l)) = stIn x0 x1 x2 x3 x4 x5 x6 x7 x8 x9 b j l 8 := step x0 x1 x2 x3 x4 x5 x6 x7 x8 x9 b j l _ 7 (by decide) _ _ h7
  have h9 : val_main_v130 (F := Ideal) x0 x1 x2 x3 x4 x5 x6 x7 x8 x9 (ix2 b (chan j l)) = stIn x0 x1 x2 x3 x4 x5 x6 x7 x8 x9 b j l 9 := step x0 x1 x2 x3 x4 x5 x6 x7 x8 x9 b j l _ 8 (by decide) _ _ h8
  have h10 : val_main_v136 (F := Ideal) x0 x1 x2 x3 x4 x5 x6 x7 x8 x9 (ix2 b (chan j l)) = stIn x0 x1 x2 x3 x4 x5 x6 x7 x8 x9 b j l 10 := step x0 x1 x2 x3 x4 x5 x6 x7 x8 x9 b j l _ 9 (by decide) _ _ h9
  have h11 : val_main_v142 (F := Ideal) x0 x1 x2 x3 x4 x5 x6 x7 x8 x9 (ix2 b (chan j l)) = stIn x0 x1 x2 x3 x4 x5 x6 x7 x8 x9 b j l 11 := step x0 x1 x2 x3 x4 x5 x6 x7 x8 x9 b j l _ 10 (by decide) _ _ h10
  have h12 : val_main_v148 (F := Ideal) x0 x1 x2 x3 x4 x5 x6 x7 x8 x9 (ix2 b (chan j l)) = stIn x0 x1 x2 x3 x4 x5 x6 x7 x8 x9 b j l 12 := step x0 x1 x2 x3 x4 x5 x6 x7 x8 x9 b j l _ 11 (by decide) _ _ h11
  have h13 : val_main_v154 (F := Ideal) x0 x1 x2 x3 x4 x5 x6 x7 x8 x9 (ix2 b (chan j l)) = stIn x0 x1 x2 x3 x4 x5 x6 x7 x8 x9 b j l 13 := step x0 x1 x2 x3 x4 x5 x6 x7 x8 x9 b j l _ 12 (by decide) _ _ h12
  have h14 : val_main_v160 (F := Ideal) x0 x1 x2 x3 x4 x5 x6 x7 x8 x9 (ix2 b (chan j l)) = stIn x0 x1 x2 x3 x4 x5 x6 x7 x8 x9 b j l 14 := step x0 x1 x2 x3 x4 x5 x6 x7 x8 x9 b j l _ 13 (by decide) _ _ h13
  have h15 : val_main_v166 (F := Ideal) x0 x1 x2 x3 x4 x5 x6 x7 x8 x9 (ix2 b (chan j l)) = stIn x0 x1 x2 x3 x4 x5 x6 x7 x8 x9 b j l 15 := step x0 x1 x2 x3 x4 x5 x6 x7 x8 x9 b j l _ 14 (by decide) _ _ h14
  have h16 : val_main_v172 (F := Ideal) x0 x1 x2 x3 x4 x5 x6 x7 x8 x9 (ix2 b (chan j l)) = stIn x0 x1 x2 x3 x4 x5 x6 x7 x8 x9 b j l 16 := step x0 x1 x2 x3 x4 x5 x6 x7 x8 x9 b j l _ 15 (by decide) _ _ h15
  refine ⟨?_, h16⟩
  have hb : RglruRefIdeal.S16x2048.BroadcastsInDim RglruRefIdeal.S16x1x2048 (![0, 2] : Fin 2 → Fin RglruRefIdeal.S16x1x2048.rank) :=
    RglruRefIdeal.Gen.bcast_S16x2048_S16x1x2048_0_2
  unfold val_main_v189
  exact concatenate_unit_eq (t := RglruRefIdeal.S16x16x2048) 1 _ _ _ _ rfl
    ⟨piece x0 x1 x2 x3 x4 x5 x6 x7 x8 x9 b j l t _ 0 hb h1, piece x0 x1 x2 x3 x4 x5 x6 x7 x8 x9 b j l t _ 1 hb h2, piece x0 x1 x2 x3 x4 x5 x6 x7 x8 x9 b j l t _ 2 hb h3, piece x0 x1 x2 x3 x4 x5 x6 x7 x8 x9 b j l t _ 3 hb h4, piece x0 x1 x2 x3 x4 x5 x6 x7 x8 x9 b j l t _ 4 hb h5, piece x0 x1 x2 x3 x4 x5 x6 x7 x8 x9 b j l t _ 5 hb h6, piece x0 x1 x2 x3 x4 x5 x6 x7 x8 x9 b j l t _ 6 hb h7, piece x0 x1 x2 x3 x4 x5 x6 x7 x8 x9 b j l t _ 7 hb h8, piece x0 x1 x2 x3 x4 x5 x6 x7 x8 x9 b j l t _ 8 hb h9, piece x0 x1 x2 x3 x4 x5 x6 x7 x8 x9 b j l t _ 9 hb h10, piece x0 x1 x2 x3 x4 x5 x6 x7 x8 x9 b j l t _ 10 hb h11, piece x0 x1 x2 x3 x4 x5 x6 x7 x8 x9 b j l t _ 11 hb h12, piece x0 x1 x2 x3 x4 x5 x6 x7 x8 x9 b j l t _ 12 hb h13, piece x0 x1 x2 x3 x4 x5 x6 x7 x8 x9 b j l t _ 13 hb h14, piece x0 x1 x2 x3 x4 x5 x6 x7 x8 x9 b j l t _ 14 hb h15, piece x0 x1 x2 x3 x4 x5 x6 x7 x8 x9 b j l t _ 15 hb h16, trivial⟩

/-! ## The results -/

theorem ref_silu (t : Fin 16) : val_main_v190 (F := Ideal) x0 (ix3 b t (chan j l))
    = gIn x0 b (ix3 j t l) * Ideal.logistic (gIn x0 b (ix3 j t l)) := by
  rw [← ref_g]
  unfold val_main_v190 val_main_call1_v5 val_main_call1_v4 val_main_call1_v3 val_main_call1_v2 val_main_call1_v1 val_main_call1_v0 val_main_call1_cst
    val_main_call1_cst_0
  generalize val_main_v3 (F := Ideal) x0 = y
  pointwise
  rfl

/-- The layer's branch, slab by slab. -/
theorem ref_y (t : Fin 16) (r : Fin 256) (hr : r.val = b.val * 16 + t.val) :
    val_main_v194 (F := Ideal) x0 x1 x2 x3 x4 x5 x6 x7 x8 x9 (ix3 (n0 := 16) (n1 := 256) (n2 := 128) j r l)
      = stIn x0 x1 x2 x3 x4 x5 x6 x7 x8 x9 b j l (t.val + 1) * (gIn x0 b (ix3 j t l) * Ideal.logistic (gIn x0 b (ix3 j t l))) := by
  rw [val_main_v194_apply, val_main_v193_apply, val_main_v192_apply,
    show idx_main_v192 (idx_main_v193 (ix3 j r l)) = ix3 (n0 := 16) (n1 := 16) (n2 := 2048) b t (chan j l) from funext fun a => Fin.ext (match a with
      | ⟨0, _⟩ => by show ((r.val * 16 + j.val) * 128 + l.val) / 32768 = b.val; omega
      | ⟨1, _⟩ => by show ((r.val * 16 + j.val) * 128 + l.val) / 2048 % 16 = t.val; omega
      | ⟨2, _⟩ => by show ((r.val * 16 + j.val) * 128 + l.val) % 2048 = j.val * 128 + l.val; omega),
    val_main_v191_apply, (ref_states x0 x1 x2 x3 x4 x5 x6 x7 x8 x9 b j l t).1, ref_silu]
  rfl

/-- The new history: the last three inputs. -/
theorem ref_tail (r : Fin 3) : val_main_v196 (F := Ideal) x0 x1 (ix4 (n0 := 16) (n1 := 16) (n2 := 3) (n3 := 128) b j r l)
    = xIn x0 b (ix3 j ⟨13 + r.val, by omega⟩ l) := by
  rw [val_main_v196_apply, val_main_v195_apply, val_main_v35_apply,
    show idx_main_v35 (idx_main_v195 (idx_main_v196 (ix4 b j r l))) = ix3 (n0 := 16) (n1 := 19) (n2 := 2048) b ⟨16 + r.val, by omega⟩ (chan j l) from
      funext fun a => Fin.ext (match a with
      | ⟨0, _⟩ => by show (((b.val * 3 + r.val) * 16 + j.val) * 128 + l.val) / 6144 = b.val; omega
      | ⟨1, _⟩ => by show 16 + (((b.val * 3 + r.val) * 16 + j.val) * 128 + l.val) / 2048 % 3 = 16 + r.val; omega
      | ⟨2, _⟩ => by show (((b.val * 3 + r.val) * 16 + j.val) * 128 + l.val) % 2048 = j.val * 128 + l.val; omega), ref_inp]
  unfold inp
  rw [dif_neg (by omega), dif_pos (by omega)]
  exact congrArg (xIn x0 b) (congrArg (fun q => ix3 (n0 := 16) (n1 := 16) (n2 := 128) j q l) (Fin.ext (by show 16 + r.val - 3 = 13 + r.val; omega)))

/-- The new state. -/
theorem ref_last (z : Fin 1) : val_main_v197 (F := Ideal) x0 x1 x2 x3 x4 x5 x6 x7 x8 x9 (ix4 (n0 := 16) (n1 := 16) (n2 := 1) (n3 := 128) b j z l)
    = stIn x0 x1 x2 x3 x4 x5 x6 x7 x8 x9 b j l 16 := by
  rw [val_main_v197_apply, ← (ref_states x0 x1 x2 x3 x4 x5 x6 x7 x8 x9 b j l 0).2]
  congr 1
  funext a
  apply Fin.ext
  match a with
  | ⟨0, _⟩ => show (((b.val * 16 + j.val) * 1 + z.val) * 128 + l.val) / 2048 = b.val; omega
  | ⟨1, _⟩ => show (((b.val * 16 + j.val) * 1 + z.val) * 128 + l.val) % 2048 = j.val * 128 + l.val; omega

end Ref

end Cert.RglruIdeal.Block

end
-- ==== Proof.RglruValue.lean ====
/- The recurrence kernel's three result arrays are the reference's: batch row by batch row, the branch, the new history and the
   new state. -/
module

public import proofs.«01_k».proof.Proof.RglruFrame
public import proofs.«01_k».proof.Proof.RglruRef

@[expose] public section

set_option maxRecDepth 16384

noncomputable section

open Idealize.ShloMosaic Idealize.ShloMosaic.TcCoe Idealize.SL.Sem

namespace Cert.RglruIdeal.Block

open Cert.RglruIdeal Cert.RglruIdeal.Gen Cert.RglruIdeal.Hand

variable (m : (ℓ : Loc nD τ sig) → Buf (Elt Ideal) ℓ)

/-! ## The arrays the kernel reads -/

/-- The arguments, as functions of their indices. -/
abbrev aProj (c : Dev nD) : S128x256x128.Idx → EReal := m ((c : Thread nD τ).loc main_arg0)
abbrev aHist (c : Dev nD) : S16x3x2048.Idx → EReal := m ((c : Thread nD τ).loc main_arg1)
abbrev aState (c : Dev nD) : S16x2048.Idx → EReal := m ((c : Thread nD τ).loc main_arg2)
abbrev aTaps (c : Dev nD) : S4x2048.Idx → EReal := m ((c : Thread nD τ).loc main_arg3)
abbrev aBias (c : Dev nD) : S2048.Idx → EReal := m ((c : Thread nD τ).loc main_arg4)
abbrev aWa (c : Dev nD) : S16x128x128.Idx → EReal := m ((c : Thread nD τ).loc main_arg5)
abbrev aBa (c : Dev nD) : S2048.Idx → EReal := m ((c : Thread nD τ).loc main_arg6)
abbrev aWx (c : Dev nD) : S16x128x128.Idx → EReal := m ((c : Thread nD τ).loc main_arg7)
abbrev aBx (c : Dev nD) : S2048.Idx → EReal := m ((c : Thread nD τ).loc main_arg8)
abbrev aLam (c : Dev nD) : S2048.Idx → EReal := m ((c : Thread nD τ).loc main_arg9)

/-- A vector over the channels, laid out slab by slab. -/
theorem vec_apply (x : S2048.Idx → EReal) : shapeCast S16x1x128 x shapeCasts_S2048_S16x1x128 = vecIn x := by
  funext i
  exact shapeCast_apply _ _ i (ix1 (n0 := 2048) (chan (i 0) (i 2))) (by
    rw [Shape.rowMajor_val_one, Shape.rowMajor_val_three]
    have h : (i 1).val < 1 := (i 1).isLt
    show (i 0).val * 128 + (i 2).val = ((i 0).val * 1 + (i 1).val) * 128 + (i 2).val
    omega)

theorem V1 (c : Dev nD) (b : Fin 16) (i : S1x16x3x128.Idx) :
    (V m c main_v1 : S16x16x3x128.Idx → EReal) (ix4 (n0 := 16) (n1 := 16) (n2 := 3) (n3 := 128) b (i 1) (i 2) (i 3)) = histIn (aHist m c) b i := by
  have e : V m c main_v1 = transpose S16x16x3x128 [0, 2, 1, 3] (shapeCast S16x3x16x128 (aHist m c) shapeCasts_S16x3x2048_S16x3x16x128)
      transposes_S16x3x16x128_S16x16x3x128_0_2_1_3 := by
    unfold V hostOps0
    after_results <;> rfl
  rw [e]
  refine (transpose_apply [0, 2, 1, 3] _ _ (ix4 (n0 := 16) (n1 := 16) (n2 := 3) (n3 := 128) b (i 1) (i 2) (i 3)) (ix4 (n0 := 16) (n1 := 3) (n2 := 16) (n3 := 128) b (i 2) (i 1) (i 3)) (fun a => match a with
    | ⟨0, _⟩ => rfl | ⟨1, _⟩ => rfl | ⟨2, _⟩ => rfl | ⟨3, _⟩ => rfl)).trans ?_
  exact shapeCast_apply _ _ _ (ix3 (n0 := 16) (n1 := 3) (n2 := 2048) b (i 2) (chan (i 1) (i 3))) (by
    rw [Shape.rowMajor_val_three, Shape.rowMajor_val_four]
    show (b.val * 3 + (i 2).val) * 2048 + ((i 1).val * 128 + (i 3).val) = ((b.val * 3 + (i 2).val) * 16 + (i 1).val) * 128 + (i 3).val
    omega)

theorem V2 (c : Dev nD) (b : Fin 16) (i : S1x16x1x128.Idx) :
    (V m c main_v2 : S16x16x1x128.Idx → EReal) (ix4 (n0 := 16) (n1 := 16) (n2 := 1) (n3 := 128) b (i 1) (i 2) (i 3)) = stateIn (aState m c) b i := by
  have e : V m c main_v2 = shapeCast S16x16x1x128 (aState m c) shapeCasts_S16x2048_S16x16x1x128 := by
    unfold V hostOps0
    after_results <;> rfl
  rw [e]
  exact shapeCast_apply _ _ _ (ix2 (n0 := 16) (n1 := 2048) b (chan (i 1) (i 3))) (by
    rw [Shape.rowMajor_val_two, Shape.rowMajor_val_four]
    have h : (i 2).val < 1 := (i 2).isLt
    show b.val * 2048 + ((i 1).val * 128 + (i 3).val) = ((b.val * 16 + (i 1).val) * 1 + (i 2).val) * 128 + (i 3).val
    omega)

theorem V4 (c : Dev nD) : V m c main_v4 = tapsIn (aTaps m c) := by
  have e : V m c main_v4 = transpose S16x4x128 [1, 0, 2] (shapeCast S4x16x128 (aTaps m c) shapeCasts_S4x2048_S4x16x128)
      transposes_S4x16x128_S16x4x128_1_0_2 := by
    unfold V hostOps0
    after_results <;> rfl
  rw [e]
  funext i
  rw [transpose_apply [1, 0, 2] _ _ i (ix3 (n0 := 4) (n1 := 16) (n2 := 128) (i 1) (i 0) (i 2)) (fun a => match a with
    | ⟨0, _⟩ => rfl | ⟨1, _⟩ => rfl | ⟨2, _⟩ => rfl)]
  exact shapeCast_apply _ _ _ (ix2 (n0 := 4) (n1 := 2048) (i 1) (chan (i 0) (i 2))) (by
    rw [Shape.rowMajor_val_two, Shape.rowMajor_val_three]
    show (i 1).val * 2048 + ((i 0).val * 128 + (i 2).val) = ((i 1).val * 16 + (i 0).val) * 128 + (i 2).val
    omega)

theorem V5 (c : Dev nD) : V m c main_v5 = vecIn (aBias m c) := by
  rw [← vec_apply]
  unfold V hostOps0
  after_results <;> rfl
theorem V6 (c : Dev nD) : V m c main_v6 = aWa m c := by
  unfold V hostOps0
  after_results <;> rfl
theorem V7 (c : Dev nD) : V m c main_v7 = vecIn (aBa m c) := by
  rw [← vec_apply]
  unfold V hostOps0
  after_results <;> rfl
theorem V8 (c : Dev nD) : V m c main_v8 = aWx m c := by
  unfold V hostOps0
  after_results <;> rfl
theorem V9 (c : Dev nD) : V m c main_v9 = vecIn (aBx m c) := by
  rw [← vec_apply]
  unfold V hostOps0
  after_results <;> rfl
theorem V10 (c : Dev nD) : V m c main_v10 = vecIn (aLam m c) := by
  rw [← vec_apply]
  unfold V hostOps0
  after_results <;> rfl

/-- Which blocks a point reads and writes: its own batch row's slabs, history and state, the whole of each weight. -/
theorem pts : ∀ t : Fin cfg0.N, (win0_0.index t (0 : Fin 3) = 4 ∧ win0_0.index t (1 : Fin 3) = t.val ∧ win0_0.index t (2 : Fin 3) = 0)
    ∧ (win0_1.index t (0 : Fin 3) = 5 ∧ win0_1.index t (1 : Fin 3) = t.val ∧ win0_1.index t (2 : Fin 3) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 3) = 0 ∧ win0_8.index t (1 : Fin 3) = 0 ∧ win0_8.index t (2 : Fin 3) = 0)
    ∧ (win0_9.index t (0 : Fin 3) = 0 ∧ win0_9.index t (1 : Fin 3) = 0 ∧ win0_9.index t (2 : Fin 3) = 0)
    ∧ (win0_10.index t (0 : Fin 3) = 0 ∧ win0_10.index t (1 : Fin 3) = 0 ∧ win0_10.index t (2 : Fin 3) = 0)
    ∧ (win0_11.index t (0 : Fin 3) = 0 ∧ win0_11.index t (1 : Fin 3) = t.val ∧ win0_11.index t (2 : Fin 3) = 0)
    ∧ (win0_12.index t (0 : Fin 4) = t.val ∧ win0_12.index t (1 : Fin 4) = 0 ∧ win0_12.index t (2 : Fin 4) = 0 ∧ win0_12.index t (3 : Fin 4) = 0)
    ∧ (win0_13.index t (0 : Fin 4) = t.val ∧ win0_13.index t (1 : Fin 4) = 0 ∧ win0_13.index t (2 : Fin 4) = 0 ∧ win0_13.index t (3 : Fin 4) = 0) :=
  (by decide +kernel : ∀ t : Fin grid0.N, _)

/-- The batch row a point takes. -/
abbrev bat (t : Fin cfg0.N) : Fin 16 := ⟨t.val, lt_of_lt_of_eq t.isLt (show cfg0.N = 16 from N_0)⟩

theorem blk0 (c : Dev nD) (t : Fin cfg0.N) : (iblk m c 0 t : S16x16x128.Idx → EReal) = xIn (aProj m c) (bat t) := by
  obtain ⟨⟨e0, e1, e2⟩, -⟩ := pts t
  funext j
  unfold iblk
  rw [View.read_apply]
  show V m c main_arg0 _ = _
  rw [V_main_arg0]
  unfold xIn slabsIn
  show aProj m c _ = aProj m c _
  congr 1
  funext a
  apply Fin.ext
  match a with
  | ⟨0, _⟩ => show win0_0.index t 0 * 16 + 1 * (j 0).val = 64 + (j 0).val; rw [e0]; omega
  | ⟨1, _⟩ => show win0_0.index t 1 * 16 + 1 * (j 1).val = t.val * 16 + (j 1).val; rw [e1]; omega
  | ⟨2, _⟩ => show win0_0.index t 2 * 128 + 1 * (j 2).val = (j 2).val; rw [e2]; omega

theorem blk1 (c : Dev nD) (t : Fin cfg0.N) : (iblk m c 1 t : S16x16x128.Idx → EReal) = gIn (aProj m c) (bat t) := by
  obtain ⟨-, ⟨e0, e1, e2⟩, -⟩ := pts t
  funext j
  unfold iblk
  rw [View.read_apply]
  show V m c main_arg0 _ = _
  rw [V_main_arg0]
  unfold gIn slabsIn
  show aProj m c _ = aProj m c _
  congr 1
  funext a
  apply Fin.ext
  match a with
  | ⟨0, _⟩ => show win0_1.index t 0 * 16 + 1 * (j 0).val = 80 + (j 0).val; rw [e0]; omega
  | ⟨1, _⟩ => show win0_1.index t 1 * 16 + 1 * (j 1).val = t.val * 16 + (j 1).val; rw [e1]; omega
  | ⟨2, _⟩ => show win0_1.index t 2 * 128 + 1 * (j 2).val = (j 2).val; rw [e2]; omega

theorem blk2 (c : Dev nD) (t : Fin cfg0.N) : (iblk m c 2 t : S1x16x3x128.Idx → EReal) = histIn (aHist m c) (bat t) := by
  obtain ⟨-, -, ⟨e0, e1, e2, e3⟩, -⟩ := pts t
  funext j
  refine Eq.trans ?_ (V1 m c (bat t) j)
  unfold iblk
  rw [View.read_apply]
  show V m c main_v1 _ = V m c main_v1 _
  congr 1
  funext a
  apply Fin.ext
  match a with
  | ⟨0, _⟩ => show win0_2.index t 0 * 1 + 1 * (j 0).val = t.val; rw [e0]; have h : (j 0).val < 1 := (j 0).isLt; omega
  | ⟨1, _⟩ => show win0_2.index t 1 * 16 + 1 * (j 1).val = (j 1).val; rw [e1]; omega
  | ⟨2, _⟩ => show win0_2.index t 2 * 3 + 1 * (j 2).val = (j 2).val; rw [e2]; omega
  | ⟨3, _⟩ => show win0_2.index t 3 * 128 + 1 * (j 3).val = (j 3).val; rw [e3]; omega

theorem blk3 (c : Dev nD) (t : Fin cfg0.N) : (iblk m c 3 t : S1x16x1x128.Idx → EReal) = stateIn (aState m c) (bat t) := by
  obtain ⟨-, -, -, ⟨e0, e1, e2, e3⟩, -⟩ := pts t
  funext j
  refine Eq.trans ?_ (V2 m c (bat t) j)
  unfold iblk
  rw [View.read_apply]
  show V m c main_v2 _ = V m c main_v2 _
  congr 1
  funext a
  apply Fin.ext
  match a with
  | ⟨0, _⟩ => show win0_3.index t 0 * 1 + 1 * (j 0).val = t.val; rw [e0]; have h : (j 0).val < 1 := (j 0).isLt; omega
  | ⟨1, _⟩ => show win0_3.index t 1 * 16 + 1 * (j 1).val = (j 1).val; rw [e1]; omega
  | ⟨2, _⟩ => show win0_3.index t 2 * 1 + 1 * (j 2).val = (j 2).val; rw [e2]; omega
  | ⟨3, _⟩ => show win0_3.index t 3 * 128 + 1 * (j 3).val = (j 3).val; rw [e3]; omega

theorem blk4 (c : Dev nD) (t : Fin cfg0.N) : (iblk m c 4 t : S16x4x128.Idx → EReal) = tapsIn (aTaps m c) := by
  obtain ⟨-, -, -, -, ⟨e0, e1, e2⟩, -⟩ := pts t
  refine Eq.trans ?_ (V4 m c)
  funext j
  unfold iblk
  rw [View.read_apply]
  show V m c main_v4 _ = V m c main_v4 _
  congr 1
  funext a
  apply Fin.ext
  match a with
  | ⟨0, _⟩ => show win0_4.index t 0 * 16 + 1 * (j 0).val = (j 0).val; rw [e0]; omega
  | ⟨1, _⟩ => show win0_4.index t 1 * 4 + 1 * (j 1).val = (j 1).val; rw [e1]; omega
  | ⟨2, _⟩ => show win0_4.index t 2 * 128 + 1 * (j 2).val = (j 2).val; rw [e2]; omega

theorem blk5 (c : Dev nD) (t : Fin cfg0.N) : (iblk m c 5 t : S16x1x128.Idx → EReal) = vecIn (aBias m c) := by
  obtain ⟨-, -, -, -, -, ⟨e0, e1, e2⟩, -⟩ := pts t
  refine Eq.trans ?_ (V5 m c)
  funext j
  unfold iblk
  rw [View.read_apply]
  show V m c main_v5 _ = V m c main_v5 _
  congr 1
  funext a
  apply Fin.ext
  match a with
  | ⟨0, _⟩ => show win0_5.index t 0 * 16 + 1 * (j 0).val = (j 0).val; rw [e0]; omega
  | ⟨1, _⟩ => show win0_5.index t 1 * 1 + 1 * (j 1).val = (j 1).val; rw [e1]; omega
  | ⟨2, _⟩ => show win0_5.index t 2 * 128 + 1 * (j 2).val = (j 2).val; rw [e2]; omega

theorem blk6 (c : Dev nD) (t : Fin cfg0.N) : (iblk m c 6 t : S16x128x128.Idx → EReal) = aWa m c := by
  obtain ⟨-, -, -, -, -, -, ⟨e0, e1, e2⟩, -⟩ := pts t
  refine Eq.trans ?_ (V6 m c)
  funext j
  unfold iblk
  rw [View.read_apply]
  show V m c main_v6 _ = V m c main_v6 _
  congr 1
  funext a
  apply Fin.ext
  match a with
  | ⟨0, _⟩ => show win0_6.index t 0 * 16 + 1 * (j 0).val = (j 0).val; rw [e0]; omega
  | ⟨1, _⟩ => show win0_6.index t 1 * 128 + 1 * (j 1).val = (j 1).val; rw [e1]; omega
  | ⟨2, _⟩ => show win0_6.index t 2 * 128 + 1 * (j 2).val = (j 2).val; rw [e2]; omega

theorem blk7 (c : Dev nD) (t : Fin cfg0.N) : (iblk m c 7 t : S16x1x128.Idx → EReal) = vecIn (aBa m c) := by
  obtain ⟨-, -, -, -, -, -, -, ⟨e0, e1, e2⟩, -⟩ := pts t
  refine Eq.trans ?_ (V7 m c)
  funext j
  unfold iblk
  rw [View.read_apply]
  show V m c main_v7 _ = V m c main_v7 _
  congr 1
  funext a
  apply Fin.ext
  match a with
  | ⟨0, _⟩ => show win0_7.index t 0 * 16 + 1 * (j 0).val = (j 0).val; rw [e0]; omega
  | ⟨1, _⟩ => show win0_7.index t 1 * 1 + 1 * (j 1).val = (j 1).val; rw [e1]; omega
  | ⟨2, _⟩ => show win0_7.index t 2 * 128 + 1 * (j 2).val = (j 2).val; rw [e2]; omega

theorem blk8 (c : Dev nD) (t : Fin cfg0.N) : (iblk m c 8 t : S16x128x128.Idx → EReal) = aWx m c := by
  obtain ⟨-, -, -, -, -, -, -, -, ⟨e0, e1, e2⟩, -⟩ := pts t
  refine Eq.trans ?_ (V8 m c)
  funext j
  unfold iblk
  rw [View.read_apply]
  show V m c main_v8 _ = V m c main_v8 _
  congr 1
  funext a
  apply Fin.ext
  match a with
  | ⟨0, _⟩ => show win0_8.index t 0 * 16 + 1 * (j 0).val = (j 0).val; rw [e0]; omega
  | ⟨1, _⟩ => show win0_8.index t 1 * 128 + 1 * (j 1).val = (j 1).val; rw [e1]; omega
  | ⟨2, _⟩ => show win0_8.index t 2 * 128 + 1 * (j 2).val = (j 2).val; rw [e2]; omega

theorem blk9 (c : Dev nD) (t : Fin cfg0.N) : (iblk m c 9 t : S16x1x128.Idx → EReal) = vecIn (aBx m c) := by
  obtain ⟨-, -, -, -, -, -, -, -, -, ⟨e0, e1, e2⟩, -⟩ := pts t
  refine Eq.trans ?_ (V9 m c)
  funext j
  unfold iblk
  rw [View.read_apply]
  show V m c main_v9 _ = V m c main_v9 _
  congr 1
  funext a
  apply Fin.ext
  match a with
  | ⟨0, _⟩ => show win0_9.index t 0 * 16 + 1 * (j 0).val = (j 0).val; rw [e0]; omega
  | ⟨1, _⟩ => show win0_9.index t 1 * 1 + 1 * (j 1).val = (j 1).val; rw [e1]; omega
  | ⟨2, _⟩ => show win0_9.index t 2 * 128 + 1 * (j 2).val = (j 2).val; rw [e2]; omega

theorem blk10 (c : Dev nD) (t : Fin cfg0.N) : (iblk m c 10 t : S16x1x128.Idx → EReal) = vecIn (aLam m c) := by
  obtain ⟨-, -, -, -, -, -, -, -, -, -, ⟨e0, e1, e2⟩, -⟩ := pts t
  refine Eq.trans ?_ (V10 m c)
  funext j
  unfold iblk
  rw [View.read_apply]
  show V m c main_v10 _ = V m c main_v10 _
  congr 1
  funext a
  apply Fin.ext
  match a with
  | ⟨0, _⟩ => show win0_10.index t 0 * 16 + 1 * (j 0).val = (j 0).val; rw [e0]; omega
  | ⟨1, _⟩ => show win0_10.index t 1 * 1 + 1 * (j 1).val = (j 1).val; rw [e1]; omega
  | ⟨2, _⟩ => show win0_10.index t 2 * 128 + 1 * (j 2).val = (j 2).val; rw [e2]; omega

/-! ## The result arrays -/

/-- The branch: the reference's. -/
abbrev GY (c : Dev nD) : S16x256x128.Idx → EReal := Cert.RglruRefIdeal.Read.val_main_v194 (F := Ideal) (aProj m c) (aHist m c) (aState m c) (aTaps m c)
  (aBias m c) (aWa m c) (aBa m c) (aWx m c) (aBx m c) (aLam m c)

/-- The new history: the reference's. -/
abbrev GH (c : Dev nD) : S16x16x3x128.Idx → EReal := Cert.RglruRefIdeal.Read.val_main_v196 (F := Ideal) (aProj m c) (aHist m c)

/-- The new state: the reference's. -/
abbrev GS (c : Dev nD) : S16x16x1x128.Idx → EReal := Cert.RglruRefIdeal.Read.val_main_v197 (F := Ideal) (aProj m c) (aHist m c) (aState m c) (aTaps m c)
  (aBias m c) (aWa m c) (aBa m c) (aWx m c) (aBx m c) (aLam m c)

/-- What point `t` writes back of the branch is the reference's on the point's rows. -/
theorem flushed_Y (c : Dev nD) (t : Fin cfg0.N) :
    (dats m 0 c).flushed 11 t = ((cfg0.win 11).blk t).view.read (Elt Ideal) (GY m c) := by
  obtain ⟨-, -, -, -, -, -, -, -, -, -, -, ⟨e0, e1, e2⟩, -⟩ := pts t
  show (cfg0.win 11).cut (grid0.coords t) ((dats m 0 c).after 11 t) = _
  rw [after0_11]
  refine funext fun i : S16x16x128.Idx => ?_
  obtain ⟨j, r, l, rfl⟩ : ∃ j r l, i = ix3 (n0 := 16) (n1 := 16) (n2 := 128) j r l := ⟨_, _, _, eq_ix3 i⟩
  have hr : ((cfg0.win 11).blk t).view.read (Elt Ideal) (GY m c) (ix3 j r l)
      = GY m c (ix3 (n0 := 16) (n1 := 256) (n2 := 128) j ⟨(bat t).val * 16 + r.val, by omega⟩ l) := by
    rw [View.read_apply]
    show GY m c _ = GY m c _
    congr 1
    funext a
    apply Fin.ext
    match a with
    | ⟨0, _⟩ => show win0_11.index t 0 * 16 + 1 * j.val = j.val; rw [e0]; omega
    | ⟨1, _⟩ => show win0_11.index t 1 * 16 + 1 * r.val = t.val * 16 + r.val; rw [e1]; omega
    | ⟨2, _⟩ => show win0_11.index t 2 * 128 + 1 * l.val = l.val; rw [e2]; omega
  refine Eq.trans ?_ hr.symm
  refine Eq.trans ?_ (ref_y (aProj m c) (aHist m c) (aState m c) (aTaps m c) (aBias m c) (aWa m c) (aBa m c) (aWx m c) (aBx m c) (aLam m c) (bat t) j l r _ rfl).symm
  refine (resY_apply _ _ _ _ _ _ _ _ _ _ _ j r l).trans ?_
  rw [blk0, blk1, blk2, blk3, blk4, blk5, blk6, blk7, blk8, blk9, blk10]

/-- What point `t` writes back of the history is the reference's on the point's batch row. -/
theorem flushed_H (c : Dev nD) (t : Fin cfg0.N) :
    (dats m 0 c).flushed 12 t = ((cfg0.win 12).blk t).view.read (Elt Ideal) (GH m c) := by
  obtain ⟨-, -, -, -, -, -, -, -, -, -, -, -, ⟨e0, e1, e2, e3⟩, -⟩ := pts t
  show (cfg0.win 12).cut (grid0.coords t) ((dats m 0 c).after 12 t) = _
  rw [after0_12]
  refine funext fun i : S1x16x3x128.Idx => ?_
  obtain ⟨z, j, r, l, rfl⟩ : ∃ z j r l, i = ix4 (n0 := 1) (n1 := 16) (n2 := 3) (n3 := 128) z j r l := ⟨_, _, _, _, eq_ix4 i⟩
  obtain rfl : z = 0 := Subsingleton.elim _ _
  have hr : ((cfg0.win 12).blk t).view.read (Elt Ideal) (GH m c) (ix4 0 j r l)
      = GH m c (ix4 (n0 := 16) (n1 := 16) (n2 := 3) (n3 := 128) (bat t) j r l) := by
    rw [View.read_apply]
    show GH m c _ = GH m c _
    congr 1
    funext a
    apply Fin.ext
    match a with
    | ⟨0, _⟩ => show win0_12.index t 0 * 1 + 1 * 0 = t.val; rw [e0]; omega
    | ⟨1, _⟩ => show win0_12.index t 1 * 16 + 1 * j.val = j.val; rw [e1]; omega
    | ⟨2, _⟩ => show win0_12.index t 2 * 3 + 1 * r.val = r.val; rw [e2]; omega
    | ⟨3, _⟩ => show win0_12.index t 3 * 128 + 1 * l.val = l.val; rw [e3]; omega
  refine Eq.trans ?_ hr.symm
  refine Eq.trans ?_ (ref_tail (aProj m c) (aHist m c) (bat t) j l r).symm
  refine (resTail_apply _ j r l).trans ?_
  rw [blk0]

/-- What point `t` writes back of the state is the reference's on the point's batch row. -/
theorem flushed_S (c : Dev nD) (t : Fin cfg0.N) :
    (dats m 0 c).flushed 13 t = ((cfg0.win 13).blk t).view.read (Elt Ideal) (GS m c) := by
  obtain ⟨-, -, -, -, -, -, -, -, -, -, -, -, -, ⟨e0, e1, e2, e3⟩⟩ := pts t
  show (cfg0.win 13).cut (grid0.coords t) ((dats m 0 c).after 13 t) = _
  rw [after0_13]
  refine funext fun i : S1x16x1x128.Idx => ?_
  obtain ⟨z, j, y, l, rfl⟩ : ∃ z j y l, i = ix4 (n0 := 1) (n1 := 16) (n2 := 1) (n3 := 128) z j y l := ⟨_, _, _, _, eq_ix4 i⟩
  obtain rfl : z = 0 := Subsingleton.elim _ _
  obtain rfl : y = 0 := Subsingleton.elim _ _
  have hr : ((cfg0.win 13).blk t).view.read (Elt Ideal) (GS m c) (ix4 0 j 0 l)
      = GS m c (ix4 (n0 := 16) (n1 := 16) (n2 := 1) (n3 := 128) (bat t) j 0 l) := by
    rw [View.read_apply]
    show GS m c _ = GS m c _
    congr 1
    funext a
    apply Fin.ext
    match a with
    | ⟨0, _⟩ => show win0_13.index t 0 * 1 + 1 * 0 = t.val; rw [e0]; omega
    | ⟨1, _⟩ => show win0_13.index t 1 * 16 + 1 * j.val = j.val; rw [e1]; omega
    | ⟨2, _⟩ => show win0_13.index t 2 * 1 + 1 * 0 = 0; rw [e2]
    | ⟨3, _⟩ => show win0_13.index t 3 * 128 + 1 * l.val = l.val; rw [e3]; omega
  refine Eq.trans ?_ hr.symm
  refine Eq.trans ?_ (ref_last (aProj m c) (aHist m c) (aState m c) (aTaps m c) (aBias m c) (aWa m c) (aBa m c) (aWx m c) (aBx m c) (aLam m c) (bat t) j l 0).symm
  refine (resLast_apply _ _ _ _ _ _ _ _ _ _ j l).trans ?_
  rw [blk0, blk2, blk3, blk4, blk5, blk6, blk7, blk8, blk9, blk10]

/-- The points' rows tile the branch. -/
theorem cover_Y (i : S16x256x128.Idx) : ∃ t : Fin cfg0.N, (cfg0.win 11).flush t = true ∧ i ∈ ((cfg0.win 11).blk t).view.set := by
  have h0 : (i 0).val < 16 := (i 0).isLt
  have h1 : (i 1).val < 256 := (i 1).isLt
  have h2 : (i 2).val < 128 := (i 2).isLt
  have hN : cfg0.N = 16 := N_0
  have ht : (i 1).val / 16 < cfg0.N := by omega
  obtain ⟨-, -, -, -, -, -, -, -, -, -, -, ⟨e0, e1, e2⟩, -⟩ := pts ⟨(i 1).val / 16, ht⟩
  refine ⟨⟨(i 1).val / 16, ht⟩, flush0_11 _, ?_⟩
  rw [show ((cfg0.win 11).blk ⟨(i 1).val / 16, ht⟩).view.set = _ from View.set_slice_whole .., Rect.mem_set_unit]
  intro a
  match a with
  | ⟨0, _⟩ =>
    show win0_11.index ⟨(i 1).val / 16, ht⟩ 0 * 16 ≤ (i 0).val ∧ (i 0).val < win0_11.index ⟨(i 1).val / 16, ht⟩ 0 * 16 + 16
    rw [e0]; omega
  | ⟨1, _⟩ =>
    show win0_11.index ⟨(i 1).val / 16, ht⟩ 1 * 16 ≤ (i 1).val ∧ (i 1).val < win0_11.index ⟨(i 1).val / 16, ht⟩ 1 * 16 + 16
    rw [e1]; dsimp only; omega
  | ⟨2, _⟩ =>
    show win0_11.index ⟨(i 1).val / 16, ht⟩ 2 * 128 ≤ (i 2).val ∧ (i 2).val < win0_11.index ⟨(i 1).val / 16, ht⟩ 2 * 128 + 128
    rw [e2]; omega

/-- The points' batch rows tile the history. -/
theorem cover_H (i : S16x16x3x128.Idx) : ∃ t : Fin cfg0.N, (cfg0.win 12).flush t = true ∧ i ∈ ((cfg0.win 12).blk t).view.set := by
  have h1 : (i 1).val < 16 := (i 1).isLt
  have h2 : (i 2).val < 3 := (i 2).isLt
  have h3 : (i 3).val < 128 := (i 3).isLt
  have ht : (i 0).val < cfg0.N := lt_of_lt_of_eq (show (i 0).val < 16 from (i 0).isLt) (show 16 = cfg0.N from N_0.symm)
  obtain ⟨-, -, -, -, -, -, -, -, -, -, -, -, ⟨e0, e1, e2, e3⟩, -⟩ := pts ⟨(i 0).val, ht⟩
  refine ⟨⟨(i 0).val, ht⟩, flush0_12 _, ?_⟩
  rw [show ((cfg0.win 12).blk ⟨(i 0).val, ht⟩).view.set = _ from View.set_slice_whole .., Rect.mem_set_unit]
  intro a
  match a with
  | ⟨0, _⟩ =>
    show win0_12.index ⟨(i 0).val, ht⟩ 0 * 1 ≤ (i 0).val ∧ (i 0).val < win0_12.index ⟨(i 0).val, ht⟩ 0 * 1 + 1
    rw [e0]; dsimp only; omega
  | ⟨1, _⟩ =>
    show win0_12.index ⟨(i 0).val, ht⟩ 1 * 16 ≤ (i 1).val ∧ (i 1).val < win0_12.index ⟨(i 0).val, ht⟩ 1 * 16 + 16
    rw [e1]; omega
  | ⟨2, _⟩ =>
    show win0_12.index ⟨(i 0).val, ht⟩ 2 * 3 ≤ (i 2).val ∧ (i 2).val < win0_12.index ⟨(i 0).val, ht⟩ 2 * 3 + 3
    rw [e2]; omega
  | ⟨3, _⟩ =>
    show win0_12.index ⟨(i 0).val, ht⟩ 3 * 128 ≤ (i 3).val ∧ (i 3).val < win0_12.index ⟨(i 0).val, ht⟩ 3 * 128 + 128
    rw [e3]; omega

/-- The points' batch rows tile the state. -/
theorem cover_S (i : S16x16x1x128.Idx) : ∃ t : Fin cfg0.N, (cfg0.win 13).flush t = true ∧ i ∈ ((cfg0.win 13).blk t).view.set := by
  have h1 : (i 1).val < 16 := (i 1).isLt
  have h2 : (i 2).val < 1 := (i 2).isLt
  have h3 : (i 3).val < 128 := (i 3).isLt
  have ht : (i 0).val < cfg0.N := lt_of_lt_of_eq (show (i 0).val < 16 from (i 0).isLt) (show 16 = cfg0.N from N_0.symm)
  obtain ⟨-, -, -, -, -, -, -, -, -, -, -, -, -, ⟨e0, e1, e2, e3⟩⟩ := pts ⟨(i 0).val, ht⟩
  refine ⟨⟨(i 0).val, ht⟩, flush0_13 _, ?_⟩
  rw [show ((cfg0.win 13).blk ⟨(i 0).val, ht⟩).view.set = _ from View.set_slice_whole .., Rect.mem_set_unit]
  intro a
  match a with
  | ⟨0, _⟩ =>
    show win0_13.index ⟨(i 0).val, ht⟩ 0 * 1 ≤ (i 0).val ∧ (i 0).val < win0_13.index ⟨(i 0).val, ht⟩ 0 * 1 + 1
    rw [e0]; dsimp only; omega
  | ⟨1, _⟩ =>
    show win0_13.index ⟨(i 0).val, ht⟩ 1 * 16 ≤ (i 1).val ∧ (i 1).val < win0_13.index ⟨(i 0).val, ht⟩ 1 * 16 + 16
    rw [e1]; omega
  | ⟨2, _⟩ =>
    show win0_13.index ⟨(i 0).val, ht⟩ 2 * 1 ≤ (i 2).val ∧ (i 2).val < win0_13.index ⟨(i 0).val, ht⟩ 2 * 1 + 1
    rw [e2]; omega
  | ⟨3, _⟩ =>
    show win0_13.index ⟨(i 0).val, ht⟩ 3 * 128 ≤ (i 3).val ∧ (i 3).val < win0_13.index ⟨(i 0).val, ht⟩ 3 * 128 + 128
    rw [e3]; omega

/-- The kernel's branch is the reference's. -/
theorem final_Y (c : Dev nD) : (dats m 0 c).arrAt 11 cfg0.N = GY m c :=
  (dats m 0 c).arrAt_eq_of_cover 11 (GY m c) (fun t _ => flushed_Y m c t) cover_Y

/-- The kernel's new history is the reference's. -/
theorem final_H (c : Dev nD) : (dats m 0 c).arrAt 12 cfg0.N = GH m c :=
  (dats m 0 c).arrAt_eq_of_cover 12 (GH m c) (fun t _ => flushed_H m c t) cover_H

/-- The kernel's new state is the reference's. -/
theorem final_S (c : Dev nD) : (dats m 0 c).arrAt 13 cfg0.N = GS m c :=
  (dats m 0 c).arrAt_eq_of_cover 13 (GS m c) (fun t _ => flushed_S m c t) cover_S

end Cert.RglruIdeal.Block

end
-- ==== Proof.RglruClaim.lean ====
/- The claims of the recurrence: its results are the reference's, and the reference runs and keeps its arguments. -/
module

public import proofs.«01_k».proof.Defs
public import proofs.«01_k».proof.Proof.RglruValue
public import proofs.«01_k».proof.Proof.Gen.RglruRefIdeal.Run

@[expose] public section

noncomputable section

open Idealize.ShloMosaic Idealize.ShloMosaic.TcCoe Idealize.SL.Sem

namespace Cert.Proof.Rglru

/-- The reference runs, keeps its arguments and ends with no semaphore counter raised: it is host operations alone. -/
theorem frame_ref : Cert.quiescent_RglruRefIdeal := fun m ρ _ =>
  (θ_run Cert.RglruRefIdeal.defs _ _).mono (fun r h => ⟨fun c => (h c).2.2.2, sem_eq_zero_of_no_sems (by decide) r.2⟩)
    (Cert.RglruRefIdeal.Value.run (F := Ideal) m ρ)

/-- The reference's three results depend on nothing but the arguments. -/
theorem res_congr {x0 y0 : (⟨Cert.RglruRefIdeal.S128x256x128, .f32⟩ : BufTy).Contents (Elt Ideal)} {x1 y1 : (⟨Cert.RglruRefIdeal.S16x3x2048, .f32⟩ : BufTy).Contents (Elt Ideal)}
    {x2 y2 : (⟨Cert.RglruRefIdeal.S16x2048, .f32⟩ : BufTy).Contents (Elt Ideal)} {x3 y3 : (⟨Cert.RglruRefIdeal.S4x2048, .f32⟩ : BufTy).Contents (Elt Ideal)}
    {x4 y4 x6 y6 x8 y8 x9 y9 : (⟨Cert.RglruRefIdeal.S2048, .f32⟩ : BufTy).Contents (Elt Ideal)}
    {x5 y5 x7 y7 : (⟨Cert.RglruRefIdeal.S16x128x128, .f32⟩ : BufTy).Contents (Elt Ideal)}
    (h : y0 = x0 ∧ y1 = x1 ∧ y2 = x2 ∧ y3 = x3 ∧ y4 = x4 ∧ y5 = x5 ∧ y6 = x6 ∧ y7 = x7 ∧ y8 = x8 ∧ y9 = x9) :
    Cert.RglruRefIdeal.Read.val_main_v194 (F := Ideal) y0 y1 y2 y3 y4 y5 y6 y7 y8 y9 = Cert.RglruRefIdeal.Read.val_main_v194 (F := Ideal) x0 x1 x2 x3 x4 x5 x6 x7 x8 x9
      ∧ Cert.RglruRefIdeal.Read.val_main_v196 (F := Ideal) y0 y1 = Cert.RglruRefIdeal.Read.val_main_v196 (F := Ideal) x0 x1
      ∧ Cert.RglruRefIdeal.Read.val_main_v197 (F := Ideal) y0 y1 y2 y3 y4 y5 y6 y7 y8 y9 = Cert.RglruRefIdeal.Read.val_main_v197 (F := Ideal) x0 x1 x2 x3 x4 x5 x6 x7 x8 x9 := by
  obtain ⟨rfl, rfl, rfl, rfl, rfl, rfl, rfl, rfl, rfl, rfl⟩ := h
  exact ⟨rfl, rfl, rfl⟩

/-- Over the extended reals the call's three results are the reference's: for every batch row the gated states, the last three
    inputs of the convolution, and the state after the last token. -/
theorem algebraic : Cert.algebraic_RglruIdeal_RglruRefIdeal := fun m ρ m' ρ' _ hag =>
  ⟨fun c => Cert.RglruIdeal.Block.GY m c, fun c => Cert.RglruIdeal.Block.GH m c, fun c => Cert.RglruIdeal.Block.GS m c,
    (θ_run _ _ _).mono (fun _ h c => ⟨((h.1 c).1 11).trans (Cert.RglruIdeal.Block.final_Y m c), ((h.1 c).1 12).trans (Cert.RglruIdeal.Block.final_H m c),
      ((h.1 c).1 13).trans (Cert.RglruIdeal.Block.final_S m c), h.2 c⟩)
      (θ_run_and (Cert.RglruIdeal.Hand.run_main (F := Ideal) m ρ) (Cert.RglruIdeal.Hand.unchanged (F := Ideal) m ρ)),
    (θ_run _ _ _).mono (fun _ h c => ⟨((h c).1.trans (Cert.RglruRefIdeal.Read.val_main_v194_eq (StableHlo.launchContents m' c))).trans (res_congr (hag c)).1,
      ((h c).2.1.trans (Cert.RglruRefIdeal.Read.val_main_v196_eq (StableHlo.launchContents m' c))).trans (res_congr (hag c)).2.1,
      ((h c).2.2.1.trans (Cert.RglruRefIdeal.Read.val_main_v197_eq (StableHlo.launchContents m' c))).trans (res_congr (hag c)).2.2, (h c).2.2.2⟩)
      (Cert.RglruRefIdeal.Value.run m' ρ')⟩

end Cert.Proof.Rglru

end
-- ==== Proof.lean ====
module

public import proofs.«01_k».proof.Defs
public import proofs.«01_k».proof.Proof.Gen.InProj.Frame
public import proofs.«01_k».proof.Proof.Gen.InProjIdeal.Frame
public import proofs.«01_k».proof.Proof.Gen.OutStage.Frame
public import proofs.«01_k».proof.Proof.Gen.OutStageIdeal.Frame
public import proofs.«01_k».proof.Proof.InProjClaim
public import proofs.«01_k».proof.Proof.OutStageClaim
public import proofs.«01_k».proof.Proof.Gen.OutSample.Frame
public import proofs.«01_k».proof.Proof.Gen.OutSampleIdeal.Frame
public import proofs.«01_k».proof.Proof.OutSampleClaim
public import proofs.«01_k».proof.Proof.RglruSame
public import proofs.«01_k».proof.Proof.RglruClaim
public import Idealize.ShloMosaic.Adequacy
public import Idealize.ShloMosaic.Init

@[expose] public section

noncomputable section

namespace Cert.Proof

open Idealize.ShloMosaic Idealize.SL.Sem

theorem claim : Cert.Claim := ⟨Cert.InProj.Gen.facts, Cert.InProjIdeal.Gen.facts, Cert.InProjRefIdeal.Gen.facts,
  Cert.OutStage.Gen.facts, Cert.OutStageIdeal.Gen.facts, Cert.OutStageRefIdeal.Gen.facts,
  Cert.Rglru.Gen.facts, Cert.RglruIdeal.Gen.facts, Cert.RglruRefIdeal.Gen.facts,
  Cert.OutSample.Gen.facts, Cert.OutSampleIdeal.Gen.facts, Cert.OutSampleRefIdeal.Gen.facts,
  fun m ρ _ => Cert.InProj.Gen.frame m ρ, fun m ρ _ => Cert.InProjIdeal.Gen.frame m ρ, InProj.frame_ref,
  fun m ρ _ => Cert.OutStage.Gen.frame m ρ, fun m ρ _ => Cert.OutStageIdeal.Gen.frame m ρ, OutStage.frame_ref,
  Same.frame, fun m ρ _ => Cert.RglruIdeal.Hand.frame m ρ, Rglru.frame_ref,
  fun m ρ _ => Cert.OutSample.Gen.frame m ρ, fun m ρ _ => Cert.OutSampleIdeal.Gen.frame m ρ, OutSample.frame_ref,
  trivial, InProj.algebraic, trivial, OutStage.algebraic, trivial, Rglru.algebraic, trivial, OutSample.algebraic⟩

end Cert.Proof

end
